-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_rows_exist [hPre_rows_exist : Cert.Pre_rows_exist.Facts] (m : (ℓ : Loc Cert.MergeIdeal.nD Cert.MergeIdeal.τ Cert.MergeIdeal.sig) → Buf (Elt Ideal) ℓ) : Prop :=
  ∀ c : Dev Cert.MergeIdeal.nD,
    (Cert.Pre_rows_exist.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_rows_exist [hPre_rows_exist : Cert.Pre_rows_exist.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_rows_exist.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14)
      ∧ r.2.mem ((c.tc : Thread Cert.Mlp.nD Cert.Mlp.τ).loc Cert.Mlp.main_arg15) = m ((c.tc : Thread Cert.Mlp.nD Cert.Mlp.τ).loc Cert.Mlp.main_arg15))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeIdeal_pre_rows_exist [hMergeIdeal : Cert.MergeIdeal.Facts] [hPre_rows_exist : Cert.Pre_rows_exist.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_rows_exist m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_MergeRefIdeal_pre_rows_exist [hMergeRefIdeal : Cert.MergeRefIdeal.Facts] [hPre_rows_exist : Cert.Pre_rows_exist.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_rows_exist m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)
      ∧ m' ((c.tc : Thread Cert.MlpRefIdeal.nD Cert.MlpRefIdeal.τ).loc Cert.MlpRefIdeal.main_arg15) = m ((c.tc : Thread Cert.MlpIdeal.nD Cert.MlpIdeal.τ).loc Cert.MlpIdeal.main_arg15)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)) (v4 : (c : Dev Cert.MlpIdeal.nD) → Buf (Elt Ideal) ((c.tc : Thread Cert.MlpIdeal.nD Cert.MlpIdeal.τ).loc Cert.MlpIdeal.main_v0_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_v0_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
          ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_v0_2) = v2 c
          ∧ r.2.mem ((c.tc : Thread Cert.MlpRefIdeal.nD Cert.MlpRefIdeal.τ).loc Cert.MlpRefIdeal.main_v0_3) = v3 c
          ∧ r.2.mem ((c.tc : Thread Cert.MlpRefIdeal.nD Cert.MlpRefIdeal.τ).loc Cert.MlpRefIdeal.main_v0_4) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14)
          ∧ r.2.mem ((c.tc : Thread Cert.MlpRefIdeal.nD Cert.MlpRefIdeal.τ).loc Cert.MlpRefIdeal.main_arg15) = m' ((c.tc : Thread Cert.MlpRefIdeal.nD Cert.MlpRefIdeal.τ).loc Cert.MlpRefIdeal.main_arg15))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Merge_MergeIdeal : Prop :=
  True

def algebraic_MergeIdeal_MergeRefIdeal_pre_rows_exist [hMergeIdeal : Cert.MergeIdeal.Facts] [hMergeRefIdeal : Cert.MergeRefIdeal.Facts] [hPre_rows_exist : Cert.Pre_rows_exist.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_rows_exist m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v9) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def Claim : Prop :=
  ∃ (hMlp : Cert.Mlp.Facts) (hMlpIdeal : Cert.MlpIdeal.Facts) (hMlpRefIdeal : Cert.MlpRefIdeal.Facts) (hQkv : Cert.Qkv.Facts) (hQkvIdeal : Cert.QkvIdeal.Facts) (hQkvRefIdeal : Cert.QkvRefIdeal.Facts) (hMerge : Cert.Merge.Facts) (hMergeIdeal : Cert.MergeIdeal.Facts) (hMergeRefIdeal : Cert.MergeRefIdeal.Facts) (hPre_rows_exist : Cert.Pre_rows_exist.Facts),
    quiescent_Mlp (hMlp := hMlp)
    ∧ quiescent_MlpIdeal (hMlpIdeal := hMlpIdeal)
    ∧ quiescent_MlpRefIdeal (hMlpRefIdeal := hMlpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Merge (hMerge := hMerge)
    ∧ quiescent_MergeIdeal (hMergeIdeal := hMergeIdeal)
    ∧ quiescent_MergeIdeal_pre_rows_exist (hMergeIdeal := hMergeIdeal) (hPre_rows_exist := hPre_rows_exist)
    ∧ quiescent_MergeRefIdeal (hMergeRefIdeal := hMergeRefIdeal)
    ∧ quiescent_MergeRefIdeal_pre_rows_exist (hMergeRefIdeal := hMergeRefIdeal) (hPre_rows_exist := hPre_rows_exist)
    ∧ preserves_Mlp_MlpIdeal
    ∧ algebraic_MlpIdeal_MlpRefIdeal (hMlpIdeal := hMlpIdeal) (hMlpRefIdeal := hMlpRefIdeal)
    ∧ preserves_Qkv_QkvIdeal
    ∧ algebraic_QkvIdeal_QkvRefIdeal (hQkvIdeal := hQkvIdeal) (hQkvRefIdeal := hQkvRefIdeal)
    ∧ preserves_Merge_MergeIdeal
    ∧ algebraic_MergeIdeal_MergeRefIdeal_pre_rows_exist (hMergeIdeal := hMergeIdeal) (hMergeRefIdeal := hMergeRefIdeal) (hPre_rows_exist := hPre_rows_exist)
-- ==== Pre_rows_exist.lean ====
abbrev S1024x5120 : Shape := ⟨2, ![1024, 5120]⟩
abbrev S1x1024 : Shape := ⟨2, ![1, 1024]⟩
abbrev S4x256 : Shape := ⟨2, ![4, 256]⟩
abbrev S5120x3584 : Shape := ⟨2, ![5120, 3584]⟩
abbrev S1x3584 : Shape := ⟨2, ![1, 3584]⟩
abbrev S_ : Shape := ⟨0, ![]⟩

class Facts : Prop where
  bcast_S_S4x256 : S_.BroadcastsInDim S4x256 (![] : Fin 0 → Fin S4x256.rank)

variable [Facts]

def fn {F : FTy → Type} [FloatOps F] (main_arg0 : FVec F S1024x5120 .fp8e4m3) (main_arg1 : FVec F S1x1024 .f32) (main_arg2 : IVec S4x256 32) (main_arg3 : FVec F S5120x3584 .fp8e4m3) (main_arg4 : FVec F S1x3584 .f32) (main_arg5 : FVec F S1x3584 .f32) : IVec S4x256 1 :=
  let main_c : IVec S_ 32 := constantI S_ 32 0#32
  let main_v0 : IVec S4x256 32 := broadcastInDim S4x256 ![] bcast_S_S4x256 main_c
  let main_v1 : IVec S4x256 1 := cmpi .sge main_arg2 main_v0
  let main_c_0 : IVec S_ 32 := constantI S_ 32 1024#32
  let main_v2 : IVec S4x256 32 := broadcastInDim S4x256 ![] bcast_S_S4x256 main_c_0
  let main_v3 : IVec S4x256 1 := cmpi .slt main_arg2 main_v2
  let main_v4 : IVec S4x256 1 := andi main_v1 main_v3
  main_v4
-- ==== Mlp.lean ====
abbrev S4096x1280 : Shape := ⟨2, ![4096, 1280]⟩
abbrev S16x1x256 : Shape := ⟨3, ![16, 1, 256]⟩
abbrev S1280x1280 : Shape := ⟨2, ![1280, 1280]⟩
abbrev S1x1280 : Shape := ⟨2, ![1, 1280]⟩
abbrev S1280x3420 : Shape := ⟨2, ![1280, 3420]⟩
abbrev S1x3420 : Shape := ⟨2, ![1, 3420]⟩
abbrev S3420x1280 : Shape := ⟨2, ![3420, 1280]⟩
abbrev S4096x3420 : Shape := ⟨2, ![4096, 3420]⟩
abbrev S256x1280 : Shape := ⟨2, ![256, 1280]⟩
abbrev S1x1x256 : Shape := ⟨3, ![1, 1, 256]⟩
abbrev S1280x3456 : Shape := ⟨2, ![1280, 3456]⟩
abbrev S1x3456 : Shape := ⟨2, ![1, 3456]⟩
abbrev S3328x1280 : Shape := ⟨2, ![3328, 1280]⟩
abbrev S128x1280 : Shape := ⟨2, ![128, 1280]⟩
abbrev S256x3420 : Shape := ⟨2, ![256, 3420]⟩
abbrev S256x3456 : Shape := ⟨2, ![256, 3456]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S256 : Shape := ⟨1, ![256]⟩
abbrev S1280x256 : Shape := ⟨2, ![1280, 256]⟩
abbrev S256x256 : Shape := ⟨2, ![256, 256]⟩
abbrev S1280x128 : Shape := ⟨2, ![1280, 128]⟩
abbrev S1x128 : Shape := ⟨2, ![1, 128]⟩
abbrev S256x3328 : Shape := ⟨2, ![256, 3328]⟩

abbrev nBuf : Space → Nat
  | .hbm => 21
  | .vmem => 32
  | .smem => 0
  | _ => 0

abbrev bufTy : (tb : Table) → Fin (tcTables nBuf tb) → BufTy
  | .hbm, ⟨0, _⟩ => ⟨S4096x1280, .bf16⟩
  | .hbm, ⟨1, _⟩ => ⟨S4096x1280, .fp8e4m3⟩
  | .hbm, ⟨2, _⟩ => ⟨S16x1x256, .f32⟩
  | .hbm, ⟨3, _⟩ => ⟨S1280x1280, .fp8e4m3⟩
  | .hbm, ⟨4, _⟩ => ⟨S1x1280, .f32⟩
  | .hbm, ⟨5, _⟩ => ⟨S1x1280, .f32⟩
  | .hbm, ⟨6, _⟩ => ⟨S1x1280, .f32⟩
  | .hbm, ⟨7, _⟩ => ⟨S1280x3420, .fp8e4m3⟩
  | .hbm, ⟨8, _⟩ => ⟨S1x3420, .f32⟩
  | .hbm, ⟨9, _⟩ => ⟨S1x3420, .f32⟩
  | .hbm, ⟨10, _⟩ => ⟨S1280x3420, .fp8e4m3⟩
  | .hbm, ⟨11, _⟩ => ⟨S1x3420, .f32⟩
  | .hbm, ⟨12, _⟩ => ⟨S1x3420, .f32⟩
  | .hbm, ⟨13, _⟩ => ⟨S3420x1280, .fp8e4m3⟩
  | .hbm, ⟨14, _⟩ => ⟨S1x1280, .f32⟩
  | .hbm, ⟨15, _⟩ => ⟨S1x1280, .f32⟩
  | .hbm, ⟨16, _⟩ => ⟨S4096x1280, .bf16⟩
  | .hbm, ⟨17, _⟩ => ⟨S4096x1280, .fp8e4m3⟩
  | .hbm, ⟨18, _⟩ => ⟨S16x1x256, .f32⟩
  | .hbm, ⟨19, _⟩ => ⟨S4096x3420, .fp8e4m3⟩
  | .hbm, ⟨20, _⟩ => ⟨S16x1x256, .f32⟩
  | .local _ .vmem, ⟨0, _⟩ => ⟨S256x1280, .bf16⟩
  | .local _ .vmem, ⟨1, _⟩ => ⟨S256x1280, .bf16⟩
  | .local _ .vmem, ⟨2, _⟩ => ⟨S256x1280, .fp8e4m3⟩
  | .local _ .vmem, ⟨3, _⟩ => ⟨S256x1280, .fp8e4m3⟩
  | .local _ .vmem, ⟨4, _⟩ => ⟨S1x1x256, .f32⟩
  | .local _ .vmem, ⟨5, _⟩ => ⟨S1x1x256, .f32⟩
  | .local _ .vmem, ⟨6, _⟩ => ⟨S1280x1280, .fp8e4m3⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S1280x3456, .fp8e4m3⟩
  | .local _ .vmem, ⟨11, _⟩ => ⟨S1x3456, .f32⟩
  | .local _ .vmem, ⟨12, _⟩ => ⟨S1x3456, .f32⟩
  | .local _ .vmem, ⟨13, _⟩ => ⟨S1280x3456, .fp8e4m3⟩
  | .local _ .vmem, ⟨14, _⟩ => ⟨S1x3456, .f32⟩
  | .local _ .vmem, ⟨15, _⟩ => ⟨S1x3456, .f32⟩
  | .local _ .vmem, ⟨16, _⟩ => ⟨S3328x1280, .fp8e4m3⟩
  | .local _ .vmem, ⟨17, _⟩ => ⟨S128x1280, .fp8e4m3⟩
  | .local _ .vmem, ⟨18, _⟩ => ⟨S1x1280, .f32⟩
  | .local _ .vmem, ⟨19, _⟩ => ⟨S1x1280, .f32⟩
  | .local _ .vmem, ⟨20, _⟩ => ⟨S256x1280, .bf16⟩
  | .local _ .vmem, ⟨21, _⟩ => ⟨S256x1280, .bf16⟩
  | .local _ .vmem, ⟨22, _⟩ => ⟨S256x1280, .fp8e4m3⟩
  | .local _ .vmem, ⟨23, _⟩ => ⟨S256x1280, .fp8e4m3⟩
  | .local _ .vmem, ⟨24, _⟩ => ⟨S1x1x256, .f32⟩
  | .local _ .vmem, ⟨25, _⟩ => ⟨S1x1x256, .f32⟩
  | .local _ .vmem, ⟨26, _⟩ => ⟨S256x3420, .fp8e4m3⟩
  | .local _ .vmem, ⟨27, _⟩ => ⟨S256x3420, .fp8e4m3⟩
  | .local _ .vmem, ⟨28, _⟩ => ⟨S1x1x256, .f32⟩
  | .local _ .vmem, ⟨29, _⟩ => ⟨S1x1x256, .f32⟩
  | .local _ .vmem, ⟨30, _⟩ => ⟨S256x3456, .f32⟩
  | .local _ .vmem, ⟨31, _⟩ => ⟨S128x1280, .fp8e4m3⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c26_i32 : BitVec 32 := 26#32
  let c0_i32 : BitVec 32 := 0#32
  let c0_i32_0 : BitVec 32 := 0#32
  ![c26_i32.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x3456 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3456 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x3456 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3456 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3456 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3328x1280 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1280 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1280 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1280 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3420 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MlpRefIdeal.lean ====
abbrev S4096x1280 : Shape := ⟨2, ![4096, 1280]⟩
abbrev S16x1x256 : Shape := ⟨3, ![16, 1, 256]⟩
abbrev S1280x1280 : Shape := ⟨2, ![1280, 1280]⟩
abbrev S1x1280 : Shape := ⟨2, ![1, 1280]⟩
abbrev S1280x3420 : Shape := ⟨2, ![1280, 3420]⟩
abbrev S1x3420 : Shape := ⟨2, ![1, 3420]⟩
abbrev S3420x1280 : Shape := ⟨2, ![3420, 1280]⟩
abbrev S4096x3420 : Shape := ⟨2, ![4096, 3420]⟩
abbrev S4096x1 : Shape := ⟨2, ![4096, 1]⟩
abbrev S4096 : Shape := ⟨1, ![4096]⟩

abbrev nBuf : Space → Nat
  | .hbm => 21
  | .vmem => 21
  | .smem => 0
  | _ => 0

abbrev bufTy : (tb : Table) → Fin (tcTables nBuf tb) → BufTy
  | .hbm, ⟨0, _⟩ => ⟨S4096x1280, .bf16⟩
  | .hbm, ⟨1, _⟩ => ⟨S4096x1280, .fp8e4m3⟩
  | .hbm, ⟨2, _⟩ => ⟨S16x1x256, .f32⟩
  | .hbm, ⟨3, _⟩ => ⟨S1280x1280, .fp8e4m3⟩
  | .hbm, ⟨4, _⟩ => ⟨S1x1280, .f32⟩
  | .hbm, ⟨5, _⟩ => ⟨S1x1280, .f32⟩
  | .hbm, ⟨6, _⟩ => ⟨S1x1280, .f32⟩
  | .hbm, ⟨7, _⟩ => ⟨S1280x3420, .fp8e4m3⟩
  | .hbm, ⟨8, _⟩ => ⟨S1x3420, .f32⟩
  | .hbm, ⟨9, _⟩ => ⟨S1x3420, .f32⟩
  | .hbm, ⟨10, _⟩ => ⟨S1280x3420, .fp8e4m3⟩
  | .hbm, ⟨11, _⟩ => ⟨S1x3420, .f32⟩
  | .hbm, ⟨12, _⟩ => ⟨S1x3420, .f32⟩
  | .hbm, ⟨13, _⟩ => ⟨S3420x1280, .fp8e4m3⟩
  | .hbm, ⟨14, _⟩ => ⟨S1x1280, .f32⟩
  | .hbm, ⟨15, _⟩ => ⟨S1x1280, .f32⟩
  | .hbm, ⟨16, _⟩ => ⟨S4096x1280, .bf16⟩
  | .hbm, ⟨17, _⟩ => ⟨S4096x1280, .fp8e4m3⟩
  | .hbm, ⟨18, _⟩ => ⟨S16x1x256, .f32⟩
  | .hbm, ⟨19, _⟩ => ⟨S4096x3420, .fp8e4m3⟩
  | .hbm, ⟨20, _⟩ => ⟨S16x1x256, .f32⟩
  | .local _ .vmem, ⟨0, _⟩ => ⟨S4096x1280, .bf16⟩
  | .local _ .vmem, ⟨1, _⟩ => ⟨S4096x1280, .fp8e4m3⟩
  | .local _ .vmem, ⟨2, _⟩ => ⟨S16x1x256, .f32⟩
  | .local _ .vmem, ⟨3, _⟩ => ⟨S1280x1280, .fp8e4m3⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1280x3420, .fp8e4m3⟩
  | .local _ .vmem, ⟨8, _⟩ => ⟨S1x3420, .f32⟩
  | .local _ .vmem, ⟨9, _⟩ => ⟨S1x3420, .f32⟩
  | .local _ .vmem, ⟨10, _⟩ => ⟨S1280x3420, .fp8e4m3⟩
  | .local _ .vmem, ⟨11, _⟩ => ⟨S1x3420, .f32⟩
  | .local _ .vmem, ⟨12, _⟩ => ⟨S1x3420, .f32⟩
  | .local _ .vmem, ⟨13, _⟩ => ⟨S3420x1280, .fp8e4m3⟩
  | .local _ .vmem, ⟨14, _⟩ => ⟨S1x1280, .f32⟩
  | .local _ .vmem, ⟨15, _⟩ => ⟨S1x1280, .f32⟩
  | .local _ .vmem, ⟨16, _⟩ => ⟨S4096x1280, .bf16⟩
  | .local _ .vmem, ⟨17, _⟩ => ⟨S4096x1280, .fp8e4m3⟩
  | .local _ .vmem, ⟨18, _⟩ => ⟨S16x1x256, .f32⟩
  | .local _ .vmem, ⟨19, _⟩ => ⟨S4096x3420, .fp8e4m3⟩
  | .local _ .vmem, ⟨20, _⟩ => ⟨S16x1x256, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S4096x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x3420 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3420 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3420 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1280x3420 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3420 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3420 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3420x1280 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x1280 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x1280 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4096x3420 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Qkv.lean ====
abbrev S4096x1280 : Shape := ⟨2, ![4096, 1280]⟩
abbrev S4096x80 : Shape := ⟨2, ![4096, 80]⟩
abbrev S1x1280 : Shape := ⟨2, ![1, 1280]⟩
abbrev S1280x3840 : Shape := ⟨2, ![1280, 3840]⟩
abbrev S1x3840 : Shape := ⟨2, ![1, 3840]⟩
abbrev S16x1x256 : Shape := ⟨3, ![16, 1, 256]⟩
abbrev S1280x4096 : Shape := ⟨2, ![1280, 4096]⟩
abbrev S256x1280 : Shape := ⟨2, ![256, 1280]⟩
abbrev S256x80 : Shape := ⟨2, ![256, 80]⟩
abbrev S1x1x256 : Shape := ⟨3, ![1, 1, 256]⟩
abbrev S1280x256 : Shape := ⟨2, ![1280, 256]⟩
abbrev S3840x1280 : Shape := ⟨2, ![3840, 1280]⟩
abbrev S3840x128 : Shape := ⟨2, ![3840, 128]⟩
abbrev S1280x128 : Shape := ⟨2, ![1280, 128]⟩
abbrev S128x1280 : Shape := ⟨2, ![128, 1280]⟩
abbrev S1x128 : Shape := ⟨2, ![1, 128]⟩
abbrev S128x128 : Shape := ⟨2, ![128, 128]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S80x256 : Shape := ⟨2, ![80, 256]⟩
abbrev S40x256 : Shape := ⟨2, ![40, 256]⟩
abbrev S80x1280 : Shape := ⟨2, ![80, 1280]⟩
abbrev S80x128 : Shape := ⟨2, ![80, 128]⟩
abbrev S640x1280 : Shape := ⟨2, ![640, 1280]⟩
abbrev S640x256 : Shape := ⟨2, ![640, 256]⟩
abbrev S640x128 : Shape := ⟨2, ![640, 128]⟩
abbrev S256x640 : Shape := ⟨2, ![256, 640]⟩

abbrev nBuf : Space → Nat
  | .hbm => 12
  | .vmem => 23
  | .smem => 0
  | _ => 0

abbrev bufTy : (tb : Table) → Fin (tcTables nBuf tb) → BufTy
  | .hbm, ⟨0, _⟩ => ⟨S4096x1280, .bf16⟩
  | .hbm, ⟨1, _⟩ => ⟨S4096x80, .f32⟩
  | .hbm, ⟨2, _⟩ => ⟨S4096x80, .f32⟩
  | .hbm, ⟨3, _⟩ => ⟨S1x1280, .f32⟩
  | .hbm, ⟨4, _⟩ => ⟨S1280x3840, .fp8e4m3⟩
  | .hbm, ⟨5, _⟩ => ⟨S1x3840, .f32⟩
  | .hbm, ⟨6, _⟩ => ⟨S1x3840, .f32⟩
  | .hbm, ⟨7, _⟩ => ⟨S4096x1280, .fp8e4m3⟩
  | .hbm, ⟨8, _⟩ => ⟨S16x1x256, .f32⟩
  | .hbm, ⟨9, _⟩ => ⟨S1280x4096, .bf16⟩
  | .hbm, ⟨10, _⟩ => ⟨S4096x1280, .bf16⟩
  | .hbm, ⟨11, _⟩ => ⟨S1280x4096, .bf16⟩
  | .local _ .vmem, ⟨0, _⟩ => ⟨S256x1280, .bf16⟩
  | .local _ .vmem, ⟨1, _⟩ => ⟨S256x1280, .bf16⟩
  | .local _ .vmem, ⟨2, _⟩ => ⟨S256x80, .f32⟩
  | .local _ .vmem, ⟨3, _⟩ => ⟨S256x80, .f32⟩
  | .local _ .vmem, ⟨4, _⟩ => ⟨S256x80, .f32⟩
  | .local _ .vmem, ⟨5, _⟩ => ⟨S256x80, .f32⟩
  | .local _ .vmem, ⟨6, _⟩ => ⟨S1x1280, .f32⟩
  | .local _ .vmem, ⟨7, _⟩ => ⟨S1280x3840, .fp8e4m3⟩
  | .local _ .vmem, ⟨8, _⟩ => ⟨S1x3840, .f32⟩
  | .local _ .vmem, ⟨9, _⟩ => ⟨S1x3840, .f32⟩
  | .local _ .vmem, ⟨10, _⟩ => ⟨S256x1280, .fp8e4m3⟩
  | .local _ .vmem, ⟨11, _⟩ => ⟨S256x1280, .fp8e4m3⟩
  | .local _ .vmem, ⟨12, _⟩ => ⟨S1x1x256, .f32⟩
  | .local _ .vmem, ⟨13, _⟩ => ⟨S1x1x256, .f32⟩
  | .local _ .vmem, ⟨14, _⟩ => ⟨S1280x256, .bf16⟩
  | .local _ .vmem, ⟨15, _⟩ => ⟨S1280x256, .bf16⟩
  | .local _ .vmem, ⟨16, _⟩ => ⟨S256x1280, .bf16⟩
  | .local _ .vmem, ⟨17, _⟩ => ⟨S256x1280, .bf16⟩
  | .local _ .vmem, ⟨18, _⟩ => ⟨S1280x256, .bf16⟩
  | .local _ .vmem, ⟨19, _⟩ => ⟨S1280x256, .bf16⟩
  | .local _ .vmem, ⟨20, _⟩ => ⟨S3840x1280, .fp8e4m3⟩
  | .local _ .vmem, ⟨21, _⟩ => ⟨S3840x128, .f32⟩
  | .local _ .vmem, ⟨22, _⟩ => ⟨S3840x128, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x3840 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1280x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1280x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S4096x1280 : Shape := ⟨2, ![4096, 1280]⟩
abbrev S4096x80 : Shape := ⟨2, ![4096, 80]⟩
abbrev S1x1280 : Shape := ⟨2, ![1, 1280]⟩
abbrev S1280x3840 : Shape := ⟨2, ![1280, 3840]⟩
abbrev S1x3840 : Shape := ⟨2, ![1, 3840]⟩
abbrev S16x1x256 : Shape := ⟨3, ![16, 1, 256]⟩
abbrev S1280x4096 : Shape := ⟨2, ![1280, 4096]⟩
abbrev S4096 : Shape := ⟨1, ![4096]⟩
abbrev S4096x1 : Shape := ⟨2, ![4096, 1]⟩
abbrev S4096x3840 : Shape := ⟨2, ![4096, 3840]⟩
abbrev S4096x48x80 : Shape := ⟨3, ![4096, 48, 80]⟩
abbrev S4096x16x80 : Shape := ⟨3, ![4096, 16, 80]⟩
abbrev S4096x16x40 : Shape := ⟨3, ![4096, 16, 40]⟩
abbrev S4096x1x80 : Shape := ⟨3, ![4096, 1, 80]⟩

abbrev nBuf : Space → Nat
  | .hbm => 12
  | .vmem => 12
  | .smem => 0
  | _ => 0

abbrev bufTy : (tb : Table) → Fin (tcTables nBuf tb) → BufTy
  | .hbm, ⟨0, _⟩ => ⟨S4096x1280, .bf16⟩
  | .hbm, ⟨1, _⟩ => ⟨S4096x80, .f32⟩
  | .hbm, ⟨2, _⟩ => ⟨S4096x80, .f32⟩
  | .hbm, ⟨3, _⟩ => ⟨S1x1280, .f32⟩
  | .hbm, ⟨4, _⟩ => ⟨S1280x3840, .fp8e4m3⟩
  | .hbm, ⟨5, _⟩ => ⟨S1x3840, .f32⟩
  | .hbm, ⟨6, _⟩ => ⟨S1x3840, .f32⟩
  | .hbm, ⟨7, _⟩ => ⟨S4096x1280, .fp8e4m3⟩
  | .hbm, ⟨8, _⟩ => ⟨S16x1x256, .f32⟩
  | .hbm, ⟨9, _⟩ => ⟨S1280x4096, .bf16⟩
  | .hbm, ⟨10, _⟩ => ⟨S4096x1280, .bf16⟩
  | .hbm, ⟨11, _⟩ => ⟨S1280x4096, .bf16⟩
  | .local _ .vmem, ⟨0, _⟩ => ⟨S4096x1280, .bf16⟩
  | .local _ .vmem, ⟨1, _⟩ => ⟨S4096x80, .f32⟩
  | .local _ .vmem, ⟨2, _⟩ => ⟨S4096x80, .f32⟩
  | .local _ .vmem, ⟨3, _⟩ => ⟨S1x1280, .f32⟩
  | .local _ .vmem, ⟨4, _⟩ => ⟨S1280x3840, .fp8e4m3⟩
  | .local _ .vmem, ⟨5, _⟩ => ⟨S1x3840, .f32⟩
  | .local _ .vmem, ⟨6, _⟩ => ⟨S1x3840, .f32⟩
  | .local _ .vmem, ⟨7, _⟩ => ⟨S4096x1280, .fp8e4m3⟩
  | .local _ .vmem, ⟨8, _⟩ => ⟨S16x1x256, .f32⟩
  | .local _ .vmem, ⟨9, _⟩ => ⟨S1280x4096, .bf16⟩
  | .local _ .vmem, ⟨10, _⟩ => ⟨S4096x1280, .bf16⟩
  | .local _ .vmem, ⟨11, _⟩ => ⟨S1280x4096, .bf16⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4096x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x3840 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1280 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Merge.lean ====
abbrev S1024x5120 : Shape := ⟨2, ![1024, 5120]⟩
abbrev S1x1024 : Shape := ⟨2, ![1, 1024]⟩
abbrev S4x256 : Shape := ⟨2, ![4, 256]⟩
abbrev S5120x3584 : Shape := ⟨2, ![5120, 3584]⟩
abbrev S1x3584 : Shape := ⟨2, ![1, 3584]⟩
abbrev S1024x3584 : Shape := ⟨2, ![1024, 3584]⟩
abbrev S5120x512 : Shape := ⟨2, ![5120, 512]⟩
abbrev S1x512 : Shape := ⟨2, ![1, 512]⟩
abbrev S1024x512 : Shape := ⟨2, ![1024, 512]⟩
abbrev S1024x128 : Shape := ⟨2, ![1024, 128]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S256x1024 : Shape := ⟨2, ![256, 1024]⟩
abbrev S256 : Shape := ⟨1, ![256]⟩
abbrev S256x5120 : Shape := ⟨2, ![256, 5120]⟩
abbrev S256x512 : Shape := ⟨2, ![256, 512]⟩

abbrev nBuf : Space → Nat
  | .hbm => 7
  | .vmem => 13
  | .smem => 0
  | _ => 0

abbrev bufTy : (tb : Table) → Fin (tcTables nBuf tb) → BufTy
  | .hbm, ⟨0, _⟩ => ⟨S1024x5120, .fp8e4m3⟩
  | .hbm, ⟨1, _⟩ => ⟨S1x1024, .f32⟩
  | .hbm, ⟨2, _⟩ => ⟨S4x256, .i32⟩
  | .hbm, ⟨3, _⟩ => ⟨S5120x3584, .fp8e4m3⟩
  | .hbm, ⟨4, _⟩ => ⟨S1x3584, .f32⟩
  | .hbm, ⟨5, _⟩ => ⟨S1x3584, .f32⟩
  | .hbm, ⟨6, _⟩ => ⟨S1024x3584, .bf16⟩
  | .local _ .vmem, ⟨0, _⟩ => ⟨S1024x5120, .fp8e4m3⟩
  | .local _ .vmem, ⟨1, _⟩ => ⟨S1x1024, .f32⟩
  | .local _ .vmem, ⟨2, _⟩ => ⟨S4x256, .i32⟩
  | .local _ .vmem, ⟨3, _⟩ => ⟨S5120x512, .fp8e4m3⟩
  | .local _ .vmem, ⟨4, _⟩ => ⟨S5120x512, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S1024x5120, .fp8e4m3⟩
  | .local _ .vmem, ⟨12, _⟩ => ⟨S1024x128, .f32⟩
  | _, _ => ⟨S1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5120x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S1024x5120 : Shape := ⟨2, ![1024, 5120]⟩
abbrev S1x1024 : Shape := ⟨2, ![1, 1024]⟩
abbrev S4x256 : Shape := ⟨2, ![4, 256]⟩
abbrev S5120x3584 : Shape := ⟨2, ![5120, 3584]⟩
abbrev S1x3584 : Shape := ⟨2, ![1, 3584]⟩
abbrev S1024x3584 : Shape := ⟨2, ![1024, 3584]⟩
abbrev S1024x1 : Shape := ⟨2, ![1024, 1]⟩
abbrev S1024 : Shape := ⟨1, ![1024]⟩
abbrev S_ : Shape := ⟨0, ![]⟩

abbrev nBuf : Space → Nat
  | .hbm => 18
  | .vmem => 6
  | .smem => 0
  | _ => 0

abbrev bufTy : (tb : Table) → Fin (tcTables nBuf tb) → BufTy
  | .hbm, ⟨0, _⟩ => ⟨S1024x5120, .fp8e4m3⟩
  | .hbm, ⟨1, _⟩ => ⟨S1x1024, .f32⟩
  | .hbm, ⟨2, _⟩ => ⟨S4x256, .i32⟩
  | .hbm, ⟨3, _⟩ => ⟨S5120x3584, .fp8e4m3⟩
  | .hbm, ⟨4, _⟩ => ⟨S1x3584, .f32⟩
  | .hbm, ⟨5, _⟩ => ⟨S1x3584, .f32⟩
  | .hbm, ⟨6, _⟩ => ⟨S1024x3584, .f32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x3584, .f32⟩
  | .hbm, ⟨17, _⟩ => ⟨S1024x3584, .bf16⟩
  | .local _ .vmem, ⟨0, _⟩ => ⟨S1024x5120, .fp8e4m3⟩
  | .local _ .vmem, ⟨1, _⟩ => ⟨S1x1024, .f32⟩
  | .local _ .vmem, ⟨2, _⟩ => ⟨S5120x3584, .fp8e4m3⟩
  | .local _ .vmem, ⟨3, _⟩ => ⟨S1x3584, .f32⟩
  | .local _ .vmem, ⟨4, _⟩ => ⟨S1x3584, .f32⟩
  | .local _ .vmem, ⟨5, _⟩ => ⟨S1024x3584, .f32⟩
  | _, _ => ⟨S1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.MlpFrame.lean ====
/- The frame of the fused MLP program at the machine's own arithmetic: it runs, leaves its arguments as they were and
   every counter at zero.  Nothing is said here of the contents of any staging buffer: the weights whose last block
   hangs over the edge of its array bring words nobody names, so every window is handed over and taken back at some
   contents. -/
module

public import proofs.«01_k».proof.Proof.Gen.Mlp.Frame
public import proofs.«01_k».proof.Proof.Gen.Mlp.Skeleton
public import Idealize.ShloMosaic.Lib.Claim

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's staging memref at a point, and the two scratch buffers -/

abbrev ms0_0 (t : Fin cfg0.N) : Memref sig .tc .vmem S256x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x3456 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3456 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3456 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1280x3456 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3456 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3456 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3328x1280 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1280 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1280 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1280 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x1280 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1280 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x3420 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x256 .f32 := win0_21.stage (cfg0.slots t 21)
abbrev hs0_21 (t : Fin cfg0.N) : (ms0_21 t).IsWhole := hstage0_21 ((cfg0.slots t 21).cast nbuf0_21)

abbrev scM0_0 : Memref sig .tc .vmem S256x3456 .f32 := Memref.whole cc0_scratch0
abbrev scM0_1 : Memref sig .tc .vmem S128x1280 .fp8e4m3 := Memref.whole cc0_scratch1

/-- The invariant, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The condition of the body's one conditional: the first grid point. -/
abbrev cond0_0 (i : grid0.Coords) : Prop := (Scalar.cmpi .ne (Scalar.extui (Scalar.cmpi .eq (BitVec.ofNat 32 (i 0).val) 0#32)) 0#32) = 1#1

/-! ## The body, run on any staging memrefs -/

set_option maxHeartbeats 2000000 in
/-- On whole memrefs at any contents the body runs and hands every one of them back at some contents. -/
theorem kernelRun (c : Dev nD) (i : grid0.Coords) (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) :
      ∀ (E : Set ℕ) (K : PUnit → sProp 𝕄),
        iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  intro E K
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%dH0, %fH0, -, H0⟩, ⟨%dH1, %fH1, -, H1⟩, ⟨%dH2, %fH2, -, H2⟩, ⟨%dH3, %fH3, -, H3⟩, ⟨%dH4, %fH4, -, H4⟩, ⟨%dH5, %fH5, -, H5⟩, ⟨%dH6, %fH6, -, H6⟩, ⟨%dH7, %fH7, -, H7⟩, ⟨%dH8, %fH8, -, H8⟩, ⟨%dH9, %fH9, -, H9⟩, ⟨%dH10, %fH10, -, H10⟩, ⟨%dH11, %fH11, -, H11⟩, ⟨%dH12, %fH12, -, H12⟩, ⟨%dH13, %fH13, -, H13⟩, ⟨%dH14, %fH14, -, H14⟩, ⟨%dH15, %fH15, -, H15⟩, ⟨%dH16, %fH16, -, H16⟩, ⟨%dH17, %fH17, -, H17⟩, ⟨%dH18, %fH18, -, H18⟩, ⟨%dH19, %fH19, -, H19⟩, ⟨%dH20, %fH20, -, H20⟩, ⟨%dH21, %fH21, -, H21⟩, ⟨%dHS0, %fHS0, -, HS0⟩, ⟨%dHS1, %fHS1, -, HS1⟩, Hk⟩
  by_cases hc0 : cond0_0 i
  · sl_exec (disch := first | sl_exact hc0)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    iexists _, _; isplitr; swap; · iexact HS1
    ipureintro; rfl
  · sl_exec (disch := first | sl_exact hc0)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    iexists _, _; isplitr; swap; · iexact HS1
    ipureintro; rfl

/-! ## The pipeline's proof data -/

/-- Every window is forgotten. -/
def forgets0 : Fin 22 → Bool := fun _ => true

/-- The arrays as the region finds them; nothing named of any buffer; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body is called with and what it leaves: every window's memref at some contents. -/
def bodyInv (c : Dev nD) (t : Fin cfg0.N) : sProp 𝕄 :=
  iprop(Pipeline.ΦA spec0 c ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 4800000 in
theorem sound_body (c : Dev nD) (t : Fin cfg0.N) :
    bodyInv m c t ⊢ wp frame (wpE (defs₀ (F := F)) Variants.none c none) Set.univ (bodyAt0 t) (fun _ => bodyInv m c t) := by
  unfold bodyInv bodyAt0
  rw [PhiA0_eq]
  iintro ⟨⟨⟨HS0, HS1⟩, Hg⟩, Ho, H0, H1, H2, H3, H4, H5, H6, H7, H8, H9, H10, H11, H12, H13, H14, H15, H16, H17, H18, H19, H20, H21⟩
  iapply ((kernelRun c (grid0.coords t) _ _ _ _ _ _ _ _ _ _ _ _ _ _ _ _ _ _ _ _ _ _ _ _ _ _ _ _ _ _ _ _ _ _ _ _ _ _ _ _ _ _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  iintro ⟨H0, H1, H2, H3, H4, H5, H6, H7, H8, H9, H10, H11, H12, H13, H14, H15, H16, H17, H18, H19, H20, H21, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 1320000 in
/-- The frame from any run that keeps the input arrays. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 14 rfl).trans ((hA c 14).trans (V_main_arg13 m c)),
      (Pipeline.RDat.FramePost.arr_in h c 15 rfl).trans ((hA c 15).trans (V_main_arg14 m c)),
      (Pipeline.RDat.FramePost.arr_in h c 16 rfl).trans ((hA c 16).trans (V_main_arg15 m c))⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (fun c => (dats m 0 c).toRForget forgets0) (A_eq m) ((θ_run defs _ _).mono (fun _ h => h.1) (run_main_quiescent m ρ))

/-- The frame of the program: its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Mlp.Hand

end
-- ==== Proof.MlpRuns.lean ====
/- Names shared by the two runs of the fused MLP body: its staging memrefs at a point, its scratch buffers, its one
   condition. -/
module

public import proofs.«01_k».proof.Proof.Gen.MlpIdeal.Frame
public import proofs.«01_k».proof.Proof.Gen.MlpIdeal.Skeleton

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's staging memref at a point, and the two scratch buffers -/

abbrev ms0_0 (t : Fin cfg0.N) : Memref sig .tc .vmem S256x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x3456 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3456 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3456 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1280x3456 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3456 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3456 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3328x1280 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1280 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1280 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1280 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x1280 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1280 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x3420 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x256 .f32 := win0_21.stage (cfg0.slots t 21)
abbrev hs0_21 (t : Fin cfg0.N) : (ms0_21 t).IsWhole := hstage0_21 ((cfg0.slots t 21).cast nbuf0_21)

abbrev scM0_0 : Memref sig .tc .vmem S256x3456 .f32 := Memref.whole cc0_scratch0
abbrev scM0_1 : Memref sig .tc .vmem S128x1280 .fp8e4m3 := Memref.whole cc0_scratch1

/-- The invariant, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The condition of the body's one conditional: the first grid point. -/
abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

end Cert.MlpIdeal.Hand

end
-- ==== Proof.MlpRunA.lean ====
/- The fused MLP body run at the first grid point, where it also masks and keeps the last rows of the down weights. -/
module

public import proofs.«01_k».proof.Proof.MlpRuns

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (hc0 : cond0_0 i)
    (x0 : Vec F S256x1280 .bf16) (x1 : Vec F S256x1280 .fp8e4m3) (x2 : Vec F S1x1x256 .f32) (x3 : Vec F S1280x1280 .fp8e4m3) (x4 : Vec F S1x1280 .f32) (x5 : Vec F S1x1280 .f32) (x6 : Vec F S1x1280 .f32) (x7 : Vec F S1280x3456 .fp8e4m3) (x8 : Vec F S1x3456 .f32) (x9 : Vec F S1x3456 .f32) (x10 : Vec F S1280x3456 .fp8e4m3) (x11 : Vec F S1x3456 .f32) (x12 : Vec F S1x3456 .f32) (x13 : Vec F S3328x1280 .fp8e4m3) (x14 : Vec F S128x1280 .fp8e4m3) (x15 : Vec F S1x1280 .f32) (x16 : Vec F S1x1280 .f32) :
    Σ' (L17 : List (View.Piece (Elt F) S256x1280 .bf16)), Σ' (L18 : List (View.Piece (Elt F) S256x1280 .fp8e4m3)), Σ' (L19 : List (View.Piece (Elt F) S1x1x256 .f32)), Σ' (L20 : List (View.Piece (Elt F) S256x3420 .fp8e4m3)), Σ' (L21 : List (View.Piece (Elt F) S1x1x256 .f32)), Σ' (LS1 : List (View.Piece (Elt F) S128x1280 .fp8e4m3)), { LT0 : List (View.Piece (Elt F) S256x3456 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0) ∗ (∃ f, arg24.view.loc (c : Thread nD τ) ↦[arg24.view.set]{fullShare} arg24.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    iexists _; iexact HS1

end Cert.MlpIdeal.Hand

end
-- ==== Proof.MlpRunB.lean ====
/- The fused MLP body run at every later grid point. -/
module

public import proofs.«01_k».proof.Proof.MlpRunA

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (hc0 : ¬cond0_0 i)
    (x0 : Vec F S256x1280 .bf16) (x1 : Vec F S256x1280 .fp8e4m3) (x2 : Vec F S1x1x256 .f32) (x3 : Vec F S1280x1280 .fp8e4m3) (x4 : Vec F S1x1280 .f32) (x5 : Vec F S1x1280 .f32) (x6 : Vec F S1x1280 .f32) (x7 : Vec F S1280x3456 .fp8e4m3) (x8 : Vec F S1x3456 .f32) (x9 : Vec F S1x3456 .f32) (x10 : Vec F S1280x3456 .fp8e4m3) (x11 : Vec F S1x3456 .f32) (x12 : Vec F S1x3456 .f32) (x13 : Vec F S3328x1280 .fp8e4m3) (x14 : Vec F S128x1280 .fp8e4m3) (x15 : Vec F S1x1280 .f32) (x16 : Vec F S1x1280 .f32) (xs1 : Vec F S128x1280 .fp8e4m3) :
    Σ' (L17 : List (View.Piece (Elt F) S256x1280 .bf16)), Σ' (L18 : List (View.Piece (Elt F) S256x1280 .fp8e4m3)), Σ' (L19 : List (View.Piece (Elt F) S1x1x256 .f32)), Σ' (L20 : List (View.Piece (Elt F) S256x3420 .fp8e4m3)), Σ' (L21 : List (View.Piece (Elt F) S1x1x256 .f32)), Σ' (LS1 : List (View.Piece (Elt F) S128x1280 .fp8e4m3)), { LT0 : List (View.Piece (Elt F) S256x3456 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0) ∗ owns (c : Thread nD τ) arg24 fullShare xs1) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, [], ?_, fun E K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg24.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    iexists _; isplitr; · ipureintro; exact harg24.read_unread _
    iexact HS1

end Cert.MlpIdeal.Hand

end
-- ==== Proof.MlpRow.lean ====
/- The MLP of one row over the extended reals: what each result of the fused call is, written out. -/
module

public import Idealize.ShloMosaic.Lib.IdealHost
public import Idealize.ShloMosaic.PureOps.Ideal

@[expose] public section

noncomputable section

namespace Cert.MlpRow

open Idealize.ShloMosaic

/-- The largest magnitude of a row. -/
def topAbs {n : ℕ} (v : Fin n → EReal) : EReal :=
  Finset.fold max (Ideal.ofBits .f32 4286578688#32) (fun x => FloatOps.absf (F := Ideal) (φ := .f32) (v x)) Finset.univ

/-- The scale of a row whose largest magnitude is `a`: `a / 448`, and 1 for a row of zeros. -/
def scaleOf (a : EReal) : EReal :=
  if a = 0 then 1 else Ideal.div a (Ideal.ofBits .f32 1138753536#32)

/-- The code of `v` at scale `s`: the quotient clipped to ±448. -/
def quant (s v : EReal) : EReal :=
  min (Ideal.ofBits .f32 1138753536#32) (max (Ideal.ofBits .f32 3286237184#32) (Ideal.div v s))

/-- A product of a row of codes with a column of weights, scaled back, plus bias. -/
def lin {n : ℕ} (c : Fin n → EReal) (s : EReal) (w : Fin n → EReal) (sw b : EReal) : EReal :=
  (∑ x, c x * w x) * s * sw + b

/-- The root mean square of a row of 1280 with its ε. -/
def rms (v : Fin 1280 → EReal) : EReal :=
  Ideal.sqrt (Ideal.div (∑ x, v x * v x) (Ideal.ofBits .f32 1151336448#32) + Ideal.ofBits .f32 897988541#32)

/-- Silu of the gate times the up projection. -/
def glu (gate up : EReal) : EReal := gate * Ideal.logistic gate * up

/-- The weights of the block, as entries. -/
structure Weights where
  wo : Fin 1280 → Fin 1280 → EReal
  so : Fin 1280 → EReal
  bo : Fin 1280 → EReal
  g : Fin 1280 → EReal
  wg : Fin 1280 → Fin 3420 → EReal
  sg : Fin 3420 → EReal
  bg : Fin 3420 → EReal
  wu : Fin 1280 → Fin 3420 → EReal
  su : Fin 3420 → EReal
  bu : Fin 3420 → EReal
  wd : Fin 3420 → Fin 1280 → EReal
  sd : Fin 1280 → EReal
  bd : Fin 1280 → EReal

/-- One row of the call's row operands: the residual, the attention's codes and their scale. -/
structure Row where
  h : Fin 1280 → EReal
  oc : Fin 1280 → EReal
  os : EReal

variable (W : Weights) (X : Row)

/-- The residual after the output projection. -/
def h1 (j : Fin 1280) : EReal := X.h j + lin X.oc X.os (fun x => W.wo x j) (W.so j) (W.bo j)

/-- The normalised row. -/
def normed (j : Fin 1280) : EReal := Ideal.div (h1 W X j) (rms (h1 W X)) * W.g j

/-- The scale of the normalised row. -/
def guScale : EReal := scaleOf (topAbs (normed W X))

/-- The codes of the normalised row. -/
def guCodes (j : Fin 1280) : EReal := quant (guScale W X) (normed W X j)

/-- The gated activation. -/
def act (j : Fin 3420) : EReal :=
  glu (lin (guCodes W X) (guScale W X) (fun x => W.wg x j) (W.sg j) (W.bg j))
    (lin (guCodes W X) (guScale W X) (fun x => W.wu x j) (W.su j) (W.bu j))

/-- The scale of the activation. -/
def downScale : EReal := scaleOf (topAbs (act W X))

/-- The codes of the activation. -/
def downCodes (j : Fin 3420) : EReal := quant (downScale W X) (act W X j)

/-- The row of the block's result. -/
def out (j : Fin 1280) : EReal :=
  h1 W X j + lin (downCodes W X) (downScale W X) (fun x => W.wd x j) (W.sd j) (W.bd j)

/-! ## Algebra: the kernel's forms -/

/-- A magnitude. -/
def mag (v : EReal) : EReal := FloatOps.absf (F := Ideal) (φ := .f32) v

theorem mag_eq (v : EReal) : mag v = max v (-v) := rfl

theorem mag_nonneg (v : EReal) : 0 ≤ mag v := by
  rw [mag_eq]
  rcases le_total 0 v with h | h
  · exact le_max_of_le_left h
  · exact le_max_of_le_right (EReal.neg_nonneg.2 h)

theorem mag_zero : mag 0 = 0 := by rw [mag_eq]; simp

theorem lowest : Ideal.ofBits .f32 4286578688#32 = ⊥ := by simp [Ideal.ofBits, Ideal.ieee]

theorem c448 : Ideal.ofBits .f32 1138753536#32 = ((448 : ℝ) : EReal) := by
  simp [Ideal.ofBits, Ideal.ieee, -EReal.coe_mul]; norm_num

theorem c1280 : Ideal.ofBits .f32 1151336448#32 = ((1280 : ℝ) : EReal) := by
  simp [Ideal.ofBits, Ideal.ieee, -EReal.coe_mul]; norm_num

theorem eps_pos : 0 < Ideal.ofBits .f32 897988541#32 := by
  simp [Ideal.ofBits, Ideal.ieee, -EReal.coe_mul]

theorem topAbs_le {n : ℕ} (v : Fin n → EReal) (z : EReal) : topAbs v ≤ z ↔ ∀ x, mag (v x) ≤ z := by
  unfold topAbs
  rw [Finset.fold_max_le, lowest]
  simp [mag]

theorem scaleOf_ne_zero (a : EReal) : scaleOf a ≠ 0 := by
  unfold scaleOf
  split
  · exact one_ne_zero
  · next h =>
    rw [c448, Ideal.div, if_neg (by norm_num)]
    refine mul_ne_zero h ?_
    rw [← EReal.coe_inv]
    norm_num

theorem mul_self_nonneg' (v : EReal) : 0 ≤ v * v := by
  rcases le_total 0 v with h | h
  · exact mul_nonneg h h
  · rw [← neg_mul_neg]; exact mul_nonneg (EReal.neg_nonneg.2 h) (EReal.neg_nonneg.2 h)

theorem sqrt_ne_zero {x : EReal} (h : 0 < x) : Ideal.sqrt x ≠ 0 := by
  induction x using EReal.rec with
  | bot => simp at h
  | top => exact EReal.top_ne_zero
  | coe r =>
    have hr : 0 < r := by exact_mod_cast h
    show (if r < 0 then ⊥ else (Real.sqrt r : EReal)) ≠ 0
    rw [if_neg (not_lt.2 hr.le)]
    exact_mod_cast (Real.sqrt_pos.2 hr).ne'

theorem rms_ne_zero (v : Fin 1280 → EReal) : rms v ≠ 0 := by
  unfold rms
  refine sqrt_ne_zero (eps_pos.trans_le (le_add_of_nonneg_left ?_))
  rw [c1280, Ideal.div, if_neg (by norm_num)]
  refine mul_nonneg (Finset.sum_nonneg fun x _ => mul_self_nonneg' _) ?_
  rw [← EReal.coe_inv]
  norm_num

/-- The quantiser with the scale's reciprocal as a factor. -/
theorem quant_recip {s : EReal} (hs : s ≠ 0) (v : EReal) :
    min (Ideal.ofBits .f32 1138753536#32) (max (Ideal.ofBits .f32 3286237184#32) (v * Ideal.div 1 s)) = quant s v := by
  rw [Ideal.mul_one_div hs]; rfl

/-- The activation past its last column: zero. -/
def actN (n : ℕ) : EReal := if h : n < 3420 then act W X ⟨n, h⟩ else 0

theorem actN_of_lt {n : ℕ} (h : n < 3420) : actN W X n = act W X ⟨n, h⟩ := dif_pos h

theorem actN_of_le {n : ℕ} (h : 3420 ≤ n) : actN W X n = 0 := dif_neg (not_lt.2 h)

/-- `A` is the largest magnitude, and at least zero, of lane `l` of the first `n` tiles of 128 columns. -/
def Upto (A : EReal) (n l : ℕ) : Prop :=
  ∀ z, A ≤ z ↔ 0 ≤ z ∧ ∀ i < n, mag (actN W X (128 * i + l)) ≤ z

variable {W X}

theorem Upto.zero (l : ℕ) : Upto W X 0 0 l := fun z => by simp

theorem Upto.step {A : EReal} {n l : ℕ} (h : Upto W X A n l) {v : EReal} (hv : v = actN W X (128 * n + l)) :
    Upto W X (max A (mag v)) (n + 1) l := fun z => by
  subst hv
  rw [max_le_iff, h z, and_assoc]
  refine and_congr_right fun _ => ⟨fun ⟨h1, h2⟩ i hi => ?_, fun h1 => ⟨fun i hi => h1 i (by omega), h1 n (by omega)⟩⟩
  rcases Nat.lt_succ_iff_lt_or_eq.1 hi with hi | rfl
  · exact h1 i hi
  · exact h2

theorem topAbs_of_upto {M : Fin 128 → EReal} (h : ∀ l, Upto W X (M l) 27 l.val) :
    Finset.fold max (Ideal.ofBits .f32 4286578688#32) M Finset.univ = topAbs (act W X) := by
  refine eq_of_forall_ge_iff fun z => ?_
  rw [Finset.fold_max_le, lowest, topAbs_le]
  constructor
  · rintro ⟨-, h1⟩ ⟨n, hn⟩
    have := ((h ⟨n % 128, Nat.mod_lt _ (by norm_num)⟩ z).1 (h1 _ (Finset.mem_univ _))).2 (n / 128) (by omega)
    rw [show 128 * (n / 128) + (⟨n % 128, Nat.mod_lt _ (by norm_num)⟩ : Fin 128).val = n from Nat.div_add_mod n 128,
      actN_of_lt W X hn] at this
    exact this
  · intro h1
    refine ⟨bot_le, fun l _ => (h l z).2 ⟨(mag_nonneg _).trans (h1 ⟨0, by norm_num⟩), fun i _ => ?_⟩⟩
    by_cases hl : 128 * i + l.val < 3420
    · rw [actN_of_lt W X hl]; exact h1 _
    · rw [actN_of_le W X (not_lt.1 hl), mag_zero]
      exact (mag_nonneg _).trans (h1 ⟨0, by norm_num⟩)

/-- The down product in two parts, the second over rows that are zero past the last. -/
theorem down_split (c : ℕ → EReal) (w : Fin 3420 → EReal) (c1 w1 : Fin 3328 → EReal) (c2 w2 : Fin 128 → EReal)
    (hc1 : ∀ x, c1 x = c x.val) (hw1 : ∀ x, w1 x = w ⟨x.val, by omega⟩)
    (hc2 : ∀ x, c2 x = c (3328 + x.val)) (hw2 : ∀ x : Fin 128, w2 x = if h : 3328 + x.val < 3420 then w ⟨3328 + x.val, h⟩ else 0) :
    ∑ x, c1 x * w1 x + ∑ x, c2 x * w2 x = ∑ x : Fin 3420, c x.val * w x := by
  set f : ℕ → EReal := fun n => if h : n < 3420 then c n * w ⟨n, h⟩ else 0 with hf
  have e1 : ∑ x, c1 x * w1 x = ∑ n ∈ Finset.range 3328, f n := by
    rw [← Fin.sum_univ_eq_sum_range f 3328]
    exact Finset.sum_congr rfl fun x _ => by
      simp only [hf]; rw [dif_pos (by omega), hc1, hw1]
  have e2 : ∑ x, c2 x * w2 x = ∑ n ∈ Finset.range 128, f (3328 + n) := by
    rw [← Fin.sum_univ_eq_sum_range (fun n => f (3328 + n)) 128]
    exact Finset.sum_congr rfl fun x _ => by
      simp only [hf]; rw [hc2, hw2]
      split
      · rfl
      · rw [mul_zero]
  have e3 : ∑ x : Fin 3420, c x.val * w x = ∑ n ∈ Finset.range 3420, f n := by
    rw [← Fin.sum_univ_eq_sum_range f 3420]
    exact Finset.sum_congr rfl fun x _ => by
      simp only [hf]; rw [dif_pos x.isLt]
  rw [e1, e2, e3, ← Finset.sum_range_add]
  rw [show 3328 + 128 = 3420 + 36 from rfl, Finset.sum_range_add f 3420 36]
  rw [Finset.sum_eq_zero (s := Finset.range 36) (fun n _ => by simp only [hf]; rw [dif_neg (by omega)]), add_zero]

end Cert.MlpRow

end
-- ==== Proof.MlpBlock.lean ====
/- One grid point of the fused MLP over the extended reals: the block each store writes, as a function of the values
   the body loads, and each of its rows as the row's result (`MlpRow`). -/
module

public import proofs.«01_k».proof.Proof.MlpRow
public import proofs.«01_k».proof.Proof.Gen.MlpIdeal.Skeleton
public import Idealize.ShloMosaic.Lib.Pointwise
public import Idealize.ShloMosaic.Lib.Pipeline.FrameBody

@[expose] public section

set_option maxRecDepth 16384

noncomputable section

namespace Cert.MlpIdeal.Hand

open Idealize.ShloMosaic Idealize.ShloMosaic.TcCoe
open Cert.MlpIdeal.Gen Cert.MlpRow

/-- What the body loads at one point: the rows' operands, the resident weights, and the gate and up weights in
    13 chunks of 256 columns and a last one of 128. -/
structure Loads where
  os : Vec Ideal S1x1x256 .f32
  h : Vec Ideal S256x1280 .bf16
  oc : Vec Ideal S256x1280 .fp8e4m3
  wo : Vec Ideal S1280x1280 .fp8e4m3
  so : Vec Ideal S1x1280 .f32
  bo : Vec Ideal S1x1280 .f32
  g : Vec Ideal S1x1280 .f32
  wg : Fin 13 → Vec Ideal S1280x256 .fp8e4m3
  sg : Fin 13 → Vec Ideal S1x256 .f32
  bg : Fin 13 → Vec Ideal S1x256 .f32
  wu : Fin 13 → Vec Ideal S1280x256 .fp8e4m3
  su : Fin 13 → Vec Ideal S1x256 .f32
  bu : Fin 13 → Vec Ideal S1x256 .f32
  wgT : Vec Ideal S1280x128 .fp8e4m3
  sgT : Vec Ideal S1x128 .f32
  bgT : Vec Ideal S1x128 .f32
  wuT : Vec Ideal S1280x128 .fp8e4m3
  suT : Vec Ideal S1x128 .f32
  buT : Vec Ideal S1x128 .f32
  wd : Vec Ideal S3328x1280 .fp8e4m3
  tl : Vec Ideal S128x1280 .fp8e4m3
  sd : Vec Ideal S1x1280 .f32
  bd : Vec Ideal S1x1280 .f32

namespace Loads

variable (T : Loads)

/-- The residual block. -/
def H : FVec Ideal S256x1280 .f32 := k0_pay3 T.os T.h T.oc T.wo T.so T.bo
/-- The rows' reciprocal root mean squares. -/
def N : FVec Ideal S256x1 .f32 := k0_pay4 T.os T.h T.oc T.wo T.so T.bo
/-- The scales of the normalised rows. -/
def S : FVec Ideal S256x1 .f32 := k0_pay6 T.H T.g T.N
/-- The codes of the normalised rows. -/
def C : FVec Ideal S256x1280 .fp8e4m3 := k0_pay7 T.H T.g T.N

/-- The zero the first chunk's gate and up products accumulate on, as a block. -/
def Z : FVec Ideal S256x256 .f32 := constant S256x256 .f32 0#32
/-- The column numbers of the last chunk. -/
def I : IVec S256x128 32 := iota Kind.tc S256x128 32 [1] iota_S256x128_d1_w32

/-! The running largest magnitudes, by lane, after each chunk. -/
def m0 : FVec Ideal S256x128 .f32 := k0_pay13 T.S T.C k0_pay9 (k0_pay10 T.H T.g T.N (T.wg 0) (T.sg 0)) (T.bg 0) (T.wu 0) (T.su 0) (T.bu 0)
def m1 : FVec Ideal S256x128 .f32 := k0_pay18 T.m0 (k0_pay14 T.S T.C (T.wg 1) (T.sg 1) (T.bg 1)) (k0_pay15 T.S T.C (T.wu 1)) (T.su 1) (T.bu 1)
def a2 : FVec Ideal S256x256 .f32 := k0_pay19 T.S T.C (T.wg 2) (T.sg 2) (T.bg 2) (T.wu 2) (T.su 2) (T.bu 2)
def m3 : FVec Ideal S256x128 .f32 := k0_pay23 T.S T.C T.m1 T.a2 (T.wg 3) (T.sg 3) (T.bg 3) (T.wu 3) (T.su 3) (T.bu 3)
def b3 : FVec Ideal S256x128 .f32 := k0_pay24 T.S T.C (T.wg 3) (T.sg 3) (T.bg 3) (T.wu 3) (T.su 3) (T.bu 3)
def m4 : FVec Ideal S256x128 .f32 := k0_pay27 T.S T.C T.m3 T.b3 (T.wg 4) (T.sg 4) (T.bg 4) (T.wu 4) (T.su 4) (T.bu 4)
def m5 : FVec Ideal S256x128 .f32 := k0_pay31 T.S T.C T.m4 (k0_pay28 T.S T.C (T.wg 5)) (T.sg 5) (T.bg 5) (T.wu 5) (T.su 5) (T.bu 5)
def m6 : FVec Ideal S256x128 .f32 := k0_pay35 T.S T.C T.m5 (k0_pay32 T.S T.C (T.wg 6) (T.sg 6) (T.bg 6)) (T.wu 6) Z (T.su 6) (T.bu 6)
def m7 : FVec Ideal S256x128 .f32 := k0_pay40 T.m6 (k0_pay36 T.S T.C (T.wg 7) (T.sg 7) (T.bg 7)) (k0_pay37 T.S T.C (T.wu 7) (T.su 7)) (T.bu 7)
def a8 : FVec Ideal S256x256 .f32 := k0_pay41 T.S T.C (T.wg 8) (T.sg 8) (T.bg 8) (T.wu 8) (T.su 8) (T.bu 8)
def m9 : FVec Ideal S256x128 .f32 := k0_pay45 T.S T.C T.m7 T.a8 (T.wg 9) (T.sg 9) (T.bg 9) (T.wu 9) (T.su 9) (T.bu 9)
def m10 : FVec Ideal S256x128 .f32 := k0_pay49 T.S T.C T.m9 (k0_pay46 T.C (T.wg 10)) (T.sg 10) (T.bg 10) (T.wu 10) (T.su 10) (T.bu 10)
def m11 : FVec Ideal S256x128 .f32 := k0_pay54 T.S T.C T.m10 (k0_pay50 T.S T.C (T.wg 11) (T.sg 11)) (k0_pay51 (T.bg 11)) (T.wu 11) (T.su 11) (T.bu 11)
def m12 : FVec Ideal S256x128 .f32 := k0_pay59 T.m11 (k0_pay55 T.S T.C (T.wg 12) (T.sg 12) (T.bg 12)) (k0_pay56 T.S T.C (T.wu 12)) (T.su 12) (T.bu 12)
/-- The last chunk's activation, its padded columns not yet masked. -/
def a13 : FVec Ideal S256x128 .f32 := k0_pay60 T.S T.C T.wgT T.sgT T.bgT T.wuT T.suT T.buT

/-- The stores into the activation scratch, the last first. -/
def acts : List (View.Piece (Elt Ideal) S256x3456 .f32) :=
  [⟨Rect.unit ![0, 3328] S256x128.size inb_S256x3456_S256x128_0_3328, k0_pay62 T.a13 I⟩,
   ⟨Rect.unit ![0, 3072] S256x256.size inb_S256x3456_S256x256_0_3072, k0_pay58 (k0_pay55 T.S T.C (T.wg 12) (T.sg 12) (T.bg 12)) (k0_pay56 T.S T.C (T.wu 12)) (T.su 12) (T.bu 12)⟩,
   ⟨Rect.unit ![0, 2816] S256x256.size inb_S256x3456_S256x256_0_2816, k0_pay53 T.S T.C (k0_pay50 T.S T.C (T.wg 11) (T.sg 11)) (k0_pay51 (T.bg 11)) (T.wu 11) (T.su 11) (T.bu 11)⟩,
   ⟨Rect.unit ![0, 2560] S256x256.size inb_S256x3456_S256x256_0_2560, k0_pay48 T.S T.C (k0_pay46 T.C (T.wg 10)) (T.sg 10) (T.bg 10) (T.wu 10) (T.su 10) (T.bu 10)⟩,
   ⟨Rect.unit ![0, 2304] S256x256.size inb_S256x3456_S256x256_0_2304, k0_pay44 T.S T.C (T.wg 9) (T.sg 9) (T.bg 9) (T.wu 9) (T.su 9) (T.bu 9)⟩,
   ⟨Rect.unit ![0, 2048] S256x256.size inb_S256x3456_S256x256_0_2048, k0_pay42 T.S T.C (T.wg 8) (T.sg 8) (T.bg 8) (T.wu 8) (T.su 8) (T.bu 8)⟩,
   ⟨Rect.unit ![0, 1792] S256x256.size inb_S256x3456_S256x256_0_1792, k0_pay39 (k0_pay36 T.S T.C (T.wg 7) (T.sg 7) (T.bg 7)) (k0_pay37 T.S T.C (T.wu 7) (T.su 7)) (T.bu 7)⟩,
   ⟨Rect.unit ![0, 1536] S256x256.size inb_S256x3456_S256x256_0_1536, k0_pay34 T.S T.C (k0_pay32 T.S T.C (T.wg 6) (T.sg 6) (T.bg 6)) (T.wu 6) Z (T.su 6) (T.bu 6)⟩,
   ⟨Rect.unit ![0, 1280] S256x256.size inb_S256x3456_S256x256_0_1280, k0_pay30 T.S T.C (k0_pay28 T.S T.C (T.wg 5)) (T.sg 5) (T.bg 5) (T.wu 5) (T.su 5) (T.bu 5)⟩,
   ⟨Rect.unit ![0, 1024] S256x256.size inb_S256x3456_S256x256_0_1024, k0_pay26 T.S T.C (T.wg 4) (T.sg 4) (T.bg 4) (T.wu 4) (T.su 4) (T.bu 4)⟩,
   ⟨Rect.unit ![0, 768] S256x256.size inb_S256x3456_S256x256_0_768, k0_pay22 T.S T.C (T.wg 3) (T.sg 3) (T.bg 3) (T.wu 3) (T.su 3) (T.bu 3)⟩,
   ⟨Rect.unit ![0, 512] S256x256.size inb_S256x3456_S256x256_0_512, k0_pay20 T.a2⟩,
   ⟨Rect.unit ![0, 256] S256x256.size inb_S256x3456_S256x256_0_256, k0_pay17 (k0_pay14 T.S T.C (T.wg 1) (T.sg 1) (T.bg 1)) (k0_pay15 T.S T.C (T.wu 1)) (T.su 1) (T.bu 1)⟩,
   ⟨Rect.unit ![0, 0] S256x256.size inb_S256x3456_S256x256_0_0, k0_pay12 T.S T.C (k0_pay10 T.H T.g T.N (T.wg 0) (T.sg 0)) (T.bg 0) (T.wu 0) (T.su 0) (T.bu 0)⟩]

/-- The activation read back from the scratch. -/
def V : Vec Ideal S256x3456 .f32 := View.canon T.acts

/-- The block of the call's result, from the activation read back as `v`. -/
def outOf (v : Vec Ideal S256x3456 .f32) : FVec Ideal S256x1280 .bf16 :=
  k0_pay1 T.H (k0_pay63 T.m12 T.a13 I) (k0_pay64 T.m12 T.a13 I v) (k0_pay67 T.m12 T.a13 I v) T.wd T.tl T.sd T.bd

end Loads

/-! ## One row -/

/-- The loads of row `r` are the row's operands and the weights. -/
structure Loads.Fits (T : Loads) (W : Weights) (X : Row) (r : Fin 256) : Prop where
  os : T.os (ix3 0 0 r) = X.os
  h : ∀ j, T.h (ix2 r j) = X.h j
  oc : ∀ j, T.oc (ix2 r j) = X.oc j
  wo : ∀ x j, T.wo (ix2 x j) = W.wo x j
  so : ∀ j, T.so (ix2 0 j) = W.so j
  bo : ∀ j, T.bo (ix2 0 j) = W.bo j
  g : ∀ j, T.g (ix2 0 j) = W.g j
  wg : ∀ k x (j : Fin 256), T.wg k (ix2 x j) = W.wg x ⟨256 * k.val + j.val, by omega⟩
  sg : ∀ k (j : Fin 256), T.sg k (ix2 0 j) = W.sg ⟨256 * k.val + j.val, by omega⟩
  bg : ∀ k (j : Fin 256), T.bg k (ix2 0 j) = W.bg ⟨256 * k.val + j.val, by omega⟩
  wu : ∀ k x (j : Fin 256), T.wu k (ix2 x j) = W.wu x ⟨256 * k.val + j.val, by omega⟩
  su : ∀ k (j : Fin 256), T.su k (ix2 0 j) = W.su ⟨256 * k.val + j.val, by omega⟩
  bu : ∀ k (j : Fin 256), T.bu k (ix2 0 j) = W.bu ⟨256 * k.val + j.val, by omega⟩
  wgT : ∀ x (j : Fin 128) (hj : 3328 + j.val < 3420), T.wgT (ix2 x j) = W.wg x ⟨3328 + j.val, hj⟩
  sgT : ∀ (j : Fin 128) (hj : 3328 + j.val < 3420), T.sgT (ix2 0 j) = W.sg ⟨3328 + j.val, hj⟩
  bgT : ∀ (j : Fin 128) (hj : 3328 + j.val < 3420), T.bgT (ix2 0 j) = W.bg ⟨3328 + j.val, hj⟩
  wuT : ∀ x (j : Fin 128) (hj : 3328 + j.val < 3420), T.wuT (ix2 x j) = W.wu x ⟨3328 + j.val, hj⟩
  suT : ∀ (j : Fin 128) (hj : 3328 + j.val < 3420), T.suT (ix2 0 j) = W.su ⟨3328 + j.val, hj⟩
  buT : ∀ (j : Fin 128) (hj : 3328 + j.val < 3420), T.buT (ix2 0 j) = W.bu ⟨3328 + j.val, hj⟩
  wd : ∀ (x : Fin 3328) j, T.wd (ix2 x j) = W.wd ⟨x.val, by omega⟩ j
  tl : ∀ (x : Fin 128) j, T.tl (ix2 x j) = if h : 3328 + x.val < 3420 then W.wd ⟨3328 + x.val, h⟩ j else 0
  sd : ∀ j, T.sd (ix2 0 j) = W.sd j
  bd : ∀ j, T.bd (ix2 0 j) = W.bd j

variable {T : Loads} {W : Weights} {X : Row} {r : Fin 256}

theorem H_row (f : T.Fits W X r) (j : Fin 1280) : T.H (ix2 r j) = h1 W X j := by
  have : T.H (ix2 r j) = T.h (ix2 r j) + lin (fun x => T.oc (ix2 r x)) (T.os (ix3 0 0 r)) (fun x => T.wo (ix2 x j)) (T.so (ix2 0 j)) (T.bo (ix2 0 j)) := by
    pointwise! [Loads.H, k0_pay3, lin]
  rw [this]
  simp only [f.os, f.h, f.oc, f.wo, f.so, f.bo, h1]

theorem N_row (f : T.Fits W X r) : T.N (ix2 r 0) = Ideal.div 1 (rms (h1 W X)) := by
  have : T.N (ix2 r 0) = Ideal.div 1 (rms (fun j => T.H (ix2 r j))) := by
    pointwise! [Loads.N, k0_pay4, rms, Loads.H]
  rw [this]
  simp only [H_row f]

theorem normed_row (f : T.Fits W X r) (j : Fin 1280) : k0_pay5 (F := Ideal) T.H T.g T.N (ix2 r j) = normed W X j := by
  have : k0_pay5 (F := Ideal) T.H T.g T.N (ix2 r j) = T.H (ix2 r j) * T.N (ix2 r 0) * T.g (ix2 0 j) := by
    pointwise! [k0_pay5]
  rw [this, H_row f, N_row f, f.g, Ideal.mul_one_div (rms_ne_zero _)]
  rfl

theorem S_row (f : T.Fits W X r) : T.S (ix2 r 0) = guScale W X := by
  have : T.S (ix2 r 0) = scaleOf (topAbs fun x => k0_pay5 (F := Ideal) T.H T.g T.N (ix2 r x)) := by
    pointwise! [Loads.S, k0_pay6, scaleOf, topAbs]
  rw [this]
  simp only [normed_row f, guScale]

theorem C_row (f : T.Fits W X r) (j : Fin 1280) : T.C (ix2 r j) = guCodes W X j := by
  have : T.C (ix2 r j) = min (Ideal.ofBits .f32 1138753536#32) (max (Ideal.ofBits .f32 3286237184#32)
      (k0_pay5 (F := Ideal) T.H T.g T.N (ix2 r j) * Ideal.div 1 (T.S (ix2 r 0)))) := by
    pointwise! [Loads.C, k0_pay7, Loads.S]
  rw [this, normed_row f, S_row f, quant_recip (s := guScale W X) (scaleOf_ne_zero _)]
  rfl

/-- The activation of one column from a chunk's loads. -/
def actAt {n : ℕ} (S : FVec Ideal S256x1 .f32) (C : FVec Ideal S256x1280 .fp8e4m3) (wg : Vec Ideal ⟨2, ![1280, n]⟩ .fp8e4m3)
    (sg bg : Vec Ideal ⟨2, ![1, n]⟩ .f32) (wu : Vec Ideal ⟨2, ![1280, n]⟩ .fp8e4m3) (su bu : Vec Ideal ⟨2, ![1, n]⟩ .f32)
    (r : Fin 256) (j : Fin n) : EReal :=
  glu (lin (fun x => C (ix2 r x)) (S (ix2 r 0)) (fun x => wg (ix2 x j)) (sg (ix2 0 j)) (bg (ix2 0 j)))
    (lin (fun x => C (ix2 r x)) (S (ix2 r 0)) (fun x => wu (ix2 x j)) (su (ix2 0 j)) (bu (ix2 0 j)))

theorem actAt_chunk (f : T.Fits W X r) (k : Fin 13) (j : Fin 256) :
    actAt T.S T.C (T.wg k) (T.sg k) (T.bg k) (T.wu k) (T.su k) (T.bu k) r j = actN W X (256 * k.val + j.val) := by
  rw [actN_of_lt W X (by omega : 256 * k.val + j.val < 3420)]
  unfold actAt
  simp only [f.wg, f.sg, f.bg, f.wu, f.su, f.bu, C_row f, S_row f, act]

theorem actAt_last (f : T.Fits W X r) (j : Fin 128) (hj : 3328 + j.val < 3420) :
    actAt T.S T.C T.wgT T.sgT T.bgT T.wuT T.suT T.buT r j = actN W X (3328 + j.val) := by
  rw [actN_of_lt W X hj]
  unfold actAt
  simp only [f.wgT _ j hj, f.sgT j hj, f.bgT j hj, f.wuT _ j hj, f.suT j hj, f.buT j hj, C_row f, S_row f, act]

section Chunks
variable (S : FVec Ideal S256x1 .f32) (C : FVec Ideal S256x1280 .fp8e4m3) (H : FVec Ideal S256x1280 .f32) (g : Vec Ideal S1x1280 .f32)
  (N : FVec Ideal S256x1 .f32) (wg : Vec Ideal S1280x256 .fp8e4m3) (sg bg : Vec Ideal S1x256 .f32) (wu : Vec Ideal S1280x256 .fp8e4m3) (su bu : Vec Ideal S1x256 .f32)
  (r : Fin 256) (j : Fin 256)

/-! The activation of each chunk, read at an entry: one formula, whatever the values it is put together from. -/

theorem act_0 : k0_pay11 (F := Ideal) (k0_pay6 H g N) (k0_pay7 H g N) (k0_pay10 H g N wg sg) bg wu su bu (ix2 r j)
    = actAt (k0_pay6 H g N) (k0_pay7 H g N) wg sg bg wu su bu r j := by
  pointwise! [k0_pay11, k0_pay10, actAt, lin, glu]
theorem act_1 : k0_pay16 (F := Ideal) (k0_pay14 S C wg sg bg) (k0_pay15 S C wu) su bu (ix2 r j) = actAt S C wg sg bg wu su bu r j := by
  pointwise! [k0_pay16, k0_pay14, k0_pay15, actAt, lin, glu]
theorem act_2 : k0_pay19 (F := Ideal) S C wg sg bg wu su bu (ix2 r j) = actAt S C wg sg bg wu su bu r j := by
  pointwise! [k0_pay19, actAt, lin, glu]
theorem act_3 : k0_pay21 (F := Ideal) S C wg sg bg wu su bu (ix2 r j) = actAt S C wg sg bg wu su bu r j := by
  pointwise! [k0_pay21, actAt, lin, glu]
theorem act_4 : k0_pay25 (F := Ideal) S C wg sg bg wu su bu (ix2 r j) = actAt S C wg sg bg wu su bu r j := by
  pointwise! [k0_pay25, actAt, lin, glu]
theorem act_5 : k0_pay29 (F := Ideal) S C (k0_pay28 S C wg) sg bg wu su bu (ix2 r j) = actAt S C wg sg bg wu su bu r j := by
  pointwise! [k0_pay29, k0_pay28, actAt, lin, glu]
theorem act_6 : k0_pay33 (F := Ideal) S C (k0_pay32 S C wg sg bg) wu Loads.Z su bu (ix2 r j) = actAt S C wg sg bg wu su bu r j := by
  pointwise! [k0_pay33, k0_pay32, Loads.Z, actAt, lin, glu]
theorem act_7 : k0_pay38 (F := Ideal) (k0_pay36 S C wg sg bg) (k0_pay37 S C wu su) bu (ix2 r j) = actAt S C wg sg bg wu su bu r j := by
  pointwise! [k0_pay38, k0_pay36, k0_pay37, actAt, lin, glu]
theorem act_8 : k0_pay41 (F := Ideal) S C wg sg bg wu su bu (ix2 r j) = actAt S C wg sg bg wu su bu r j := by
  pointwise! [k0_pay41, actAt, lin, glu]
theorem act_9 : k0_pay43 (F := Ideal) S C wg sg bg wu su bu (ix2 r j) = actAt S C wg sg bg wu su bu r j := by
  pointwise! [k0_pay43, actAt, lin, glu]
theorem act_10 : k0_pay47 (F := Ideal) S C (k0_pay46 C wg) sg bg wu su bu (ix2 r j) = actAt S C wg sg bg wu su bu r j := by
  pointwise! [k0_pay47, k0_pay46, actAt, lin, glu]
theorem act_11 : k0_pay52 (F := Ideal) S C (k0_pay50 S C wg sg) (k0_pay51 bg) wu su bu (ix2 r j) = actAt S C wg sg bg wu su bu r j := by
  pointwise! [k0_pay52, k0_pay50, k0_pay51, actAt, lin, glu]
theorem act_12 : k0_pay57 (F := Ideal) (k0_pay55 S C wg sg bg) (k0_pay56 S C wu) su bu (ix2 r j) = actAt S C wg sg bg wu su bu r j := by
  pointwise! [k0_pay57, k0_pay55, k0_pay56, actAt, lin, glu]
end Chunks

theorem act_13 (S : FVec Ideal S256x1 .f32) (C : FVec Ideal S256x1280 .fp8e4m3) (wg : Vec Ideal S1280x128 .fp8e4m3) (sg bg : Vec Ideal S1x128 .f32)
    (wu : Vec Ideal S1280x128 .fp8e4m3) (su bu : Vec Ideal S1x128 .f32) (r : Fin 256) (j : Fin 128) :
    k0_pay60 (F := Ideal) S C wg sg bg wu su bu (ix2 r j) = actAt S C wg sg bg wu su bu r j := by
  pointwise! [k0_pay60, actAt, lin, glu]

/-- A number below 3456 past 92 columns of the last chunk, as the kernel compares it. -/
theorem slt_92 (n : ℕ) (hn : n < 128) : IntOp.cmpi CmpIPredicate.slt (BitVec.ofNat 32 n) 92#32 = if n < 92 then 1#1 else 0#1 := by
  interval_cases n <;> rfl

theorem masked_13 (f : T.Fits W X r) (j : Fin 128) : k0_pay61 (F := Ideal) T.a13 Loads.I (ix2 r j) = actN W X (3328 + j.val) := by
  have : k0_pay61 (F := Ideal) T.a13 Loads.I (ix2 r j)
      = Scalar.select (IntOp.cmpi CmpIPredicate.slt (BitVec.ofNat 32 j.val) 92#32) (T.a13 (ix2 r j)) 0 := by
    pointwise! [k0_pay61, Loads.I]
  rw [this, slt_92 _ j.isLt]
  by_cases hj : j.val < 92
  · rw [if_pos hj, Loads.a13, act_13, actAt_last f j (by omega)]; rfl
  · rw [if_neg hj, actN_of_le W X (by omega)]; rfl

end Cert.MlpIdeal.Hand

end
-- ==== Proof.MlpBlockOut.lean ====
/- One grid point of the fused MLP over the extended reals: the blocks its five stores write, row by row. -/
module

public import proofs.«01_k».proof.Proof.MlpBlock

@[expose] public section

set_option maxRecDepth 16384

noncomputable section

namespace Cert.MlpIdeal.Hand

open Idealize.ShloMosaic Idealize.ShloMosaic.TcCoe
open Cert.MlpIdeal.Gen Cert.MlpRow

variable {T : Loads} {W : Weights} {X : Row} {r : Fin 256}

/-! ## The running largest magnitude -/

/-- A block of 256 columns is the activation from column `256 * k` on, in row `r`. -/
def Chunk (W : Weights) (X : Row) (r : Fin 256) (k : ℕ) (P : FVec Ideal S256x256 .f32) : Prop :=
  ∀ j : Fin 256, P (ix2 r j) = actN W X (256 * k + j.val)

theorem Chunk.lo {k : ℕ} {P : FVec Ideal S256x256 .f32} (e : Chunk W X r k P) {A : EReal} {l : Fin 128} (h : Upto W X A (2 * k) l.val)
    (hl : l.val < 256) : Upto W X (max A (mag (P (ix2 r ⟨l.val, hl⟩)))) (2 * k + 1) l.val :=
  h.step ((e _).trans (congrArg (actN W X) (by show 256 * k + l.val = 128 * (2 * k) + l.val; omega)))

theorem Chunk.hi {k : ℕ} {P : FVec Ideal S256x256 .f32} (e : Chunk W X r k P) {A : EReal} {l : Fin 128} (h : Upto W X A (2 * k + 1) l.val)
    (hl : 128 + l.val < 256) : Upto W X (max A (mag (P (ix2 r ⟨128 + l.val, hl⟩)))) (2 * (k + 1)) l.val :=
  h.step ((e _).trans (congrArg (actN W X) (by show 256 * k + (128 + l.val) = 128 * (2 * k + 1) + l.val; omega)))

theorem Chunk.both {k : ℕ} {P : FVec Ideal S256x256 .f32} (e : Chunk W X r k P) {A : EReal} {l : Fin 128} (h : Upto W X A (2 * k) l.val)
    (hl : l.val < 256) (hl' : 128 + l.val < 256) :
    Upto W X (max (max A (mag (P (ix2 r ⟨l.val, hl⟩)))) (mag (P (ix2 r ⟨128 + l.val, hl'⟩)))) (2 * (k + 1)) l.val :=
  e.hi (e.lo h hl) hl'

section
variable (f : T.Fits W X r)
include f

theorem c0 : Chunk W X r 0 (k0_pay11 (F := Ideal) T.S T.C (k0_pay10 T.H T.g T.N (T.wg 0) (T.sg 0)) (T.bg 0) (T.wu 0) (T.su 0) (T.bu 0)) :=
  fun j => (act_0 ..).trans (actAt_chunk f 0 j)
theorem c1 : Chunk W X r 1 (k0_pay16 (F := Ideal) (k0_pay14 T.S T.C (T.wg 1) (T.sg 1) (T.bg 1)) (k0_pay15 T.S T.C (T.wu 1)) (T.su 1) (T.bu 1)) :=
  fun j => (act_1 ..).trans (actAt_chunk f 1 j)
theorem c2 : Chunk W X r 2 T.a2 := fun j => (act_2 ..).trans (actAt_chunk f 2 j)
theorem c3 : Chunk W X r 3 (k0_pay21 (F := Ideal) T.S T.C (T.wg 3) (T.sg 3) (T.bg 3) (T.wu 3) (T.su 3) (T.bu 3)) :=
  fun j => (act_3 ..).trans (actAt_chunk f 3 j)
theorem c4 : Chunk W X r 4 (k0_pay25 (F := Ideal) T.S T.C (T.wg 4) (T.sg 4) (T.bg 4) (T.wu 4) (T.su 4) (T.bu 4)) :=
  fun j => (act_4 ..).trans (actAt_chunk f 4 j)
theorem c5 : Chunk W X r 5 (k0_pay29 (F := Ideal) T.S T.C (k0_pay28 T.S T.C (T.wg 5)) (T.sg 5) (T.bg 5) (T.wu 5) (T.su 5) (T.bu 5)) :=
  fun j => (act_5 ..).trans (actAt_chunk f 5 j)
theorem c6 : Chunk W X r 6 (k0_pay33 (F := Ideal) T.S T.C (k0_pay32 T.S T.C (T.wg 6) (T.sg 6) (T.bg 6)) (T.wu 6) Loads.Z (T.su 6) (T.bu 6)) :=
  fun j => (act_6 ..).trans (actAt_chunk f 6 j)
theorem c7 : Chunk W X r 7 (k0_pay38 (F := Ideal) (k0_pay36 T.S T.C (T.wg 7) (T.sg 7) (T.bg 7)) (k0_pay37 T.S T.C (T.wu 7) (T.su 7)) (T.bu 7)) :=
  fun j => (act_7 ..).trans (actAt_chunk f 7 j)
theorem c8 : Chunk W X r 8 T.a8 := fun j => (act_8 ..).trans (actAt_chunk f 8 j)
theorem c9 : Chunk W X r 9 (k0_pay43 (F := Ideal) T.S T.C (T.wg 9) (T.sg 9) (T.bg 9) (T.wu 9) (T.su 9) (T.bu 9)) :=
  fun j => (act_9 ..).trans (actAt_chunk f 9 j)
theorem c10 : Chunk W X r 10 (k0_pay47 (F := Ideal) T.S T.C (k0_pay46 T.C (T.wg 10)) (T.sg 10) (T.bg 10) (T.wu 10) (T.su 10) (T.bu 10)) :=
  fun j => (act_10 ..).trans (actAt_chunk f 10 j)
theorem c11 : Chunk W X r 11 (k0_pay52 (F := Ideal) T.S T.C (k0_pay50 T.S T.C (T.wg 11) (T.sg 11)) (k0_pay51 (T.bg 11)) (T.wu 11) (T.su 11) (T.bu 11)) :=
  fun j => (act_11 ..).trans (actAt_chunk f 11 j)
theorem c12 : Chunk W X r 12 (k0_pay57 (F := Ideal) (k0_pay55 T.S T.C (T.wg 12) (T.sg 12) (T.bg 12)) (k0_pay56 T.S T.C (T.wu 12)) (T.su 12) (T.bu 12)) :=
  fun j => (act_12 ..).trans (actAt_chunk f 12 j)

variable (l : Fin 128)

theorem u0 : Upto W X (T.m0 (ix2 r l)) (2 * 1) l.val := by
  refine Eq.mpr (congrArg (Upto W X · _ _) ?_) ((c0 f).both (Upto.zero l.val) (by omega) (by omega))
  pointwise! [Loads.m0, k0_pay13, k0_pay9, mag]
theorem u1 : Upto W X (T.m1 (ix2 r l)) (2 * 2) l.val := by
  refine Eq.mpr (congrArg (Upto W X · _ _) ?_) ((c1 f).both (u0 f l) (by omega) (by omega))
  pointwise! [Loads.m1, k0_pay18, mag]
theorem u3 : Upto W X (T.m3 (ix2 r l)) (2 * 3 + 1) l.val := by
  refine Eq.mpr (congrArg (Upto W X · _ _) ?_) ((c3 f).lo ((c2 f).both (u1 f l) (by omega) (by omega)) (by omega))
  pointwise! [Loads.m3, k0_pay23, mag]
theorem u3' : Upto W X (max (T.m3 (ix2 r l)) (T.b3 (ix2 r l))) (2 * 4) l.val := by
  refine Eq.mpr (congrArg (Upto W X · _ _) ?_) ((c3 f).hi (u3 f l) (by omega))
  pointwise! [Loads.b3, k0_pay24, mag]
theorem u4 : Upto W X (T.m4 (ix2 r l)) (2 * 5) l.val := by
  refine Eq.mpr (congrArg (Upto W X · _ _) ?_) ((c4 f).both (u3' f l) (by omega) (by omega))
  pointwise! [Loads.m4, k0_pay27, mag]
theorem u5 : Upto W X (T.m5 (ix2 r l)) (2 * 6) l.val := by
  refine Eq.mpr (congrArg (Upto W X · _ _) ?_) ((c5 f).both (u4 f l) (by omega) (by omega))
  pointwise! [Loads.m5, k0_pay31, mag]
theorem u6 : Upto W X (T.m6 (ix2 r l)) (2 * 7) l.val := by
  refine Eq.mpr (congrArg (Upto W X · _ _) ?_) ((c6 f).both (u5 f l) (by omega) (by omega))
  pointwise! [Loads.m6, k0_pay35, mag]
theorem u7 : Upto W X (T.m7 (ix2 r l)) (2 * 8) l.val := by
  refine Eq.mpr (congrArg (Upto W X · _ _) ?_) ((c7 f).both (u6 f l) (by omega) (by omega))
  pointwise! [Loads.m7, k0_pay40, mag]
theorem u9 : Upto W X (T.m9 (ix2 r l)) (2 * 10) l.val := by
  refine Eq.mpr (congrArg (Upto W X · _ _) ?_) ((c9 f).both ((c8 f).both (u7 f l) (by omega) (by omega)) (by omega) (by omega))
  pointwise! [Loads.m9, k0_pay45, mag]
theorem u10 : Upto W X (T.m10 (ix2 r l)) (2 * 11) l.val := by
  refine Eq.mpr (congrArg (Upto W X · _ _) ?_) ((c10 f).both (u9 f l) (by omega) (by omega))
  pointwise! [Loads.m10, k0_pay49, mag]
theorem u11 : Upto W X (T.m11 (ix2 r l)) (2 * 12) l.val := by
  refine Eq.mpr (congrArg (Upto W X · _ _) ?_) ((c11 f).both (u10 f l) (by omega) (by omega))
  pointwise! [Loads.m11, k0_pay54, mag]
theorem u12 : Upto W X (T.m12 (ix2 r l)) (2 * 13) l.val := by
  refine Eq.mpr (congrArg (Upto W X · _ _) ?_) ((c12 f).both (u11 f l) (by omega) (by omega))
  pointwise! [Loads.m12, k0_pay59, mag]

theorem downScale_row : k0_pay63 (F := Ideal) T.m12 T.a13 Loads.I (ix2 r 0) = downScale W X := by
  have : k0_pay63 (F := Ideal) T.m12 T.a13 Loads.I (ix2 r 0)
      = scaleOf (Finset.fold max (Ideal.ofBits .f32 4286578688#32)
          (fun x => max (T.m12 (ix2 r x)) (mag (k0_pay61 (F := Ideal) T.a13 Loads.I (ix2 r x)))) Finset.univ) := by
    pointwise! [k0_pay63, scaleOf, mag]
  rw [this, topAbs_of_upto fun l => (u12 f l).step (masked_13 f l)]
  rfl

end

/-! ## The activation scratch -/

/-- In row `r` the pieces hold the activation up to column `n`. -/
def Held (W : Weights) (X : Row) (r : Fin 256) (n : ℕ) (L : List (View.Piece (Elt Ideal) S256x3456 .f32)) : Prop :=
  ∀ j : Fin 3456, j.val < n → View.canon L (ix2 r j) = actN W X j.val

theorem Held.nil : Held W X r 0 [] := fun j hj => absurd hj (Nat.not_lt_zero _)

theorem Held.cons {o w : ℕ} {L : List (View.Piece (Elt Ideal) S256x3456 .f32)} (h : Held W X r o L)
    (inb : ∀ a, (![0, o] : Fin 2 → ℕ) a + (![256, w] : Fin 2 → ℕ) a ≤ S256x3456.size a)
    (P : Vec Ideal ⟨2, ![256, w]⟩ .f32) (e : ∀ j : Fin w, P (ix2 r j) = actN W X (o + j.val)) :
    Held W X r (o + w) (⟨Rect.unit ![0, o] ![256, w] inb, P⟩ :: L) := fun j hj => by
  by_cases ho : o ≤ j.val
  · have hx : ix2 r j = (Rect.unit (s := S256x3456) ![0, o] ![256, w] inb).idx (ix2 r (⟨j.val - o, by omega⟩ : Fin w)) := by
      idx_ext <;> simp <;> omega
    rw [hx]
    refine (View.canon_cons_emb _ _ _ _).trans ((e _).trans (congrArg (actN W X) ?_))
    show o + (j.val - o) = j.val
    omega
  · rw [View.canon_cons_of_not_mem]
    · exact h j (by omega)
    · intro hm
      have h2 := Rect.mem_set_unit.1 (show ix2 r j ∈ (Rect.unit (s := S256x3456) ![0, o] ![256, w] inb).set from hm)
      exact ho (h2 1).1

/-- A stored block is the block before the reshape to its own shape. -/
theorem store_256 (P : FVec Ideal S256x256 .f32) (r j : Fin 256) : shapeCast S256x256 P shapeCasts_S256x256_S256x256 (ix2 r j) = P (ix2 r j) := by
  pointwise!

theorem store_128 (P : FVec Ideal S256x128 .f32) (r : Fin 256) (j : Fin 128) :
    shapeCast S256x128 P shapeCasts_S256x128_S256x128 (ix2 r j) = P (ix2 r j) := by
  pointwise!

theorem acts_held (f : T.Fits W X r) : Held W X r 3456 T.acts := by
  unfold Loads.acts
  refine Held.cons (o := 3328) (w := 128) ?_ _ _ fun j => (store_128 _ r j).trans (masked_13 f j)
  refine Held.cons (o := 3072) (w := 256) ?_ _ _ fun j => (store_256 _ r j).trans (c12 f j)
  refine Held.cons (o := 2816) (w := 256) ?_ _ _ fun j => (store_256 _ r j).trans (c11 f j)
  refine Held.cons (o := 2560) (w := 256) ?_ _ _ fun j => (store_256 _ r j).trans (c10 f j)
  refine Held.cons (o := 2304) (w := 256) ?_ _ _ fun j => (store_256 _ r j).trans (c9 f j)
  refine Held.cons (o := 2048) (w := 256) ?_ _ _ fun j => (store_256 _ r j).trans (c8 f j)
  refine Held.cons (o := 1792) (w := 256) ?_ _ _ fun j => (store_256 _ r j).trans (c7 f j)
  refine Held.cons (o := 1536) (w := 256) ?_ _ _ fun j => (store_256 _ r j).trans (c6 f j)
  refine Held.cons (o := 1280) (w := 256) ?_ _ _ fun j => (store_256 _ r j).trans (c5 f j)
  refine Held.cons (o := 1024) (w := 256) ?_ _ _ fun j => (store_256 _ r j).trans (c4 f j)
  refine Held.cons (o := 768) (w := 256) ?_ _ _ fun j => (store_256 _ r j).trans (c3 f j)
  refine Held.cons (o := 512) (w := 256) ?_ _ _ fun j => (store_256 _ r j).trans (c2 f j)
  refine Held.cons (o := 256) (w := 256) ?_ _ _ fun j => (store_256 _ r j).trans (c1 f j)
  refine Held.cons (o := 0) (w := 256) ?_ _ _ fun j => (store_256 _ r j).trans (c0 f j)
  exact Held.nil

theorem V_row (f : T.Fits W X r) (j : Fin 3456) : T.V (ix2 r j) = actN W X j.val := acts_held f j j.isLt

/-! ## The stored blocks -/

theorem codes_row (f : T.Fits W X r) (j : Fin 3456) :
    k0_pay64 (F := Ideal) T.m12 T.a13 Loads.I T.V (ix2 r j) = quant (downScale W X) (actN W X j.val) := by
  have : k0_pay64 (F := Ideal) T.m12 T.a13 Loads.I T.V (ix2 r j)
      = min (Ideal.ofBits .f32 1138753536#32) (max (Ideal.ofBits .f32 3286237184#32)
          (T.V (ix2 r j) * Ideal.div 1 (k0_pay63 (F := Ideal) T.m12 T.a13 Loads.I (ix2 r 0)))) := by
    pointwise! [k0_pay64]
  rw [this, V_row f, downScale_row f, quant_recip (s := downScale W X) (scaleOf_ne_zero _)]

theorem dc_row (f : T.Fits W X r) (j : Fin 3420) :
    k0_pay65 (F := Ideal) T.m12 T.a13 Loads.I T.V (ix2 r j) = downCodes W X j := by
  have : k0_pay65 (F := Ideal) T.m12 T.a13 Loads.I T.V (ix2 r j)
      = k0_pay64 (F := Ideal) T.m12 T.a13 Loads.I T.V (ix2 r (⟨j.val, by omega⟩ : Fin 3456)) := by
    pointwise! [k0_pay65]
  rw [this, codes_row f, actN_of_lt W X j.isLt]
  rfl

theorem ds_row (f : T.Fits W X r) : k0_pay66 (F := Ideal) T.m12 T.a13 Loads.I (ix3 0 0 r) = downScale W X := by
  have : k0_pay66 (F := Ideal) T.m12 T.a13 Loads.I (ix3 0 0 r) = k0_pay63 (F := Ideal) T.m12 T.a13 Loads.I (ix2 r 0) := by
    pointwise! [k0_pay66]
  rw [this, downScale_row f]

theorem gs_row (f : T.Fits W X r) : k0_pay8 (F := Ideal) T.H T.g T.N (ix3 0 0 r) = guScale W X := by
  have : k0_pay8 (F := Ideal) T.H T.g T.N (ix3 0 0 r) = T.S (ix2 r 0) := by
    pointwise! [k0_pay8, Loads.S]
  rw [this, S_row f]

theorem out_row (f : T.Fits W X r) (j : Fin 1280) : T.outOf T.V (ix2 r j) = out W X j := by
  have : T.outOf T.V (ix2 r j) = T.H (ix2 r j)
      + ((∑ x : Fin 3328, k0_pay67 (F := Ideal) T.m12 T.a13 Loads.I T.V (ix2 r x) * T.wd (ix2 x j)
          + ∑ x : Fin 128, k0_pay64 (F := Ideal) T.m12 T.a13 Loads.I T.V (ix2 r (⟨3328 + x.val, by omega⟩ : Fin 3456)) * T.tl (ix2 x j))
          * k0_pay63 (F := Ideal) T.m12 T.a13 Loads.I (ix2 r 0) * T.sd (ix2 0 j) + T.bd (ix2 0 j)) := by
    pointwise! [Loads.outOf, k0_pay1]
  have e67 : ∀ x : Fin 3328, k0_pay67 (F := Ideal) T.m12 T.a13 Loads.I T.V (ix2 r x) = quant (downScale W X) (actN W X x.val) := fun x => by
    have : k0_pay67 (F := Ideal) T.m12 T.a13 Loads.I T.V (ix2 r x)
        = k0_pay64 (F := Ideal) T.m12 T.a13 Loads.I T.V (ix2 r (⟨x.val, by omega⟩ : Fin 3456)) := by
      pointwise! [k0_pay67]
    rw [this, codes_row f]
  rw [this, H_row f, downScale_row f, f.sd, f.bd,
    down_split (fun n => quant (downScale W X) (actN W X n)) (fun x => W.wd x j) _ _ _ _ e67 (fun x => f.wd x j)
      (fun x => codes_row f _) (fun x => f.tl x j)]
  simp only [out, lin, downCodes, actN_of_lt W X (Fin.isLt _)]

end Cert.MlpIdeal.Hand

end
-- ==== Proof.MlpLeft.lean ====
/- What the runs of the fused MLP's body leave in its five outputs and in its carried scratch, in terms of what the
   staging buffers hold. -/
module

public import proofs.«01_k».proof.Proof.MlpRunB
public import proofs.«01_k».proof.Proof.MlpBlockOut
public import Idealize.ShloMosaic.Lib.Pipeline.Value
public import Idealize.ShloMosaic.Lib.WholeRead

@[expose] public section

set_option maxRecDepth 16384

noncomputable section

namespace Cert.MlpIdeal.Hand

open Idealize.ShloMosaic Idealize.ShloMosaic.TcCoe
open Cert.MlpIdeal.Gen
open Idealize.ShloMosaic.Tactic

theorem chunk_in (a : ℕ) (k : Fin 13) : ∀ b, (![0, 256 * k.val] : Fin 2 → ℕ) b + (![a, 256] : Fin 2 → ℕ) b ≤ (![a, 3456] : Fin 2 → ℕ) b := by
  intro b
  fin_cases b
  · simp
  · have := k.isLt; simp; omega

theorem last_in (a : ℕ) : ∀ b, (![0, 3328] : Fin 2 → ℕ) b + (![a, 128] : Fin 2 → ℕ) b ≤ (![a, 3456] : Fin 2 → ℕ) b := by
  intro b
  fin_cases b <;> simp

theorem whole_2 (s : Fin 2 → ℕ) : ∀ b, (![0, 0] : Fin 2 → ℕ) b + s b ≤ s b := by
  intro b
  fin_cases b <;> simp

theorem whole_3 (s : Fin 3 → ℕ) : ∀ b, (![0, 0, 0] : Fin 3 → ℕ) b + s b ≤ s b := by
  intro b
  fin_cases b <;> simp

theorem z2 : (![0, 0] : Fin 2 → ℕ) = fun _ => 0 := by funext b; fin_cases b <;> rfl
theorem z3 : (![0, 0, 0] : Fin 3 → ℕ) = fun _ => 0 := by funext b; fin_cases b <;> rfl

/-- What the body loads, from the staging buffers' contents and the masked tail rows `tl`. -/
def loads (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) (tl : Vec Ideal S128x1280 .fp8e4m3) : Loads where
  os := x2
  h := x0
  oc := x1
  wo := x3
  so := x4
  bo := x5
  g := x6
  wd := x13
  sd := x15
  bd := x16
  wg := fun k => View.ld x7 (Rect.unit (s := S1280x3456) ![0, 256 * k.val] S1280x256.size (chunk_in 1280 k))
  wgT := View.ld x7 (Rect.unit (s := S1280x3456) ![0, 3328] S1280x128.size (last_in 1280))
  sg := fun k => View.ld x8 (Rect.unit (s := S1x3456) ![0, 256 * k.val] S1x256.size (chunk_in 1 k))
  sgT := View.ld x8 (Rect.unit (s := S1x3456) ![0, 3328] S1x128.size (last_in 1))
  bg := fun k => View.ld x9 (Rect.unit (s := S1x3456) ![0, 256 * k.val] S1x256.size (chunk_in 1 k))
  bgT := View.ld x9 (Rect.unit (s := S1x3456) ![0, 3328] S1x128.size (last_in 1))
  wu := fun k => View.ld x10 (Rect.unit (s := S1280x3456) ![0, 256 * k.val] S1280x256.size (chunk_in 1280 k))
  wuT := View.ld x10 (Rect.unit (s := S1280x3456) ![0, 3328] S1280x128.size (last_in 1280))
  su := fun k => View.ld x11 (Rect.unit (s := S1x3456) ![0, 256 * k.val] S1x256.size (chunk_in 1 k))
  suT := View.ld x11 (Rect.unit (s := S1x3456) ![0, 3328] S1x128.size (last_in 1))
  bu := fun k => View.ld x12 (Rect.unit (s := S1x3456) ![0, 256 * k.val] S1x256.size (chunk_in 1 k))
  buT := View.ld x12 (Rect.unit (s := S1x3456) ![0, 3328] S1x128.size (last_in 1))
  tl := tl

/-- The same as the runs spell it: each load through its staging buffer. -/
def reads (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) (tl : Vec Ideal S128x1280 .fp8e4m3) : Loads where
  os := View.readAt (Elt Ideal) arg3.view (Rect.unit ![0, 0, 0] S1x1x256.size (whole_3 _)).toLoadRect (harg3.unread x2)
  h := View.readAt (Elt Ideal) arg1.view (Rect.unit ![0, 0] S256x1280.size (whole_2 _)).toLoadRect (harg1.unread x0)
  oc := View.readAt (Elt Ideal) arg2.view (Rect.unit ![0, 0] S256x1280.size (whole_2 _)).toLoadRect (harg2.unread x1)
  wo := View.readAt (Elt Ideal) arg4.view (Rect.unit ![0, 0] S1280x1280.size (whole_2 _)).toLoadRect (harg4.unread x3)
  so := View.readAt (Elt Ideal) arg5.view (Rect.unit ![0, 0] S1x1280.size (whole_2 _)).toLoadRect (harg5.unread x4)
  bo := View.readAt (Elt Ideal) arg6.view (Rect.unit ![0, 0] S1x1280.size (whole_2 _)).toLoadRect (harg6.unread x5)
  g := View.readAt (Elt Ideal) arg7.view (Rect.unit ![0, 0] S1x1280.size (whole_2 _)).toLoadRect (harg7.unread x6)
  wd := View.readAt (Elt Ideal) arg14.view (Rect.unit ![0, 0] S3328x1280.size (whole_2 _)).toLoadRect (harg14.unread x13)
  sd := View.readAt (Elt Ideal) arg16.view (Rect.unit ![0, 0] S1x1280.size (whole_2 _)).toLoadRect (harg16.unread x15)
  bd := View.readAt (Elt Ideal) arg17.view (Rect.unit ![0, 0] S1x1280.size (whole_2 _)).toLoadRect (harg17.unread x16)
  wg := fun k => View.readAt (Elt Ideal) arg8.view (Rect.unit (s := S1280x3456) ![0, 256 * k.val] S1280x256.size (chunk_in 1280 k)).toLoadRect (harg8.unread x7)
  wgT := View.readAt (Elt Ideal) arg8.view (Rect.unit (s := S1280x3456) ![0, 3328] S1280x128.size (last_in 1280)).toLoadRect (harg8.unread x7)
  sg := fun k => View.readAt (Elt Ideal) arg9.view (Rect.unit (s := S1x3456) ![0, 256 * k.val] S1x256.size (chunk_in 1 k)).toLoadRect (harg9.unread x8)
  sgT := View.readAt (Elt Ideal) arg9.view (Rect.unit (s := S1x3456) ![0, 3328] S1x128.size (last_in 1)).toLoadRect (harg9.unread x8)
  bg := fun k => View.readAt (Elt Ideal) arg10.view (Rect.unit (s := S1x3456) ![0, 256 * k.val] S1x256.size (chunk_in 1 k)).toLoadRect (harg10.unread x9)
  bgT := View.readAt (Elt Ideal) arg10.view (Rect.unit (s := S1x3456) ![0, 3328] S1x128.size (last_in 1)).toLoadRect (harg10.unread x9)
  wu := fun k => View.readAt (Elt Ideal) arg11.view (Rect.unit (s := S1280x3456) ![0, 256 * k.val] S1280x256.size (chunk_in 1280 k)).toLoadRect (harg11.unread x10)
  wuT := View.readAt (Elt Ideal) arg11.view (Rect.unit (s := S1280x3456) ![0, 3328] S1280x128.size (last_in 1280)).toLoadRect (harg11.unread x10)
  su := fun k => View.readAt (Elt Ideal) arg12.view (Rect.unit (s := S1x3456) ![0, 256 * k.val] S1x256.size (chunk_in 1 k)).toLoadRect (harg12.unread x11)
  suT := View.readAt (Elt Ideal) arg12.view (Rect.unit (s := S1x3456) ![0, 3328] S1x128.size (last_in 1)).toLoadRect (harg12.unread x11)
  bu := fun k => View.readAt (Elt Ideal) arg13.view (Rect.unit (s := S1x3456) ![0, 256 * k.val] S1x256.size (chunk_in 1 k)).toLoadRect (harg13.unread x12)
  buT := View.readAt (Elt Ideal) arg13.view (Rect.unit (s := S1x3456) ![0, 3328] S1x128.size (last_in 1)).toLoadRect (harg13.unread x12)
  tl := tl

/-- A load of a rectangle of a whole buffer reads the contents at the rectangle. -/
theorem readAt_ld {κ : Kind} {sp : Space} {s : Shape} {e : EltTy} {M : Memref sig κ sp s e} (h : M.IsWhole) (X : s.Idx → Elt Ideal e) (R : Rect s) :
    View.readAt (Elt Ideal) M.view R.toLoadRect (h.unread X) = View.ld X R :=
  funext fun x => h.readAt_unread X R.toLoadRect x

theorem reads_eq (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) (tl : Vec Ideal S128x1280 .fp8e4m3) :
    reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 tl = loads x0 x1 x2 x3 x4 x5 x6 x7 x8 x9 x10 x11 x12 x13 x14 x15 x16 tl := by
  unfold reads loads
  simp only [readAt_ld]
  congr 1
  all_goals first | rfl | exact View.ld_unit_zero z2 _ _ | exact View.ld_unit_zero z3 _ _

/-- One store of a whole buffer leaves its payload. -/
theorem whole_store {κ : Kind} {sp : Space} {S : Shape} {e : EltTy} (v : View sig κ sp S e) (f : v.ty.Contents (Elt Ideal)) {off : Fin S.rank → ℕ}
    (hz : off = fun _ => 0) (inb : ∀ a, off a + S.size a ≤ S.size a) (P : S.Idx → Elt Ideal e) :
    v.read (Elt Ideal) (v.writes (Elt Ideal) f [(⟨Rect.unit off S.size inb, P⟩ : View.Piece (Elt Ideal) S e)]) = P := by
  subst hz
  refine (View.read_writes_eq_canon v f _ fun y => ⟨_, List.mem_singleton_self _, ?_⟩).trans (View.canon_unit_zero rfl inb P)
  exact (Rect.mem_set_unit (s := S) (inb := inb)).2 fun a => ⟨Nat.zero_le _, by simpa using (y a).isLt⟩

/-- The activation as the run reads it back is the pieces' canon. -/
theorem scratch_back (T : Loads) (v : View sig .tc .vmem S256x3456 .f32) :
    v.readCov T.acts (Rect.unit ![0, 0] S256x3456.size inb_S256x3456_S256x3456_0_0).toLoadRect = T.V := by
  rw [View.readCov_eq_canon' v T.acts]
  exact View.ld_unit_zero (S := S256x3456) z2 _ T.V

theorem reads_A (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) :
    (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 (arg24.view.readCov [(⟨Rect.unit ![0, 0] S128x1280.size (whole_2 _), k0_pay2 (View.readAt (Elt Ideal) arg15.view (Rect.unit ![0, 0] S128x1280.size (whole_2 _)).toLoadRect (harg15.unread x14))⟩ : View.Piece (Elt Ideal) S128x1280 .fp8e4m3)] (Rect.unit ![0, 0] S128x1280.size (whole_2 _)).toLoadRect)) = (loads x0 x1 x2 x3 x4 x5 x6 x7 x8 x9 x10 x11 x12 x13 x14 x15 x16 (k0_pay2 x14)) := by
  rw [reads_eq]
  refine congrArg (loads x0 x1 x2 x3 x4 x5 x6 x7 x8 x9 x10 x11 x12 x13 x14 x15 x16) ?_
  rw [View.readCov_unit_zero (S := S128x1280) _ z2, readAt_ld]; exact congrArg _ (View.ld_unit_zero z2 _ _)

/-- What the run leaves: one whole store in each output, of the block the loads give. -/
theorem pieces_A (c : Dev nD) (i : grid0.Coords) (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (hc0 : cond0_0 i) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).1 = [⟨Rect.unit ![0, 0] S256x1280.size (whole_2 _), (loads x0 x1 x2 x3 x4 x5 x6 x7 x8 x9 x10 x11 x12 x13 x14 x15 x16 (k0_pay2 x14)).outOf (loads x0 x1 x2 x3 x4 x5 x6 x7 x8 x9 x10 x11 x12 x13 x14 x15 x16 (k0_pay2 x14)).V⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.1 = [⟨Rect.unit ![0, 0] S256x1280.size (whole_2 _), k0_pay7 (loads x0 x1 x2 x3 x4 x5 x6 x7 x8 x9 x10 x11 x12 x13 x14 x15 x16 (k0_pay2 x14)).H (loads x0 x1 x2 x3 x4 x5 x6 x7 x8 x9 x10 x11 x12 x13 x14 x15 x16 (k0_pay2 x14)).g (loads x0 x1 x2 x3 x4 x5 x6 x7 x8 x9 x10 x11 x12 x13 x14 x15 x16 (k0_pay2 x14)).N⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.1 = [⟨Rect.unit ![0, 0, 0] S1x1x256.size (whole_3 _), k0_pay8 (loads x0 x1 x2 x3 x4 x5 x6 x7 x8 x9 x10 x11 x12 x13 x14 x15 x16 (k0_pay2 x14)).H (loads x0 x1 x2 x3 x4 x5 x6 x7 x8 x9 x10 x11 x12 x13 x14 x15 x16 (k0_pay2 x14)).g (loads x0 x1 x2 x3 x4 x5 x6 x7 x8 x9 x10 x11 x12 x13 x14 x15 x16 (k0_pay2 x14)).N⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.2.1 = [⟨Rect.unit ![0, 0] S256x3420.size (whole_2 _), k0_pay65 (loads x0 x1 x2 x3 x4 x5 x6 x7 x8 x9 x10 x11 x12 x13 x14 x15 x16 (k0_pay2 x14)).m12 (loads x0 x1 x2 x3 x4 x5 x6 x7 x8 x9 x10 x11 x12 x13 x14 x15 x16 (k0_pay2 x14)).a13 Loads.I (loads x0 x1 x2 x3 x4 x5 x6 x7 x8 x9 x10 x11 x12 x13 x14 x15 x16 (k0_pay2 x14)).V⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.2.2.1 = [⟨Rect.unit ![0, 0, 0] S1x1x256.size (whole_3 _), k0_pay66 (loads x0 x1 x2 x3 x4 x5 x6 x7 x8 x9 x10 x11 x12 x13 x14 x15 x16 (k0_pay2 x14)).m12 (loads x0 x1 x2 x3 x4 x5 x6 x7 x8 x9 x10 x11 x12 x13 x14 x15 x16 (k0_pay2 x14)).a13 Loads.I⟩] := by
  have e := reads_A arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
  have h : ∀ (T : Loads) (v : Vec Ideal S256x3456 .f32), T = (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 (arg24.view.readCov [(⟨Rect.unit ![0, 0] S128x1280.size (whole_2 _), k0_pay2 (View.readAt (Elt Ideal) arg15.view (Rect.unit ![0, 0] S128x1280.size (whole_2 _)).toLoadRect (harg15.unread x14))⟩ : View.Piece (Elt Ideal) S128x1280 .fp8e4m3)] (Rect.unit ![0, 0] S128x1280.size (whole_2 _)).toLoadRect)) → v = arg23.view.readCov T.acts (Rect.unit ![0, 0] S256x3456.size inb_S256x3456_S256x3456_0_0).toLoadRect →
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).1 = [⟨Rect.unit ![0, 0] S256x1280.size (whole_2 _), T.outOf v⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.1 = [⟨Rect.unit ![0, 0] S256x1280.size (whole_2 _), k0_pay7 T.H T.g T.N⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.1 = [⟨Rect.unit ![0, 0, 0] S1x1x256.size (whole_3 _), k0_pay8 T.H T.g T.N⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.2.1 = [⟨Rect.unit ![0, 0] S256x3420.size (whole_2 _), k0_pay65 T.m12 T.a13 Loads.I v⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.2.2.1 = [⟨Rect.unit ![0, 0, 0] S1x1x256.size (whole_3 _), k0_pay66 T.m12 T.a13 Loads.I⟩] := by
    intro T v hT hv
    subst hT
    subst hv
    exact ⟨by sl_kernel_rfl, by sl_kernel_rfl, by sl_kernel_rfl, by sl_kernel_rfl, by sl_kernel_rfl⟩
  exact h _ _ e.symm (scratch_back _ _).symm

/-- What the first run leaves in the carried scratch: the tail rows, masked. -/
theorem pieces_A_tail (c : Dev nD) (i : grid0.Coords) (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (hc0 : cond0_0 i) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.2.2.2.1 = [⟨Rect.unit ![0, 0] S128x1280.size (whole_2 _), k0_pay2 x14⟩] := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.2.2.2.1 = [(⟨Rect.unit ![0, 0] S128x1280.size (whole_2 _), k0_pay2 (View.readAt (Elt Ideal) arg15.view (Rect.unit ![0, 0] S128x1280.size (whole_2 _)).toLoadRect (harg15.unread x14))⟩ : View.Piece (Elt Ideal) S128x1280 .fp8e4m3)] := by sl_kernel_rfl
  rw [h, readAt_ld]
  exact congrArg (fun v : Vec Ideal S128x1280 .fp8e4m3 => [(⟨Rect.unit ![0, 0] S128x1280.size (whole_2 _), k0_pay2 v⟩ : View.Piece (Elt Ideal) S128x1280 .fp8e4m3)]) (View.ld_unit_zero (S := S128x1280) z2 _ x14)

theorem reads_B (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) (xs1 : Vec Ideal S128x1280 .fp8e4m3) :
    (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 (View.readAt (Elt Ideal) arg24.view (Rect.unit ![0, 0] S128x1280.size (whole_2 _)).toLoadRect (harg24.unread xs1))) = (loads x0 x1 x2 x3 x4 x5 x6 x7 x8 x9 x10 x11 x12 x13 x14 x15 x16 xs1) := by
  rw [reads_eq]
  refine congrArg (loads x0 x1 x2 x3 x4 x5 x6 x7 x8 x9 x10 x11 x12 x13 x14 x15 x16) ?_
  rw [readAt_ld]; exact View.ld_unit_zero z2 _ _

/-- What the run leaves: one whole store in each output, of the block the loads give. -/
theorem pieces_B (c : Dev nD) (i : grid0.Coords) (arg1 : Memref sig .tc .vmem S256x1280 .bf16) (harg1 : arg1.IsWhole) (arg2 : Memref sig .tc .vmem S256x1280 .fp8e4m3) (harg2 : arg2.IsWhole) (arg3 : Memref sig .tc .vmem S1x1x256 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x3456 .fp8e4m3) (harg8 : arg8.IsWhole) (arg9 : Memref sig .tc .vmem S1x3456 .f32) (harg9 : arg9.IsWhole) (arg10 : Memref sig .tc .vmem S1x3456 .f32) (harg10 : arg10.IsWhole) (arg11 : Memref sig .tc .vmem S1280x3456 .fp8e4m3) (harg11 : arg11.IsWhole) (arg12 : Memref sig .tc .vmem S1x3456 .f32) (harg12 : arg12.IsWhole) (arg13 : Memref sig .tc .vmem S1x3456 .f32) (harg13 : arg13.IsWhole) (arg14 : Memref sig .tc .vmem S3328x1280 .fp8e4m3) (harg14 : arg14.IsWhole) (arg15 : Memref sig .tc .vmem S128x1280 .fp8e4m3) (harg15 : arg15.IsWhole) (arg16 : Memref sig .tc .vmem S1x1280 .f32) (harg16 : arg16.IsWhole) (arg17 : Memref sig .tc .vmem S1x1280 .f32) (harg17 : arg17.IsWhole) (arg18 : Memref sig .tc .vmem S256x1280 .bf16) (harg18 : arg18.IsWhole) (arg19 : Memref sig .tc .vmem S256x1280 .fp8e4m3) (harg19 : arg19.IsWhole) (arg20 : Memref sig .tc .vmem S1x1x256 .f32) (harg20 : arg20.IsWhole) (arg21 : Memref sig .tc .vmem S256x3420 .fp8e4m3) (harg21 : arg21.IsWhole) (arg22 : Memref sig .tc .vmem S1x1x256 .f32) (harg22 : arg22.IsWhole) (arg23 : Memref sig .tc .vmem S256x3456 .f32) (harg23 : arg23.IsWhole) (arg24 : Memref sig .tc .vmem S128x1280 .fp8e4m3) (harg24 : arg24.IsWhole) (hc0 : ¬cond0_0 i) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) (xs1 : Vec Ideal S128x1280 .fp8e4m3) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).1 = [⟨Rect.unit ![0, 0] S256x1280.size (whole_2 _), (loads x0 x1 x2 x3 x4 x5 x6 x7 x8 x9 x10 x11 x12 x13 x14 x15 x16 xs1).outOf (loads x0 x1 x2 x3 x4 x5 x6 x7 x8 x9 x10 x11 x12 x13 x14 x15 x16 xs1).V⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.1 = [⟨Rect.unit ![0, 0] S256x1280.size (whole_2 _), k0_pay7 (loads x0 x1 x2 x3 x4 x5 x6 x7 x8 x9 x10 x11 x12 x13 x14 x15 x16 xs1).H (loads x0 x1 x2 x3 x4 x5 x6 x7 x8 x9 x10 x11 x12 x13 x14 x15 x16 xs1).g (loads x0 x1 x2 x3 x4 x5 x6 x7 x8 x9 x10 x11 x12 x13 x14 x15 x16 xs1).N⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.2.1 = [⟨Rect.unit ![0, 0, 0] S1x1x256.size (whole_3 _), k0_pay8 (loads x0 x1 x2 x3 x4 x5 x6 x7 x8 x9 x10 x11 x12 x13 x14 x15 x16 xs1).H (loads x0 x1 x2 x3 x4 x5 x6 x7 x8 x9 x10 x11 x12 x13 x14 x15 x16 xs1).g (loads x0 x1 x2 x3 x4 x5 x6 x7 x8 x9 x10 x11 x12 x13 x14 x15 x16 xs1).N⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.2.2.1 = [⟨Rect.unit ![0, 0] S256x3420.size (whole_2 _), k0_pay65 (loads x0 x1 x2 x3 x4 x5 x6 x7 x8 x9 x10 x11 x12 x13 x14 x15 x16 xs1).m12 (loads x0 x1 x2 x3 x4 x5 x6 x7 x8 x9 x10 x11 x12 x13 x14 x15 x16 xs1).a13 Loads.I (loads x0 x1 x2 x3 x4 x5 x6 x7 x8 x9 x10 x11 x12 x13 x14 x15 x16 xs1).V⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.2.2.2.1 = [⟨Rect.unit ![0, 0, 0] S1x1x256.size (whole_3 _), k0_pay66 (loads x0 x1 x2 x3 x4 x5 x6 x7 x8 x9 x10 x11 x12 x13 x14 x15 x16 xs1).m12 (loads x0 x1 x2 x3 x4 x5 x6 x7 x8 x9 x10 x11 x12 x13 x14 x15 x16 xs1).a13 Loads.I⟩] := by
  have e := reads_B arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 xs1
  have h : ∀ (T : Loads) (v : Vec Ideal S256x3456 .f32), T = (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 (View.readAt (Elt Ideal) arg24.view (Rect.unit ![0, 0] S128x1280.size (whole_2 _)).toLoadRect (harg24.unread xs1))) → v = arg23.view.readCov T.acts (Rect.unit ![0, 0] S256x3456.size inb_S256x3456_S256x3456_0_0).toLoadRect →
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).1 = [⟨Rect.unit ![0, 0] S256x1280.size (whole_2 _), T.outOf v⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.1 = [⟨Rect.unit ![0, 0] S256x1280.size (whole_2 _), k0_pay7 T.H T.g T.N⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.2.1 = [⟨Rect.unit ![0, 0, 0] S1x1x256.size (whole_3 _), k0_pay8 T.H T.g T.N⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.2.2.1 = [⟨Rect.unit ![0, 0] S256x3420.size (whole_2 _), k0_pay65 T.m12 T.a13 Loads.I v⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1).2.2.2.2.1 = [⟨Rect.unit ![0, 0, 0] S1x1x256.size (whole_3 _), k0_pay66 T.m12 T.a13 Loads.I⟩] := by
    intro T v hT hv
    subst hT
    subst hv
    exact ⟨by sl_kernel_rfl, by sl_kernel_rfl, by sl_kernel_rfl, by sl_kernel_rfl, by sl_kernel_rfl⟩
  exact h _ _ e.symm (scratch_back _ _).symm

end Cert.MlpIdeal.Hand

end
-- ==== Proof.MlpFits.lean ====
/- The blocks the fused MLP's windows stage, read against the argument arrays: at grid point `t` a block of 256 rows is
   the one whose rows are `256 t + r`, the weights are whole, and the overhanging parts of the cut blocks are never read. -/
module

public import proofs.«01_k».proof.Proof.MlpLeft
public import proofs.«01_k».proof.Proof.Gen.MlpIdeal.Frame
public import Idealize.ShloMosaic.Lib.Pipeline.ValueKit

@[expose] public section

set_option maxRecDepth 16384

noncomputable section

namespace Cert.MlpIdeal.Hand

open Idealize.ShloMosaic Idealize.ShloMosaic.TcCoe
open Cert.MlpIdeal Cert.MlpIdeal.Gen Cert.MlpRow

variable (m : (ℓ : Loc nD τ sig) → Buf (Elt Ideal) ℓ)

/-- The weights of the call, read off the argument arrays. -/
def weights (c : Dev nD) : Weights where
  wo x j := m ((c : Thread nD τ).loc main_arg3) (ix2 x j)
  so j := m ((c : Thread nD τ).loc main_arg4) (ix2 0 j)
  bo j := m ((c : Thread nD τ).loc main_arg5) (ix2 0 j)
  g j := m ((c : Thread nD τ).loc main_arg6) (ix2 0 j)
  wg x j := m ((c : Thread nD τ).loc main_arg7) (ix2 x j)
  sg j := m ((c : Thread nD τ).loc main_arg8) (ix2 0 j)
  bg j := m ((c : Thread nD τ).loc main_arg9) (ix2 0 j)
  wu x j := m ((c : Thread nD τ).loc main_arg10) (ix2 x j)
  su j := m ((c : Thread nD τ).loc main_arg11) (ix2 0 j)
  bu j := m ((c : Thread nD τ).loc main_arg12) (ix2 0 j)
  wd x j := m ((c : Thread nD τ).loc main_arg13) (ix2 x j)
  sd j := m ((c : Thread nD τ).loc main_arg14) (ix2 0 j)
  bd j := m ((c : Thread nD τ).loc main_arg15) (ix2 0 j)

/-- Row `256 a + r` of the call's row operands. -/
def rowAt (c : Dev nD) (a : Fin 16) (r : Fin 256) : Row where
  h j := m ((c : Thread nD τ).loc main_arg0) (ix2 ⟨256 * a.val + r.val, by omega⟩ j)
  oc j := m ((c : Thread nD τ).loc main_arg1) (ix2 ⟨256 * a.val + r.val, by omega⟩ j)
  os := m ((c : Thread nD τ).loc main_arg2) (ix3 a 0 r)

theorem point_lt (t : Fin cfg0.N) : t.val < 16 := lt_of_lt_of_eq t.isLt (show cfg0.N = 16 from N_0)

/-- The row block of a grid point. -/
def pt (t : Fin cfg0.N) : Fin 16 := ⟨t.val, point_lt t⟩

theorem idxRows : ∀ t : Fin cfg0.N, win0_0.index t = ![t.val, 0] ∧ win0_1.index t = ![t.val, 0] ∧ win0_2.index t = ![t.val, 0, 0] := by
  decide +kernel

theorem idxWeights : ∀ t : Fin cfg0.N, win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_15.index t = ![0, 0] ∧ win0_16.index t = ![0, 0] ∧ win0_14.index t = ![26, 0] := by
  decide +kernel

theorem blk0 (c : Dev nD) (t : Fin cfg0.N) (r : Fin 256) (j : Fin 1280) :
    iblk m c 0 t (ix2 r j) = m ((c : Thread nD τ).loc main_arg0) (ix2 ⟨256 * (pt t).val + r.val, by omega⟩ j) := by
  have := idxRows t
  blk_ext [iblk, V, idxRows t, pt]

theorem blk1 (c : Dev nD) (t : Fin cfg0.N) (r : Fin 256) (j : Fin 1280) :
    iblk m c 1 t (ix2 r j) = m ((c : Thread nD τ).loc main_arg1) (ix2 ⟨256 * (pt t).val + r.val, by omega⟩ j) := by
  have := idxRows t
  blk_ext [iblk, V, idxRows t, pt]

theorem blk2 (c : Dev nD) (t : Fin cfg0.N) (r : Fin 256) :
    iblk m c 2 t (ix3 0 0 r) = m ((c : Thread nD τ).loc main_arg2) (ix3 (pt t) 0 r) := by
  have := idxRows t
  blk_ext [iblk, V, idxRows t, pt]

theorem blk3 (c : Dev nD) (t : Fin cfg0.N) (x j : Fin 1280) :
    iblk m c 3 t (ix2 x j) = m ((c : Thread nD τ).loc main_arg3) (ix2 x j) := by
  blk_ext [iblk, V, idxWeights t]

theorem blk4 (c : Dev nD) (t : Fin cfg0.N) (j : Fin 1280) :
    iblk m c 4 t (ix2 0 j) = m ((c : Thread nD τ).loc main_arg4) (ix2 0 j) := by
  blk_ext [iblk, V, idxWeights t]

theorem blk5 (c : Dev nD) (t : Fin cfg0.N) (j : Fin 1280) :
    iblk m c 5 t (ix2 0 j) = m ((c : Thread nD τ).loc main_arg5) (ix2 0 j) := by
  blk_ext [iblk, V, idxWeights t]

theorem blk6 (c : Dev nD) (t : Fin cfg0.N) (j : Fin 1280) :
    iblk m c 6 t (ix2 0 j) = m ((c : Thread nD τ).loc main_arg6) (ix2 0 j) := by
  blk_ext [iblk, V, idxWeights t]

theorem xsize7 : ∀ t : Fin cfg0.N, ∀ a, (cfg0.win 7).xsize (cfg0.grid.coords t) a = (![1280, 3420] : Fin 2 → ℕ) a := by decide +kernel

theorem blk7 (c : Dev nD) (t : Fin cfg0.N) (d) (x : Fin 1280) (n : Fin 3456) (hn : n.val < 3420) :
    (cfg0.win 7).fill (cfg0.grid.coords t) d (iblk m c 7 t) (ix2 x n) = m ((c : Thread nD τ).loc main_arg7) (ix2 x ⟨n.val, hn⟩) := by
  have hm : (cfg0.win 7).moved (cfg0.grid.coords t) (ix2 x n) = true := ((cfg0.win 7).moved_iff _ _).mpr fun a => by
    rw [xsize7 t a]
    fin_cases a
    · exact x.isLt
    · exact hn
  unfold Pipeline.Window.fill
  rw [dif_pos hm]
  blk_ext [iblk, V, idxWeights t]

theorem xsize8 : ∀ t : Fin cfg0.N, ∀ a, (cfg0.win 8).xsize (cfg0.grid.coords t) a = (![1, 3420] : Fin 2 → ℕ) a := by decide +kernel

theorem blk8 (c : Dev nD) (t : Fin cfg0.N) (d) (n : Fin 3456) (hn : n.val < 3420) :
    (cfg0.win 8).fill (cfg0.grid.coords t) d (iblk m c 8 t) (ix2 0 n) = m ((c : Thread nD τ).loc main_arg8) (ix2 0 ⟨n.val, hn⟩) := by
  have hm : (cfg0.win 8).moved (cfg0.grid.coords t) (ix2 0 n) = true := ((cfg0.win 8).moved_iff _ _).mpr fun a => by
    rw [xsize8 t a]
    fin_cases a
    · exact Nat.one_pos
    · exact hn
  unfold Pipeline.Window.fill
  rw [dif_pos hm]
  blk_ext [iblk, V, idxWeights t]

theorem xsize9 : ∀ t : Fin cfg0.N, ∀ a, (cfg0.win 9).xsize (cfg0.grid.coords t) a = (![1, 3420] : Fin 2 → ℕ) a := by decide +kernel

theorem blk9 (c : Dev nD) (t : Fin cfg0.N) (d) (n : Fin 3456) (hn : n.val < 3420) :
    (cfg0.win 9).fill (cfg0.grid.coords t) d (iblk m c 9 t) (ix2 0 n) = m ((c : Thread nD τ).loc main_arg9) (ix2 0 ⟨n.val, hn⟩) := by
  have hm : (cfg0.win 9).moved (cfg0.grid.coords t) (ix2 0 n) = true := ((cfg0.win 9).moved_iff _ _).mpr fun a => by
    rw [xsize9 t a]
    fin_cases a
    · exact Nat.one_pos
    · exact hn
  unfold Pipeline.Window.fill
  rw [dif_pos hm]
  blk_ext [iblk, V, idxWeights t]

theorem xsize10 : ∀ t : Fin cfg0.N, ∀ a, (cfg0.win 10).xsize (cfg0.grid.coords t) a = (![1280, 3420] : Fin 2 → ℕ) a := by decide +kernel

theorem blk10 (c : Dev nD) (t : Fin cfg0.N) (d) (x : Fin 1280) (n : Fin 3456) (hn : n.val < 3420) :
    (cfg0.win 10).fill (cfg0.grid.coords t) d (iblk m c 10 t) (ix2 x n) = m ((c : Thread nD τ).loc main_arg10) (ix2 x ⟨n.val, hn⟩) := by
  have hm : (cfg0.win 10).moved (cfg0.grid.coords t) (ix2 x n) = true := ((cfg0.win 10).moved_iff _ _).mpr fun a => by
    rw [xsize10 t a]
    fin_cases a
    · exact x.isLt
    · exact hn
  unfold Pipeline.Window.fill
  rw [dif_pos hm]
  blk_ext [iblk, V, idxWeights t]

theorem xsize11 : ∀ t : Fin cfg0.N, ∀ a, (cfg0.win 11).xsize (cfg0.grid.coords t) a = (![1, 3420] : Fin 2 → ℕ) a := by decide +kernel

theorem blk11 (c : Dev nD) (t : Fin cfg0.N) (d) (n : Fin 3456) (hn : n.val < 3420) :
    (cfg0.win 11).fill (cfg0.grid.coords t) d (iblk m c 11 t) (ix2 0 n) = m ((c : Thread nD τ).loc main_arg11) (ix2 0 ⟨n.val, hn⟩) := by
  have hm : (cfg0.win 11).moved (cfg0.grid.coords t) (ix2 0 n) = true := ((cfg0.win 11).moved_iff _ _).mpr fun a => by
    rw [xsize11 t a]
    fin_cases a
    · exact Nat.one_pos
    · exact hn
  unfold Pipeline.Window.fill
  rw [dif_pos hm]
  blk_ext [iblk, V, idxWeights t]

theorem xsize12 : ∀ t : Fin cfg0.N, ∀ a, (cfg0.win 12).xsize (cfg0.grid.coords t) a = (![1, 3420] : Fin 2 → ℕ) a := by decide +kernel

theorem blk12 (c : Dev nD) (t : Fin cfg0.N) (d) (n : Fin 3456) (hn : n.val < 3420) :
    (cfg0.win 12).fill (cfg0.grid.coords t) d (iblk m c 12 t) (ix2 0 n) = m ((c : Thread nD τ).loc main_arg12) (ix2 0 ⟨n.val, hn⟩) := by
  have hm : (cfg0.win 12).moved (cfg0.grid.coords t) (ix2 0 n) = true := ((cfg0.win 12).moved_iff _ _).mpr fun a => by
    rw [xsize12 t a]
    fin_cases a
    · exact Nat.one_pos
    · exact hn
  unfold Pipeline.Window.fill
  rw [dif_pos hm]
  blk_ext [iblk, V, idxWeights t]

theorem blk13 (c : Dev nD) (t : Fin cfg0.N) (x : Fin 3328) (j : Fin 1280) :
    X0_13 m c t (ix2 x j) = m ((c : Thread nD τ).loc main_arg13) (ix2 ⟨x.val, by omega⟩ j) := by
  unfold X0_13 Pipeline.Window.fill
  rw [dif_pos (moved0_13 t _)]
  blk_ext [iblk, V, idxWeights t]

theorem xsize14 : ∀ t : Fin cfg0.N, ∀ a, (cfg0.win 14).xsize (cfg0.grid.coords t) a = (![92, 1280] : Fin 2 → ℕ) a := by decide +kernel

theorem blk14 (c : Dev nD) (t : Fin cfg0.N) (d) (x : Fin 128) (j : Fin 1280) (hx : 3328 + x.val < 3420) :
    (cfg0.win 14).fill (cfg0.grid.coords t) d (iblk m c 14 t) (ix2 x j) = m ((c : Thread nD τ).loc main_arg13) (ix2 ⟨3328 + x.val, hx⟩ j) := by
  have hm : (cfg0.win 14).moved (cfg0.grid.coords t) (ix2 x j) = true := ((cfg0.win 14).moved_iff _ _).mpr fun a => by
    rw [xsize14 t a]
    fin_cases a
    · show x.val < 92
      omega
    · exact j.isLt
  unfold Pipeline.Window.fill
  rw [dif_pos hm]
  blk_ext [iblk, V, idxWeights t]

/-- The down weight's last rows, the rows past its end at zero: what the carried scratch holds. -/
def tailV (c : Dev nD) : Vec Ideal S128x1280 .fp8e4m3 := fun i =>
  if h : 3328 + (i 0).val < 3420 then (weights m c).wd ⟨3328 + (i 0).val, h⟩ ⟨(i 1).val, (i 1).isLt⟩ else 0

theorem tail_eq (c : Dev nD) (t : Fin cfg0.N) (d) :
    k0_pay2 (F := Ideal) ((cfg0.win 14).fill (cfg0.grid.coords t) d (iblk m c 14 t)) = tailV m c := by
  funext i
  obtain ⟨x, j, rfl⟩ : ∃ (x : Fin 128) (j : Fin 1280), i = ix2 x j := ⟨i 0, i 1, by ext a; fin_cases a <;> rfl⟩
  have hp : ∀ p : Vec Ideal S128x1280 .fp8e4m3, k0_pay2 (F := Ideal) p (ix2 x j) = Scalar.select (IntOp.cmpi .slt (BitVec.ofNat 32 x.val) 92#32) (p (ix2 x j)) (Ideal.ofBits FTy.fp8e4m3 0#8) := by
    intro p
    pointwise! [k0_pay2]
  rw [hp]
  have hz : Ideal.ofBits FTy.fp8e4m3 0#8 = 0 := Ideal.ofBits_zero FTy.fp8e4m3
  rw [hz]
  rw [show tailV m c (ix2 x j) = if h : 3328 + x.val < 3420 then (weights m c).wd ⟨3328 + x.val, h⟩ j else 0 from rfl]
  by_cases h : 3328 + x.val < 3420
  · rw [dif_pos h, blk14 m c t d x j h]
    rw [show IntOp.cmpi .slt (BitVec.ofNat 32 x.val) 92#32 = 1#1 from by rw [slt_92 x.val x.isLt]; simp; omega]
    rfl
  · rw [dif_neg h]
    rw [show IntOp.cmpi .slt (BitVec.ofNat 32 x.val) 92#32 = 0#1 from by rw [slt_92 x.val x.isLt]; simp; omega]
    rfl

theorem blk15 (c : Dev nD) (t : Fin cfg0.N) (j : Fin 1280) :
    iblk m c 15 t (ix2 0 j) = m ((c : Thread nD τ).loc main_arg14) (ix2 0 j) := by
  blk_ext [iblk, V, idxWeights t]

theorem blk16 (c : Dev nD) (t : Fin cfg0.N) (j : Fin 1280) :
    iblk m c 16 t (ix2 0 j) = m ((c : Thread nD τ).loc main_arg15) (ix2 0 j) := by
  blk_ext [iblk, V, idxWeights t]

theorem ld_chunk {a : ℕ} {e} (v : Vec Ideal (⟨2, ![a, 3456]⟩ : Shape) e) (k : Fin 13) (x : Fin a) (j : Fin 256) :
    View.ld v (Rect.unit ![0, 256 * k.val] (![a, 256] : Fin 2 → ℕ) (chunk_in a k)) (ix2 x j) = v (ix2 x ⟨256 * k.val + j.val, by omega⟩) :=
  View.ld_unit_apply_of v _ _ _ _ _ fun b => by fin_cases b <;> simp

theorem ld_last {a : ℕ} {e} (v : Vec Ideal (⟨2, ![a, 3456]⟩ : Shape) e) (x : Fin a) (j : Fin 128) :
    View.ld v (Rect.unit ![0, 3328] (![a, 128] : Fin 2 → ℕ) (last_in a)) (ix2 x j) = v (ix2 x ⟨3328 + j.val, by omega⟩) :=
  View.ld_unit_apply_of v _ _ _ _ _ fun b => by fin_cases b <;> simp

/-- Staged blocks that agree with the weights and a row where they are read give loads that fit. -/
theorem fits_of (W : Weights) (X : Row) (r : Fin 256) (x0 : Vec Ideal S256x1280 .bf16) (x1 : Vec Ideal S256x1280 .fp8e4m3) (x2 : Vec Ideal S1x1x256 .f32) (x3 : Vec Ideal S1280x1280 .fp8e4m3) (x4 : Vec Ideal S1x1280 .f32) (x5 : Vec Ideal S1x1280 .f32) (x6 : Vec Ideal S1x1280 .f32) (x7 : Vec Ideal S1280x3456 .fp8e4m3) (x8 : Vec Ideal S1x3456 .f32) (x9 : Vec Ideal S1x3456 .f32) (x10 : Vec Ideal S1280x3456 .fp8e4m3) (x11 : Vec Ideal S1x3456 .f32) (x12 : Vec Ideal S1x3456 .f32) (x13 : Vec Ideal S3328x1280 .fp8e4m3) (x14 : Vec Ideal S128x1280 .fp8e4m3) (x15 : Vec Ideal S1x1280 .f32) (x16 : Vec Ideal S1x1280 .f32) (tl : Vec Ideal S128x1280 .fp8e4m3)
    (h0 : ∀ j, x0 (ix2 r j) = X.h j)
    (h1 : ∀ j, x1 (ix2 r j) = X.oc j)
    (h2 : x2 (ix3 0 0 r) = X.os)
    (h3 : ∀ x j, x3 (ix2 x j) = W.wo x j)
    (h4 : ∀ j, x4 (ix2 0 j) = W.so j)
    (h5 : ∀ j, x5 (ix2 0 j) = W.bo j)
    (h6 : ∀ j, x6 (ix2 0 j) = W.g j)
    (h7 : ∀ x (n : Fin 3456) (hn : n.val < 3420), x7 (ix2 x n) = W.wg x ⟨n.val, hn⟩)
    (h8 : ∀ (n : Fin 3456) (hn : n.val < 3420), x8 (ix2 0 n) = W.sg ⟨n.val, hn⟩)
    (h9 : ∀ (n : Fin 3456) (hn : n.val < 3420), x9 (ix2 0 n) = W.bg ⟨n.val, hn⟩)
    (h10 : ∀ x (n : Fin 3456) (hn : n.val < 3420), x10 (ix2 x n) = W.wu x ⟨n.val, hn⟩)
    (h11 : ∀ (n : Fin 3456) (hn : n.val < 3420), x11 (ix2 0 n) = W.su ⟨n.val, hn⟩)
    (h12 : ∀ (n : Fin 3456) (hn : n.val < 3420), x12 (ix2 0 n) = W.bu ⟨n.val, hn⟩)
    (h13 : ∀ (x : Fin 3328) j, x13 (ix2 x j) = W.wd ⟨x.val, by omega⟩ j)
    (h15 : ∀ j, x15 (ix2 0 j) = W.sd j)
    (h16 : ∀ j, x16 (ix2 0 j) = W.bd j)
    (ht : ∀ (x : Fin 128) j, tl (ix2 x j) = if h : 3328 + x.val < 3420 then W.wd ⟨3328 + x.val, h⟩ j else 0) :
    (loads x0 x1 x2 x3 x4 x5 x6 x7 x8 x9 x10 x11 x12 x13 x14 x15 x16 tl).Fits W X r where
  os := h2
  h := h0
  oc := h1
  wo := h3
  so := h4
  bo := h5
  g := h6
  wg k x j := (ld_chunk x7 k x j).trans (h7 x ⟨256 * k.val + j.val, by omega⟩ _)
  wgT x j hj := (ld_last x7 x j).trans (h7 x ⟨3328 + j.val, by omega⟩ hj)
  sg k j := (ld_chunk x8 k 0 j).trans (h8 ⟨256 * k.val + j.val, by omega⟩ _)
  sgT j hj := (ld_last x8 0 j).trans (h8 ⟨3328 + j.val, by omega⟩ hj)
  bg k j := (ld_chunk x9 k 0 j).trans (h9 ⟨256 * k.val + j.val, by omega⟩ _)
  bgT j hj := (ld_last x9 0 j).trans (h9 ⟨3328 + j.val, by omega⟩ hj)
  wu k x j := (ld_chunk x10 k x j).trans (h10 x ⟨256 * k.val + j.val, by omega⟩ _)
  wuT x j hj := (ld_last x10 x j).trans (h10 x ⟨3328 + j.val, by omega⟩ hj)
  su k j := (ld_chunk x11 k 0 j).trans (h11 ⟨256 * k.val + j.val, by omega⟩ _)
  suT j hj := (ld_last x11 0 j).trans (h11 ⟨3328 + j.val, by omega⟩ hj)
  bu k j := (ld_chunk x12 k 0 j).trans (h12 ⟨256 * k.val + j.val, by omega⟩ _)
  buT j hj := (ld_last x12 0 j).trans (h12 ⟨3328 + j.val, by omega⟩ hj)
  wd := h13
  tl := ht
  sd := h15
  bd := h16

/-- What the body loads at grid point `t` is row by row what the specification reads. -/
theorem fits (c : Dev nD) (t : Fin cfg0.N) (d7 d8 d9 d10 d11 d12 x14) (r : Fin 256) :
    (loads (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) x14 (iblk m c 15 t) (iblk m c 16 t) (tailV m c)).Fits (weights m c) (rowAt m c (pt t) r) r :=
  fits_of _ _ _ _ _ _ _ _ _ _ _ _ _ _ _ _ _ _ _ _ _ (blk0 m c t r) (blk1 m c t r) (blk2 m c t r) (blk3 m c t) (blk4 m c t) (blk5 m c t) (blk6 m c t) (blk7 m c t d7) (blk8 m c t d8) (blk9 m c t d9) (blk10 m c t d10) (blk11 m c t d11) (blk12 m c t d12) (blk13 m c t) (blk15 m c t) (blk16 m c t) (fun _ _ => rfl)

end Cert.MlpIdeal.Hand
-- ==== Proof.MlpValueFrame.lean ====
/- The run of the fused MLP over its grid, with what every buffer holds named: after grid point `t` the outputs' staging
   buffers hold the specification's rows `256 t + r`, and the carried scratch holds the down weight's last rows. -/
module

public import proofs.«01_k».proof.Proof.MlpFits

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen Cert.MlpRow

local notation "𝕄" => MT nD τ sig Unit (Elt Ideal) ℕ (UR sig nD τ) ℕ

variable (m : (ℓ : Loc nD τ sig) → Buf (Elt Ideal) ℓ) (ρ : Dev nD → PrngReg)

/-! ## What the outputs hold after a grid point -/

def outs17 (c : Dev nD) (t : Fin cfg0.N) : Vec Ideal S256x1280 .bf16 := fun i => out (weights m c) (rowAt m c (pt t) (i 0)) (i 1)

def outs18 (c : Dev nD) (t : Fin cfg0.N) : Vec Ideal S256x1280 .fp8e4m3 := fun i => guCodes (weights m c) (rowAt m c (pt t) (i 0)) (i 1)

def outs19 (c : Dev nD) (t : Fin cfg0.N) : Vec Ideal S1x1x256 .f32 := fun i => guScale (weights m c) (rowAt m c (pt t) (i 2))

def outs20 (c : Dev nD) (t : Fin cfg0.N) : Vec Ideal S256x3420 .fp8e4m3 := fun i => downCodes (weights m c) (rowAt m c (pt t) (i 0)) (i 1)

def outs21 (c : Dev nD) (t : Fin cfg0.N) : Vec Ideal S1x1x256 .f32 := fun i => downScale (weights m c) (rowAt m c (pt t) (i 2))

/-- Loads that agree with the specification's operands on every row of the block of point `t`. -/
def FitsAt (T : Loads) (c : Dev nD) (t : Fin cfg0.N) : Prop := ∀ r, T.Fits (weights m c) (rowAt m c (pt t) r) r

theorem left17 {T : Loads} {c : Dev nD} {t : Fin cfg0.N} (hT : FitsAt m T c t) {κ : Kind} {sp : Space} (v : View sig κ sp S256x1280 .bf16) (f : v.ty.Contents (Elt Ideal))
    {L : List (View.Piece (Elt Ideal) S256x1280 .bf16)} (hL : L = [⟨Rect.unit ![0, 0] S256x1280.size (whole_2 _), T.outOf T.V⟩]) :
    v.read (Elt Ideal) (v.writes (Elt Ideal) f L) = outs17 m c t := by
  rw [hL]
  refine (whole_store v f z2 (whole_2 _) _).trans ?_
  funext i
  obtain ⟨r, j, rfl⟩ : ∃ (r : Fin 256) (j : Fin 1280), i = ix2 r j := ⟨i 0, i 1, by ext a; fin_cases a <;> rfl⟩
  exact out_row (hT r) j

theorem left18 {T : Loads} {c : Dev nD} {t : Fin cfg0.N} (hT : FitsAt m T c t) {κ : Kind} {sp : Space} (v : View sig κ sp S256x1280 .fp8e4m3) (f : v.ty.Contents (Elt Ideal))
    {L : List (View.Piece (Elt Ideal) S256x1280 .fp8e4m3)} (hL : L = [⟨Rect.unit ![0, 0] S256x1280.size (whole_2 _), k0_pay7 T.H T.g T.N⟩]) :
    v.read (Elt Ideal) (v.writes (Elt Ideal) f L) = outs18 m c t := by
  rw [hL]
  refine (whole_store v f z2 (whole_2 _) _).trans ?_
  funext i
  obtain ⟨r, j, rfl⟩ : ∃ (r : Fin 256) (j : Fin 1280), i = ix2 r j := ⟨i 0, i 1, by ext a; fin_cases a <;> rfl⟩
  exact C_row (hT r) j

theorem left19 {T : Loads} {c : Dev nD} {t : Fin cfg0.N} (hT : FitsAt m T c t) {κ : Kind} {sp : Space} (v : View sig κ sp S1x1x256 .f32) (f : v.ty.Contents (Elt Ideal))
    {L : List (View.Piece (Elt Ideal) S1x1x256 .f32)} (hL : L = [⟨Rect.unit ![0, 0, 0] S1x1x256.size (whole_3 _), k0_pay8 T.H T.g T.N⟩]) :
    v.read (Elt Ideal) (v.writes (Elt Ideal) f L) = outs19 m c t := by
  rw [hL]
  refine (whole_store v f z3 (whole_3 _) _).trans ?_
  funext i
  obtain ⟨r, rfl⟩ : ∃ r : Fin 256, i = ix3 0 0 r := ⟨i 2, by
    ext a
    fin_cases a
    · have : (i 0).val < 1 := (i 0).isLt
      show (i 0).val = 0
      omega
    · have : (i 1).val < 1 := (i 1).isLt
      show (i 1).val = 0
      omega
    · rfl⟩
  exact gs_row (hT r)

theorem left20 {T : Loads} {c : Dev nD} {t : Fin cfg0.N} (hT : FitsAt m T c t) {κ : Kind} {sp : Space} (v : View sig κ sp S256x3420 .fp8e4m3) (f : v.ty.Contents (Elt Ideal))
    {L : List (View.Piece (Elt Ideal) S256x3420 .fp8e4m3)} (hL : L = [⟨Rect.unit ![0, 0] S256x3420.size (whole_2 _), k0_pay65 T.m12 T.a13 Loads.I T.V⟩]) :
    v.read (Elt Ideal) (v.writes (Elt Ideal) f L) = outs20 m c t := by
  rw [hL]
  refine (whole_store v f z2 (whole_2 _) _).trans ?_
  funext i
  obtain ⟨r, j, rfl⟩ : ∃ (r : Fin 256) (j : Fin 3420), i = ix2 r j := ⟨i 0, i 1, by ext a; fin_cases a <;> rfl⟩
  exact dc_row (hT r) j

theorem left21 {T : Loads} {c : Dev nD} {t : Fin cfg0.N} (hT : FitsAt m T c t) {κ : Kind} {sp : Space} (v : View sig κ sp S1x1x256 .f32) (f : v.ty.Contents (Elt Ideal))
    {L : List (View.Piece (Elt Ideal) S1x1x256 .f32)} (hL : L = [⟨Rect.unit ![0, 0, 0] S1x1x256.size (whole_3 _), k0_pay66 T.m12 T.a13 Loads.I⟩]) :
    v.read (Elt Ideal) (v.writes (Elt Ideal) f L) = outs21 m c t := by
  rw [hL]
  refine (whole_store v f z3 (whole_3 _) _).trans ?_
  funext i
  obtain ⟨r, rfl⟩ : ∃ r : Fin 256, i = ix3 0 0 r := ⟨i 2, by
    ext a
    fin_cases a
    · have : (i 0).val < 1 := (i 0).isLt
      show (i 0).val = 0
      omega
    · have : (i 1).val < 1 := (i 1).isLt
      show (i 1).val = 0
      omega
    · rfl⟩
  exact ds_row (hT r)

/-- What the buffer of the overhanging window 7 is said to hold: its block, and anything past the array's end. -/
def X0_7 (c : Dev nD) (t : Fin cfg0.N) : (cfg0.win 7).block.Idx → Elt Ideal (cfg0.win 7).elt :=
  (cfg0.win 7).fill (cfg0.grid.coords t) (fun _ => Classical.choice inferInstance) (iblk m c 7 t)

/-- What the buffer of the overhanging window 8 is said to hold: its block, and anything past the array's end. -/
def X0_8 (c : Dev nD) (t : Fin cfg0.N) : (cfg0.win 8).block.Idx → Elt Ideal (cfg0.win 8).elt :=
  (cfg0.win 8).fill (cfg0.grid.coords t) (fun _ => Classical.choice inferInstance) (iblk m c 8 t)

/-- What the buffer of the overhanging window 9 is said to hold: its block, and anything past the array's end. -/
def X0_9 (c : Dev nD) (t : Fin cfg0.N) : (cfg0.win 9).block.Idx → Elt Ideal (cfg0.win 9).elt :=
  (cfg0.win 9).fill (cfg0.grid.coords t) (fun _ => Classical.choice inferInstance) (iblk m c 9 t)

/-- What the buffer of the overhanging window 10 is said to hold: its block, and anything past the array's end. -/
def X0_10 (c : Dev nD) (t : Fin cfg0.N) : (cfg0.win 10).block.Idx → Elt Ideal (cfg0.win 10).elt :=
  (cfg0.win 10).fill (cfg0.grid.coords t) (fun _ => Classical.choice inferInstance) (iblk m c 10 t)

/-- What the buffer of the overhanging window 11 is said to hold: its block, and anything past the array's end. -/
def X0_11 (c : Dev nD) (t : Fin cfg0.N) : (cfg0.win 11).block.Idx → Elt Ideal (cfg0.win 11).elt :=
  (cfg0.win 11).fill (cfg0.grid.coords t) (fun _ => Classical.choice inferInstance) (iblk m c 11 t)

/-- What the buffer of the overhanging window 12 is said to hold: its block, and anything past the array's end. -/
def X0_12 (c : Dev nD) (t : Fin cfg0.N) : (cfg0.win 12).block.Idx → Elt Ideal (cfg0.win 12).elt :=
  (cfg0.win 12).fill (cfg0.grid.coords t) (fun _ => Classical.choice inferInstance) (iblk m c 12 t)

/-- What the buffer of the overhanging window 14 is said to hold: its block, and anything past the array's end. -/
def X0_14 (c : Dev nD) (t : Fin cfg0.N) : (cfg0.win 14).block.Idx → Elt Ideal (cfg0.win 14).elt :=
  (cfg0.win 14).fill (cfg0.grid.coords t) (fun _ => Classical.choice inferInstance) (iblk m c 14 t)

/-! ## The pipeline's proof data -/

/-- What is held between the points: before the first the scratch at anything, after it the carried scratch at the down
    weight's last rows. -/
def PhiS (c : Dev nD) : ℕ → sProp 𝕄
  | 0 => Pipeline.ΦA spec0 c
  | _ + 1 => iprop(iprop((∃ d, owns (c : Thread nD τ) scM0_0 fullShare d) ∗ owns (c : Thread nD τ) scM0_1 fullShare (tailV m c)) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop((∃ d, owns (c : Thread nD τ) scM0_0 fullShare d) ∗ owns (c : Thread nD τ) scM0_1 fullShare (tailV m c)) ∗ (∃ r, prngReg c r)) := by
  cases n with
  | zero => exact absurd rfl hz
  | succ n => rfl

/-- The proof data on core `c`: after the body at point `t` each input's buffer holds its block, and each output's the
    specification's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => X0_7 m c t
    | ⟨8, _⟩ => X0_8 m c t
    | ⟨9, _⟩ => X0_9 m c t
    | ⟨10, _⟩ => X0_10 m c t
    | ⟨11, _⟩ => X0_11 m c t
    | ⟨12, _⟩ => X0_12 m c t
    | ⟨13, _⟩ => X0_13 m c t
    | ⟨14, _⟩ => X0_14 m c t
    | ⟨15, _⟩ => iblk m c 15 t
    | ⟨16, _⟩ => iblk m c 16 t
    | ⟨17, _⟩ => outs17 m c t
    | ⟨18, _⟩ => outs18 m c t
    | ⟨19, _⟩ => outs19 m c t
    | ⟨20, _⟩ => outs20 m c t
    | ⟨21, _⟩ => outs21 m c t
    | ⟨_ + 22, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = X0_12 m c t := by dsimp only [dats]
theorem after0_13 (c : Dev nD) (t : Fin cfg0.N) : (dats m 0 c).after 13 t = X0_13 m c t := by dsimp only [dats]
theorem after0_14 (c : Dev nD) (t : Fin cfg0.N) : (dats m 0 c).after 14 t = X0_14 m c t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = outs17 m c t := by dsimp only [dats]
theorem after0_18 (c : Dev nD) (t : Fin cfg0.N) : (dats m 0 c).after 18 t = outs18 m c t := by dsimp only [dats]
theorem after0_19 (c : Dev nD) (t : Fin cfg0.N) : (dats m 0 c).after 19 t = outs19 m c t := by dsimp only [dats]
theorem after0_20 (c : Dev nD) (t : Fin cfg0.N) : (dats m 0 c).after 20 t = outs20 m c t := by dsimp only [dats]
theorem after0_21 (c : Dev nD) (t : Fin cfg0.N) : (dats m 0 c).after 21 t = outs21 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = (cfg0.win 7).fill (cfg0.grid.coords t) d (iblk m c 7 t) :=
  ((dats m 0 c).before_in_eq_fetched 7 rfl (fun _ => rfl)
      (fun t t' h => funext fun a => congrArg (fun n => Pipeline.Clip.of n ((cfg0.win 7).size a) (S1280x3420.size a)) (congrFun h a))
      (fun t => by rw [after0_7]; unfold X0_7; rw [Pipeline.Window.cut_fill]; unfold Dat.blockOf iblk; rw [A_eq]) t d).trans
    (by unfold Dat.fetched Dat.blockOf iblk; rw [A_eq])
theorem kept0_7 (c : Dev nD) (t : Fin cfg0.N) (d) :
    (cfg0.win 7).fill (cfg0.grid.coords t) d ((cfg0.win 7).cut (cfg0.grid.coords t) ((dats m 0 c).after 7 t)) = (cfg0.win 7).fill (cfg0.grid.coords t) d (iblk m c 7 t) := by
  rw [after0_7]
  unfold X0_7
  rw [Pipeline.Window.cut_fill]
theorem before0_8 (c : Dev nD) (t : Fin cfg0.N) (d) : (dats m 0 c).before 8 t d = (cfg0.win 8).fill (cfg0.grid.coords t) d (iblk m c 8 t) :=
  ((dats m 0 c).before_in_eq_fetched 8 rfl (fun _ => rfl)
      (fun t t' h => funext fun a => congrArg (fun n => Pipeline.Clip.of n ((cfg0.win 8).size a) (S1x3420.size a)) (congrFun h a))
      (fun t => by rw [after0_8]; unfold X0_8; rw [Pipeline.Window.cut_fill]; unfold Dat.blockOf iblk; rw [A_eq]) t d).trans
    (by unfold Dat.fetched Dat.blockOf iblk; rw [A_eq])
theorem kept0_8 (c : Dev nD) (t : Fin cfg0.N) (d) :
    (cfg0.win 8).fill (cfg0.grid.coords t) d ((cfg0.win 8).cut (cfg0.grid.coords t) ((dats m 0 c).after 8 t)) = (cfg0.win 8).fill (cfg0.grid.coords t) d (iblk m c 8 t) := by
  rw [after0_8]
  unfold X0_8
  rw [Pipeline.Window.cut_fill]
theorem before0_9 (c : Dev nD) (t : Fin cfg0.N) (d) : (dats m 0 c).before 9 t d = (cfg0.win 9).fill (cfg0.grid.coords t) d (iblk m c 9 t) :=
  ((dats m 0 c).before_in_eq_fetched 9 rfl (fun _ => rfl)
      (fun t t' h => funext fun a => congrArg (fun n => Pipeline.Clip.of n ((cfg0.win 9).size a) (S1x3420.size a)) (congrFun h a))
      (fun t => by rw [after0_9]; unfold X0_9; rw [Pipeline.Window.cut_fill]; unfold Dat.blockOf iblk; rw [A_eq]) t d).trans
    (by unfold Dat.fetched Dat.blockOf iblk; rw [A_eq])
theorem kept0_9 (c : Dev nD) (t : Fin cfg0.N) (d) :
    (cfg0.win 9).fill (cfg0.grid.coords t) d ((cfg0.win 9).cut (cfg0.grid.coords t) ((dats m 0 c).after 9 t)) = (cfg0.win 9).fill (cfg0.grid.coords t) d (iblk m c 9 t) := by
  rw [after0_9]
  unfold X0_9
  rw [Pipeline.Window.cut_fill]
theorem before0_10 (c : Dev nD) (t : Fin cfg0.N) (d) : (dats m 0 c).before 10 t d = (cfg0.win 10).fill (cfg0.grid.coords t) d (iblk m c 10 t) :=
  ((dats m 0 c).before_in_eq_fetched 10 rfl (fun _ => rfl)
      (fun t t' h => funext fun a => congrArg (fun n => Pipeline.Clip.of n ((cfg0.win 10).size a) (S1280x3420.size a)) (congrFun h a))
      (fun t => by rw [after0_10]; unfold X0_10; rw [Pipeline.Window.cut_fill]; unfold Dat.blockOf iblk; rw [A_eq]) t d).trans
    (by unfold Dat.fetched Dat.blockOf iblk; rw [A_eq])
theorem kept0_10 (c : Dev nD) (t : Fin cfg0.N) (d) :
    (cfg0.win 10).fill (cfg0.grid.coords t) d ((cfg0.win 10).cut (cfg0.grid.coords t) ((dats m 0 c).after 10 t)) = (cfg0.win 10).fill (cfg0.grid.coords t) d (iblk m c 10 t) := by
  rw [after0_10]
  unfold X0_10
  rw [Pipeline.Window.cut_fill]
theorem before0_11 (c : Dev nD) (t : Fin cfg0.N) (d) : (dats m 0 c).before 11 t d = (cfg0.win 11).fill (cfg0.grid.coords t) d (iblk m c 11 t) :=
  ((dats m 0 c).before_in_eq_fetched 11 rfl (fun _ => rfl)
      (fun t t' h => funext fun a => congrArg (fun n => Pipeline.Clip.of n ((cfg0.win 11).size a) (S1x3420.size a)) (congrFun h a))
      (fun t => by rw [after0_11]; unfold X0_11; rw [Pipeline.Window.cut_fill]; unfold Dat.blockOf iblk; rw [A_eq]) t d).trans
    (by unfold Dat.fetched Dat.blockOf iblk; rw [A_eq])
theorem kept0_11 (c : Dev nD) (t : Fin cfg0.N) (d) :
    (cfg0.win 11).fill (cfg0.grid.coords t) d ((cfg0.win 11).cut (cfg0.grid.coords t) ((dats m 0 c).after 11 t)) = (cfg0.win 11).fill (cfg0.grid.coords t) d (iblk m c 11 t) := by
  rw [after0_11]
  unfold X0_11
  rw [Pipeline.Window.cut_fill]
theorem before0_12 (c : Dev nD) (t : Fin cfg0.N) (d) : (dats m 0 c).before 12 t d = (cfg0.win 12).fill (cfg0.grid.coords t) d (iblk m c 12 t) :=
  ((dats m 0 c).before_in_eq_fetched 12 rfl (fun _ => rfl)
      (fun t t' h => funext fun a => congrArg (fun n => Pipeline.Clip.of n ((cfg0.win 12).size a) (S1x3420.size a)) (congrFun h a))
      (fun t => by rw [after0_12]; unfold X0_12; rw [Pipeline.Window.cut_fill]; unfold Dat.blockOf iblk; rw [A_eq]) t d).trans
    (by unfold Dat.fetched Dat.blockOf iblk; rw [A_eq])
theorem kept0_12 (c : Dev nD) (t : Fin cfg0.N) (d) :
    (cfg0.win 12).fill (cfg0.grid.coords t) d ((cfg0.win 12).cut (cfg0.grid.coords t) ((dats m 0 c).after 12 t)) = (cfg0.win 12).fill (cfg0.grid.coords t) d (iblk m c 12 t) := by
  rw [after0_12]
  unfold X0_12
  rw [Pipeline.Window.cut_fill]
theorem before0_13 (c : Dev nD) (t : Fin cfg0.N) (d) : (dats m 0 c).before 13 t d = X0_13 m c t :=
  before0_13_of m (dats m 0 c) (A_eq m c 13) (after0_13 m c) t d
theorem before0_14 (c : Dev nD) (t : Fin cfg0.N) (d) : (dats m 0 c).before 14 t d = (cfg0.win 14).fill (cfg0.grid.coords t) d (iblk m c 14 t) :=
  ((dats m 0 c).before_in_eq_fetched 14 rfl (fun _ => rfl)
      (fun t t' h => funext fun a => congrArg (fun n => Pipeline.Clip.of n ((cfg0.win 14).size a) (S3420x1280.size a)) (congrFun h a))
      (fun t => by rw [after0_14]; unfold X0_14; rw [Pipeline.Window.cut_fill]; unfold Dat.blockOf iblk; rw [A_eq]) t d).trans
    (by unfold Dat.fetched Dat.blockOf iblk; rw [A_eq])
theorem kept0_14 (c : Dev nD) (t : Fin cfg0.N) (d) :
    (cfg0.win 14).fill (cfg0.grid.coords t) d ((cfg0.win 14).cut (cfg0.grid.coords t) ((dats m 0 c).after 14 t)) = (cfg0.win 14).fill (cfg0.grid.coords t) d (iblk m c 14 t) := by
  rw [after0_14]
  unfold X0_14
  rw [Pipeline.Window.cut_fill]
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem kept0_13 (c : Dev nD) (t : Fin cfg0.N) (d) :
    (cfg0.win 13).fill (cfg0.grid.coords t) d ((cfg0.win 13).cut (cfg0.grid.coords t) ((dats m 0 c).after 13 t)) = X0_13 m c t := by
  rw [after0_13]
  unfold X0_13
  rw [Pipeline.Window.cut_fill, fill0_13 t d dflt0_13]

theorem Phi_castSucc (c : Dev nD) (t : Fin cfg0.N) : (dats m 0 c).Φ t.castSucc = PhiS m c t.val := rfl

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((cfg0.win 7).fill (cfg0.grid.coords t) d ((cfg0.win 7).cut (cfg0.grid.coords t) ((dats m 0 c).after 7 t))))
    ∗ (∃ d, owns (c : Thread nD τ) (ms0_8 t) fullShare ((cfg0.win 8).fill (cfg0.grid.coords t) d ((cfg0.win 8).cut (cfg0.grid.coords t) ((dats m 0 c).after 8 t))))
    ∗ (∃ d, owns (c : Thread nD τ) (ms0_9 t) fullShare ((cfg0.win 9).fill (cfg0.grid.coords t) d ((cfg0.win 9).cut (cfg0.grid.coords t) ((dats m 0 c).after 9 t))))
    ∗ (∃ d, owns (c : Thread nD τ) (ms0_10 t) fullShare ((cfg0.win 10).fill (cfg0.grid.coords t) d ((cfg0.win 10).cut (cfg0.grid.coords t) ((dats m 0 c).after 10 t))))
    ∗ (∃ d, owns (c : Thread nD τ) (ms0_11 t) fullShare ((cfg0.win 11).fill (cfg0.grid.coords t) d ((cfg0.win 11).cut (cfg0.grid.coords t) ((dats m 0 c).after 11 t))))
    ∗ (∃ d, owns (c : Thread nD τ) (ms0_12 t) fullShare ((cfg0.win 12).fill (cfg0.grid.coords t) d ((cfg0.win 12).cut (cfg0.grid.coords t) ((dats m 0 c).after 12 t))))
    ∗ (∃ d, owns (c : Thread nD τ) (ms0_13 t) fullShare ((cfg0.win 13).fill (cfg0.grid.coords t) d ((cfg0.win 13).cut (cfg0.grid.coords t) ((dats m 0 c).after 13 t))))
    ∗ (∃ d, owns (c : Thread nD τ) (ms0_14 t) fullShare ((cfg0.win 14).fill (cfg0.grid.coords t) d ((cfg0.win 14).cut (cfg0.grid.coords t) ((dats m 0 c).after 14 t))))
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 4800000 in
theorem sound_A (c : Dev nD) (t : Fin cfg0.N) (h0 : t.val % 16 = 0) :
    bodyPre m c t ⊢ wp frame (wpE (defs₀ (F := Ideal)) Variants.none c none) Set.univ (bodyAt0 t) (fun _ => bodyPost m c t) := by
  have hN : t.val < 16 := point_lt t
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_15, after0_16, after0_17, after0_18, after0_19, after0_20, after0_21]
  rw [show (dats m 0 c).Φ t.succ = PhiS m c (t.val + 1) from rfl, PhiS_pos m c (t.val + 1) (Nat.succ_ne_zero _), Phi_castSucc m c t]
  rw [PhiS_zero m c _ (by omega), PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  have hT : FitsAt m (loads (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (k0_pay2 ((cfg0.win 14).fill (cfg0.grid.coords t) d14 (iblk m c 14 t)))) c t := by
    rw [tail_eq m c t d14]
    exact fits m c t d7 d8 d9 d10 d11 d12 _
  iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%fT0, HS0⟩, ⟨%es1, HS1⟩⟩
  isplitl [HS0 HS1 Hg]
  · isplitl [HS0 HS1]
    · isplitl [HS0]
      · iexists _; unfold owns; iexists _; isplitr
        swap; · iexact HS0
        ipureintro; rfl
      unfold owns; iexists _; isplitr
      swap; · iexact HS1
      ipureintro
      rw [← tail_eq m c t d14, pieces_A_tail]
      exact whole_store _ _ z2 (whole_2 _) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; rw [kept0_7 m c t d7]; iexact H7
  isplitl [H8]; · iexists d8; rw [kept0_8 m c t d8]; iexact H8
  isplitl [H9]; · iexists d9; rw [kept0_9 m c t d9]; iexact H9
  isplitl [H10]; · iexists d10; rw [kept0_10 m c t d10]; iexact H10
  isplitl [H11]; · iexists d11; rw [kept0_11 m c t d11]; iexact H11
  isplitl [H12]; · iexists d12; rw [kept0_12 m c t d12]; iexact H12
  isplitl [H13]; · iexists d13; rw [kept0_13 m c t d13]; iexact H13
  isplitl [H14]; · iexists d14; rw [kept0_14 m c t d14]; iexact H14
  isplitl [H15]; · iexact H15
  isplitl [H16]; · iexact H16
  isplitl [H17]
  · unfold owns; iexists _; isplitr
    swap; · iexact H17
    ipureintro
    exact left17 m hT _ _ (pieces_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t)).1
  isplitl [H18]
  · unfold owns; iexists _; isplitr
    swap; · iexact H18
    ipureintro
    exact left18 m hT _ _ (pieces_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t)).2.1
  isplitl [H19]
  · unfold owns; iexists _; isplitr
    swap; · iexact H19
    ipureintro
    exact left19 m hT _ _ (pieces_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t)).2.2.1
  isplitl [H20]
  · unfold owns; iexists _; isplitr
    swap; · iexact H20
    ipureintro
    exact left20 m hT _ _ (pieces_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t)).2.2.2.1
  unfold owns; iexists _; isplitr
  swap; · iexact H21
  ipureintro
  exact left21 m hT _ _ (pieces_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t)).2.2.2.2

set_option maxHeartbeats 4800000 in
theorem sound_B (c : Dev nD) (t : Fin cfg0.N) (h0 : ¬t.val % 16 = 0) :
    bodyPre m c t ⊢ wp frame (wpE (defs₀ (F := Ideal)) Variants.none c none) Set.univ (bodyAt0 t) (fun _ => bodyPost m c t) := by
  have hN : t.val < 16 := point_lt t
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_15, after0_16, after0_17, after0_18, after0_19, after0_20, after0_21]
  rw [show (dats m 0 c).Φ t.succ = PhiS m c (t.val + 1) from rfl, PhiS_pos m c (t.val + 1) (Nat.succ_ne_zero _), Phi_castSucc m c t]
  rw [PhiS_pos m c _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  have hT : FitsAt m (loads (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)) c t := fits m c t d7 d8 d9 d10 d11 d12 _
  iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%fT0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; rw [kept0_7 m c t d7]; iexact H7
  isplitl [H8]; · iexists d8; rw [kept0_8 m c t d8]; iexact H8
  isplitl [H9]; · iexists d9; rw [kept0_9 m c t d9]; iexact H9
  isplitl [H10]; · iexists d10; rw [kept0_10 m c t d10]; iexact H10
  isplitl [H11]; · iexists d11; rw [kept0_11 m c t d11]; iexact H11
  isplitl [H12]; · iexists d12; rw [kept0_12 m c t d12]; iexact H12
  isplitl [H13]; · iexists d13; rw [kept0_13 m c t d13]; iexact H13
  isplitl [H14]; · iexists d14; rw [kept0_14 m c t d14]; iexact H14
  isplitl [H15]; · iexact H15
  isplitl [H16]; · iexact H16
  isplitl [H17]
  · unfold owns; iexists _; isplitr
    swap; · iexact H17
    ipureintro
    exact left17 m hT _ _ (pieces_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)).1
  isplitl [H18]
  · unfold owns; iexists _; isplitr
    swap; · iexact H18
    ipureintro
    exact left18 m hT _ _ (pieces_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)).2.1
  isplitl [H19]
  · unfold owns; iexists _; isplitr
    swap; · iexact H19
    ipureintro
    exact left19 m hT _ _ (pieces_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)).2.2.1
  isplitl [H20]
  · unfold owns; iexists _; isplitr
    swap; · iexact H20
    ipureintro
    exact left20 m hT _ _ (pieces_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)).2.2.2.1
  unfold owns; iexists _; isplitr
  swap; · iexact H21
  ipureintro
  exact left21 m hT _ _ (pieces_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ((cfg0.win 7).fill (cfg0.grid.coords t) d7 (iblk m c 7 t)) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) ((cfg0.win 12).fill (cfg0.grid.coords t) d12 (iblk m c 12 t)) (X0_13 m c t) ((cfg0.win 14).fill (cfg0.grid.coords t) d14 (iblk m c 14 t)) (iblk m c 15 t) (iblk m c 16 t) (tailV m c)).2.2.2.2

theorem sound_body (c : Dev nD) (t : Fin cfg0.N) :
    bodyPre m c t ⊢ wp frame (wpE (defs₀ (F := Ideal)) Variants.none c none) Set.univ (bodyAt0 t) (fun _ => bodyPost m c t) := by
  by_cases h0 : t.val % 16 = 0
  · exact sound_A m c t h0
  · exact sound_B m c t h0

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 16 := N_0; omega), PhiA0_eq]
  iintro ⟨⟨HS0, HS1⟩, Hg⟩
  isplitl [HS0 HS1]
  · isplitl [HS0]
    · iexact HS0
    iexists _; iexact HS1
  iexact Hg

/-! ## The run and the frame -/

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

end Cert.MlpIdeal.Hand
-- ==== Proof.MlpValue.lean ====
/- The fused MLP's results over its grid: every block it writes back is the specification's block, and the blocks cover
   the arrays. -/
module

public import proofs.«01_k».proof.Proof.MlpValueFrame

@[expose] public section

set_option maxRecDepth 16384

noncomputable section

namespace Cert.MlpIdeal.Hand

open Idealize.ShloMosaic Idealize.ShloMosaic.TcCoe Idealize.SL.Sem
open Cert.MlpIdeal Cert.MlpIdeal.Gen Cert.MlpRow

variable (m : (ℓ : Loc nD τ sig) → Buf (Elt Ideal) ℓ) (ρ : Dev nD → PrngReg)

/-- Row `R` of the call's row operands. -/
def rowR (c : Dev nD) (R : Fin 4096) : Row where
  h j := m ((c : Thread nD τ).loc main_arg0) (ix2 R j)
  oc j := m ((c : Thread nD τ).loc main_arg1) (ix2 R j)
  os := m ((c : Thread nD τ).loc main_arg2) (ix3 ⟨R.val / 256, by omega⟩ 0 ⟨R.val % 256, by omega⟩)

theorem rowR_eq (c : Dev nD) (a : Fin 16) (r : Fin 256) (R : Fin 4096) (hR : R.val = 256 * a.val + r.val) : rowR m c R = rowAt m c a r := by
  have hq : (⟨R.val / 256, by omega⟩ : Fin 16) = a := Fin.ext (by show R.val / 256 = a.val; omega)
  have hm : (⟨R.val % 256, by omega⟩ : Fin 256) = r := Fin.ext (by show R.val % 256 = r.val; omega)
  have hR' : R = ⟨256 * a.val + r.val, by omega⟩ := Fin.ext hR
  unfold rowR rowAt
  rw [hq, hm, hR']

theorem idxOuts : ∀ t : Fin cfg0.N, win0_17.index t = ![t.val, 0] ∧ win0_18.index t = ![t.val, 0] ∧ win0_19.index t = ![t.val, 0, 0]
    ∧ win0_20.index t = ![t.val, 0] ∧ win0_21.index t = ![t.val, 0, 0] := by
  decide +kernel

def F17 (c : Dev nD) : Buf (Elt Ideal) ((c : Thread nD τ).loc main_v0_0) := fun i => out (weights m c) (rowR m c (i 0)) (i 1)

theorem final17 (c : Dev nD) : (dats m 0 c).arrAt 17 cfg0.N = F17 m c := by
  refine (dats m 0 c).arrAt_eq_of_covers 17 _ (by decide +kernel) fun t hf y => ?_
  rw [after0_17]
  have e0 : ((((cfg0.win 17).blk t).view.emb y) 0).val = t.val * 256 + (y 0).val := by blk_simp [(idxOuts t).1]
  have e1 : (((cfg0.win 17).blk t).view.emb y) 1 = (y 1 : Fin 1280) := Fin.ext (by blk_simp [(idxOuts t).1])
  have e := rowR_eq m c (pt t) (y 0) ((((cfg0.win 17).blk t).view.emb y) 0) (by rw [e0]; show _ = 256 * t.val + _; omega)
  show out (weights m c) (rowAt m c (pt t) (y 0)) (y 1) = out (weights m c) (rowR m c ((((cfg0.win 17).blk t).view.emb y) 0)) ((((cfg0.win 17).blk t).view.emb y) 1)
  rw [e, e1]

def F18 (c : Dev nD) : Buf (Elt Ideal) ((c : Thread nD τ).loc main_v0_1) := fun i => guCodes (weights m c) (rowR m c (i 0)) (i 1)

theorem final18 (c : Dev nD) : (dats m 0 c).arrAt 18 cfg0.N = F18 m c := by
  refine (dats m 0 c).arrAt_eq_of_covers 18 _ (by decide +kernel) fun t hf y => ?_
  rw [after0_18]
  have e0 : ((((cfg0.win 18).blk t).view.emb y) 0).val = t.val * 256 + (y 0).val := by blk_simp [(idxOuts t).2.1]
  have e1 : (((cfg0.win 18).blk t).view.emb y) 1 = (y 1 : Fin 1280) := Fin.ext (by blk_simp [(idxOuts t).2.1])
  have e := rowR_eq m c (pt t) (y 0) ((((cfg0.win 18).blk t).view.emb y) 0) (by rw [e0]; show _ = 256 * t.val + _; omega)
  show guCodes (weights m c) (rowAt m c (pt t) (y 0)) (y 1) = guCodes (weights m c) (rowR m c ((((cfg0.win 18).blk t).view.emb y) 0)) ((((cfg0.win 18).blk t).view.emb y) 1)
  rw [e, e1]

def F20 (c : Dev nD) : Buf (Elt Ideal) ((c : Thread nD τ).loc main_v0_3) := fun i => downCodes (weights m c) (rowR m c (i 0)) (i 1)

theorem final20 (c : Dev nD) : (dats m 0 c).arrAt 20 cfg0.N = F20 m c := by
  refine (dats m 0 c).arrAt_eq_of_covers 20 _ (by decide +kernel) fun t hf y => ?_
  rw [after0_20]
  have e0 : ((((cfg0.win 20).blk t).view.emb y) 0).val = t.val * 256 + (y 0).val := by blk_simp [(idxOuts t).2.2.2.1]
  have e1 : (((cfg0.win 20).blk t).view.emb y) 1 = (y 1 : Fin 3420) := Fin.ext (by blk_simp [(idxOuts t).2.2.2.1])
  have e := rowR_eq m c (pt t) (y 0) ((((cfg0.win 20).blk t).view.emb y) 0) (by rw [e0]; show _ = 256 * t.val + _; omega)
  show downCodes (weights m c) (rowAt m c (pt t) (y 0)) (y 1) = downCodes (weights m c) (rowR m c ((((cfg0.win 20).blk t).view.emb y) 0)) ((((cfg0.win 20).blk t).view.emb y) 1)
  rw [e, e1]

def F19 (c : Dev nD) : Buf (Elt Ideal) ((c : Thread nD τ).loc main_v0_2) := fun i => guScale (weights m c) (rowAt m c (i 0) (i 2))

theorem final19 (c : Dev nD) : (dats m 0 c).arrAt 19 cfg0.N = F19 m c := by
  refine (dats m 0 c).arrAt_eq_of_covers 19 _ (by decide +kernel) fun t hf y => ?_
  rw [after0_19]
  have h0 : (y 0).val < 1 := (y 0).isLt
  have e0 : (((cfg0.win 19).blk t).view.emb y) 0 = (pt t : Fin 16) := Fin.ext (by
    have : ((((cfg0.win 19).blk t).view.emb y) 0).val = t.val * 1 + (y 0).val := by blk_simp [(idxOuts t).2.2.1]
    rw [this]
    show t.val * 1 + (y 0).val = t.val
    omega)
  have e2 : (((cfg0.win 19).blk t).view.emb y) 2 = (y 2 : Fin 256) := Fin.ext (by blk_simp [(idxOuts t).2.2.1])
  show guScale (weights m c) (rowAt m c (pt t) (y 2)) = guScale (weights m c) (rowAt m c ((((cfg0.win 19).blk t).view.emb y) 0) ((((cfg0.win 19).blk t).view.emb y) 2))
  rw [e0, e2]

def F21 (c : Dev nD) : Buf (Elt Ideal) ((c : Thread nD τ).loc main_v0_4) := fun i => downScale (weights m c) (rowAt m c (i 0) (i 2))

theorem final21 (c : Dev nD) : (dats m 0 c).arrAt 21 cfg0.N = F21 m c := by
  refine (dats m 0 c).arrAt_eq_of_covers 21 _ (by decide +kernel) fun t hf y => ?_
  rw [after0_21]
  have h0 : (y 0).val < 1 := (y 0).isLt
  have e0 : (((cfg0.win 21).blk t).view.emb y) 0 = (pt t : Fin 16) := Fin.ext (by
    have : ((((cfg0.win 21).blk t).view.emb y) 0).val = t.val * 1 + (y 0).val := by blk_simp [(idxOuts t).2.2.2.2]
    rw [this]
    show t.val * 1 + (y 0).val = t.val
    omega)
  have e2 : (((cfg0.win 21).blk t).view.emb y) 2 = (y 2 : Fin 256) := Fin.ext (by blk_simp [(idxOuts t).2.2.2.2])
  show downScale (weights m c) (rowAt m c (pt t) (y 2)) = downScale (weights m c) (rowAt m c ((((cfg0.win 21).blk t).view.emb y) 0) ((((cfg0.win 21).blk t).view.emb y) 2))
  rw [e0, e2]

/-- The five results are the specification's. -/
theorem values : θ_run defs (onTc (τ := τ) (main (F := Ideal))) ⟨m, fun _ => 0, ρ⟩ fun r => ∀ c : Dev nD,
      r.2.mem ((c : Thread nD τ).loc main_v0_0) = F17 m c
      ∧ r.2.mem ((c : Thread nD τ).loc main_v0_1) = F18 m c
      ∧ r.2.mem ((c : Thread nD τ).loc main_v0_2) = F19 m c
      ∧ r.2.mem ((c : Thread nD τ).loc main_v0_3) = F20 m c
      ∧ r.2.mem ((c : Thread nD τ).loc main_v0_4) = F21 m c :=
  (θ_run defs _ _).mono (fun r h c => ⟨((h c).1 17).trans (final17 m c), ((h c).1 18).trans (final18 m c), ((h c).1 19).trans (final19 m c),
    ((h c).1 20).trans (final20 m c), ((h c).1 21).trans (final21 m c)⟩) (run_main m ρ)

/-- The arguments end unchanged. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ)) ((θ_run defs _ _).mono (fun _ h => h.2) (run_main_quiescent m ρ))

/-- The run: the five results are the specification's, and the arguments end unchanged. -/
theorem run : θ_run defs (onTc (τ := τ) (main (F := Ideal))) ⟨m, fun _ => 0, ρ⟩ fun r => ∀ c : Dev nD,
      r.2.mem ((c : Thread nD τ).loc main_v0_0) = F17 m c
      ∧ r.2.mem ((c : Thread nD τ).loc main_v0_1) = F18 m c
      ∧ r.2.mem ((c : Thread nD τ).loc main_v0_2) = F19 m c
      ∧ r.2.mem ((c : Thread nD τ).loc main_v0_3) = F20 m c
      ∧ r.2.mem ((c : Thread nD τ).loc main_v0_4) = F21 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨(h.1 c).1, (h.1 c).2.1, (h.1 c).2.2.1, (h.1 c).2.2.2.1, (h.1 c).2.2.2.2, h.2.1 c⟩)
    (θ_run_and (values m ρ) (frame m ρ))

end Cert.MlpIdeal.Hand
-- ==== Proof.MlpRefValue.lean ====
/- What the arrays of the reference hold after its one ungridded call: each output array as a function of the
   argument arrays. -/
module

public import proofs.«01_k».proof.Proof.Gen.MlpRefIdeal.Frame
public import Idealize.ShloMosaic.Lib.Pipeline.Value

@[expose] public section

noncomputable section

namespace Cert.MlpRefIdeal.Value

open Cert.MlpRefIdeal Cert.MlpRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S4096x1280.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S4096x1280.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 18).cut (grid0.coords t) ((dats m 0 c).after 18 t) = _
  rw [after0_18]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S16x1x256.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 19).cut (grid0.coords t) ((dats m 0 c).after 19 t) = _
  rw [after0_19]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S4096x3420.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 20).cut (grid0.coords t) ((dats m 0 c).after 20 t) = _
  rw [after0_20]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S16x1x256.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v0_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v0_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v0_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v0_4) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 16 cfg0.N
      ∧ r.2.mem ((c : Thread nD τ).loc main_v0_1) = (dats m 0 c).arrAt 17 cfg0.N
      ∧ r.2.mem ((c : Thread nD τ).loc main_v0_2) = (dats m 0 c).arrAt 18 cfg0.N
      ∧ r.2.mem ((c : Thread nD τ).loc main_v0_3) = (dats m 0 c).arrAt 19 cfg0.N
      ∧ r.2.mem ((c : Thread nD τ).loc main_v0_4) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S4096x1280.Idx) : ((cfg0.win 0).blk t).view.emb j = j := by
  obtain ⟨e0, e1⟩ := idx_zero0 t
  funext a; apply Fin.ext
  match a with
  | ⟨0, _⟩ => show win0_0.index t (0 : Fin 2) * 4096 + 1 * (j 0).val = (j 0).val; omega
  | ⟨1, _⟩ => show win0_0.index t (1 : Fin 2) * 1280 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4096x1280.Idx) : ((cfg0.win 1).blk t).view.emb j = j := by
  obtain ⟨e0, e1⟩ := idx_zero1 t
  funext a; apply Fin.ext
  match a with
  | ⟨0, _⟩ => show win0_1.index t (0 : Fin 2) * 4096 + 1 * (j 0).val = (j 0).val; omega
  | ⟨1, _⟩ => show win0_1.index t (1 : Fin 2) * 1280 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S16x1x256.Idx) : ((cfg0.win 2).blk t).view.emb j = j := by
  obtain ⟨e0, e1, e2⟩ := idx_zero2 t
  funext a; apply Fin.ext
  match a with
  | ⟨0, _⟩ => show win0_2.index t (0 : Fin 3) * 16 + 1 * (j 0).val = (j 0).val; omega
  | ⟨1, _⟩ => show win0_2.index t (1 : Fin 3) * 1 + 1 * (j 1).val = (j 1).val; omega
  | ⟨2, _⟩ => show win0_2.index t (2 : Fin 3) * 256 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1280x1280.Idx) : ((cfg0.win 3).blk t).view.emb j = j := by
  obtain ⟨e0, e1⟩ := idx_zero3 t
  funext a; apply Fin.ext
  match a with
  | ⟨0, _⟩ => show win0_3.index t (0 : Fin 2) * 1280 + 1 * (j 0).val = (j 0).val; omega
  | ⟨1, _⟩ => show win0_3.index t (1 : Fin 2) * 1280 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x1280.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 1280 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x1280.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 1280 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x1280.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 1280 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1280x3420.Idx) : ((cfg0.win 7).blk t).view.emb j = j := by
  obtain ⟨e0, e1⟩ := idx_zero7 t
  funext a; apply Fin.ext
  match a with
  | ⟨0, _⟩ => show win0_7.index t (0 : Fin 2) * 1280 + 1 * (j 0).val = (j 0).val; omega
  | ⟨1, _⟩ => show win0_7.index t (1 : Fin 2) * 3420 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1x3420.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 3420 + 1 * (j 1).val = (j 1).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S1x3420.Idx) : ((cfg0.win 9).blk t).view.emb j = j := by
  obtain ⟨e0, e1⟩ := idx_zero9 t
  funext a; apply Fin.ext
  match a with
  | ⟨0, _⟩ => show win0_9.index t (0 : Fin 2) * 1 + 1 * (j 0).val = (j 0).val; omega
  | ⟨1, _⟩ => show win0_9.index t (1 : Fin 2) * 3420 + 1 * (j 1).val = (j 1).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1280x3420.Idx) : ((cfg0.win 10).blk t).view.emb j = j := by
  obtain ⟨e0, e1⟩ := idx_zero10 t
  funext a; apply Fin.ext
  match a with
  | ⟨0, _⟩ => show win0_10.index t (0 : Fin 2) * 1280 + 1 * (j 0).val = (j 0).val; omega
  | ⟨1, _⟩ => show win0_10.index t (1 : Fin 2) * 3420 + 1 * (j 1).val = (j 1).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S1x3420.Idx) : ((cfg0.win 11).blk t).view.emb j = j := by
  obtain ⟨e0, e1⟩ := idx_zero11 t
  funext a; apply Fin.ext
  match a with
  | ⟨0, _⟩ => show win0_11.index t (0 : Fin 2) * 1 + 1 * (j 0).val = (j 0).val; omega
  | ⟨1, _⟩ => show win0_11.index t (1 : Fin 2) * 3420 + 1 * (j 1).val = (j 1).val; omega

/-- Input window 11's block at the point is its array as the region finds it. -/
theorem iblk11_eq (c : Dev nD) (t : Fin cfg0.N) : iblk m c 11 t = V m c main_arg11 := by
  funext j; show V m c main_arg11 (((cfg0.win 11).blk t).view.emb j) = V m c main_arg11 j; rw [emb11]

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S1x3420.Idx) : ((cfg0.win 12).blk t).view.emb j = j := by
  obtain ⟨e0, e1⟩ := idx_zero12 t
  funext a; apply Fin.ext
  match a with
  | ⟨0, _⟩ => show win0_12.index t (0 : Fin 2) * 1 + 1 * (j 0).val = (j 0).val; omega
  | ⟨1, _⟩ => show win0_12.index t (1 : Fin 2) * 3420 + 1 * (j 1).val = (j 1).val; omega

/-- Input window 12's block at the point is its array as the region finds it. -/
theorem iblk12_eq (c : Dev nD) (t : Fin cfg0.N) : iblk m c 12 t = V m c main_arg12 := by
  funext j; show V m c main_arg12 (((cfg0.win 12).blk t).view.emb j) = V m c main_arg12 j; rw [emb12]

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S3420x1280.Idx) : ((cfg0.win 13).blk t).view.emb j = j := by
  obtain ⟨e0, e1⟩ := idx_zero13 t
  funext a; apply Fin.ext
  match a with
  | ⟨0, _⟩ => show win0_13.index t (0 : Fin 2) * 3420 + 1 * (j 0).val = (j 0).val; omega
  | ⟨1, _⟩ => show win0_13.index t (1 : Fin 2) * 1280 + 1 * (j 1).val = (j 1).val; omega

/-- Input window 13's block at the point is its array as the region finds it. -/
theorem iblk13_eq (c : Dev nD) (t : Fin cfg0.N) : iblk m c 13 t = V m c main_arg13 := by
  funext j; show V m c main_arg13 (((cfg0.win 13).blk t).view.emb j) = V m c main_arg13 j; rw [emb13]

theorem hz14 : (![0, 0] : Fin 2 → Nat) = fun _ => 0 := funext fun a => by fin_cases a <;> rfl

/-- Window 14's block index at the one point is zero on every axis. -/
theorem idx_zero14 : ∀ t : Fin cfg0.N, win0_14.index t (0 : Fin 2) = 0 ∧ win0_14.index t (1 : Fin 2) = 0 :=
  (by decide +kernel : ∀ t : Fin grid0.N, _)

/-- An index of window 14's block is the same index of its array. -/
theorem emb14 (t : Fin cfg0.N) (j : S1x1280.Idx) : ((cfg0.win 14).blk t).view.emb j = j := by
  obtain ⟨e0, e1⟩ := idx_zero14 t
  funext a; apply Fin.ext
  match a with
  | ⟨0, _⟩ => show win0_14.index t (0 : Fin 2) * 1 + 1 * (j 0).val = (j 0).val; omega
  | ⟨1, _⟩ => show win0_14.index t (1 : Fin 2) * 1280 + 1 * (j 1).val = (j 1).val; omega

/-- Input window 14's block at the point is its array as the region finds it. -/
theorem iblk14_eq (c : Dev nD) (t : Fin cfg0.N) : iblk m c 14 t = V m c main_arg14 := by
  funext j; show V m c main_arg14 (((cfg0.win 14).blk t).view.emb j) = V m c main_arg14 j; rw [emb14]

theorem hz15 : (![0, 0] : Fin 2 → Nat) = fun _ => 0 := funext fun a => by fin_cases a <;> rfl

/-- Window 15's block index at the one point is zero on every axis. -/
theorem idx_zero15 : ∀ t : Fin cfg0.N, win0_15.index t (0 : Fin 2) = 0 ∧ win0_15.index t (1 : Fin 2) = 0 :=
  (by decide +kernel : ∀ t : Fin grid0.N, _)

/-- An index of window 15's block is the same index of its array. -/
theorem emb15 (t : Fin cfg0.N) (j : S1x1280.Idx) : ((cfg0.win 15).blk t).view.emb j = j := by
  obtain ⟨e0, e1⟩ := idx_zero15 t
  funext a; apply Fin.ext
  match a with
  | ⟨0, _⟩ => show win0_15.index t (0 : Fin 2) * 1 + 1 * (j 0).val = (j 0).val; omega
  | ⟨1, _⟩ => show win0_15.index t (1 : Fin 2) * 1280 + 1 * (j 1).val = (j 1).val; omega

/-- Input window 15's block at the point is its array as the region finds it. -/
theorem iblk15_eq (c : Dev nD) (t : Fin cfg0.N) : iblk m c 15 t = V m c main_arg15 := by
  funext j; show V m c main_arg15 (((cfg0.win 15).blk t).view.emb j) = V m c main_arg15 j; rw [emb15]

theorem hz16 : (![0, 0] : Fin 2 → Nat) = fun _ => 0 := funext fun a => by fin_cases a <;> rfl

/-- Window 16's block index at the one point is zero on every axis. -/
theorem idx_zero16 : ∀ t : Fin cfg0.N, win0_16.index t (0 : Fin 2) = 0 ∧ win0_16.index t (1 : Fin 2) = 0 :=
  (by decide +kernel : ∀ t : Fin grid0.N, _)

/-- An index of window 16's block is the same index of its array. -/
theorem emb16 (t : Fin cfg0.N) (j : S4096x1280.Idx) : ((cfg0.win 16).blk t).view.emb j = j := by
  obtain ⟨e0, e1⟩ := idx_zero16 t
  funext a; apply Fin.ext
  match a with
  | ⟨0, _⟩ => show win0_16.index t (0 : Fin 2) * 4096 + 1 * (j 0).val = (j 0).val; omega
  | ⟨1, _⟩ => show win0_16.index t (1 : Fin 2) * 1280 + 1 * (j 1).val = (j 1).val; omega

theorem hz17 : (![0, 0] : Fin 2 → Nat) = fun _ => 0 := funext fun a => by fin_cases a <;> rfl

/-- Window 17's block index at the one point is zero on every axis. -/
theorem idx_zero17 : ∀ t : Fin cfg0.N, win0_17.index t (0 : Fin 2) = 0 ∧ win0_17.index t (1 : Fin 2) = 0 :=
  (by decide +kernel : ∀ t : Fin grid0.N, _)

/-- An index of window 17's block is the same index of its array. -/
theorem emb17 (t : Fin cfg0.N) (j : S4096x1280.Idx) : ((cfg0.win 17).blk t).view.emb j = j := by
  obtain ⟨e0, e1⟩ := idx_zero17 t
  funext a; apply Fin.ext
  match a with
  | ⟨0, _⟩ => show win0_17.index t (0 : Fin 2) * 4096 + 1 * (j 0).val = (j 0).val; omega
  | ⟨1, _⟩ => show win0_17.index t (1 : Fin 2) * 1280 + 1 * (j 1).val = (j 1).val; omega

theorem hz18 : (![0, 0, 0] : Fin 3 → Nat) = fun _ => 0 := funext fun a => by fin_cases a <;> rfl

/-- Window 18's block index at the one point is zero on every axis. -/
theorem idx_zero18 : ∀ t : Fin cfg0.N, win0_18.index t (0 : Fin 3) = 0 ∧ win0_18.index t (1 : Fin 3) = 0 ∧ win0_18.index t (2 : Fin 3) = 0 :=
  (by decide +kernel : ∀ t : Fin grid0.N, _)

/-- An index of window 18's block is the same index of its array. -/
theorem emb18 (t : Fin cfg0.N) (j : S16x1x256.Idx) : ((cfg0.win 18).blk t).view.emb j = j := by
  obtain ⟨e0, e1, e2⟩ := idx_zero18 t
  funext a; apply Fin.ext
  match a with
  | ⟨0, _⟩ => show win0_18.index t (0 : Fin 3) * 16 + 1 * (j 0).val = (j 0).val; omega
  | ⟨1, _⟩ => show win0_18.index t (1 : Fin 3) * 1 + 1 * (j 1).val = (j 1).val; omega
  | ⟨2, _⟩ => show win0_18.index t (2 : Fin 3) * 256 + 1 * (j 2).val = (j 2).val; omega

theorem hz19 : (![0, 0] : Fin 2 → Nat) = fun _ => 0 := funext fun a => by fin_cases a <;> rfl

/-- Window 19's block index at the one point is zero on every axis. -/
theorem idx_zero19 : ∀ t : Fin cfg0.N, win0_19.index t (0 : Fin 2) = 0 ∧ win0_19.index t (1 : Fin 2) = 0 :=
  (by decide +kernel : ∀ t : Fin grid0.N, _)

/-- An index of window 19's block is the same index of its array. -/
theorem emb19 (t : Fin cfg0.N) (j : S4096x3420.Idx) : ((cfg0.win 19).blk t).view.emb j = j := by
  obtain ⟨e0, e1⟩ := idx_zero19 t
  funext a; apply Fin.ext
  match a with
  | ⟨0, _⟩ => show win0_19.index t (0 : Fin 2) * 4096 + 1 * (j 0).val = (j 0).val; omega
  | ⟨1, _⟩ => show win0_19.index t (1 : Fin 2) * 3420 + 1 * (j 1).val = (j 1).val; omega

theorem hz20 : (![0, 0, 0] : Fin 3 → Nat) = fun _ => 0 := funext fun a => by fin_cases a <;> rfl

/-- Window 20's block index at the one point is zero on every axis. -/
theorem idx_zero20 : ∀ t : Fin cfg0.N, win0_20.index t (0 : Fin 3) = 0 ∧ win0_20.index t (1 : Fin 3) = 0 ∧ win0_20.index t (2 : Fin 3) = 0 :=
  (by decide +kernel : ∀ t : Fin grid0.N, _)

/-- An index of window 20's block is the same index of its array. -/
theorem emb20 (t : Fin cfg0.N) (j : S16x1x256.Idx) : ((cfg0.win 20).blk t).view.emb j = j := by
  obtain ⟨e0, e1, e2⟩ := idx_zero20 t
  funext a; apply Fin.ext
  match a with
  | ⟨0, _⟩ => show win0_20.index t (0 : Fin 3) * 16 + 1 * (j 0).val = (j 0).val; omega
  | ⟨1, _⟩ => show win0_20.index t (1 : Fin 3) * 1 + 1 * (j 1).val = (j 1).val; omega
  | ⟨2, _⟩ => show win0_20.index t (2 : Fin 3) * 256 + 1 * (j 2).val = (j 2).val; omega

/-! ### Output window 16: the array after the run -/

/-- What the window's array ends holding: `out0_16` applied to the argument arrays in place of the input blocks (a value that the
    frame states apart, `kK_payN a…`, keeps its loads inside its own definition). -/
abbrev G16 (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : Vec F S4096x1280 .bf16 :=
  k0_pay3 (k0_pay6 a0 a1 a2 a3 a4 a5) (k0_pay20 a0 a1 a2 a3 a4 a5 a6 a7 a8 a9 a10 a11 a12 a13 a14 a15) (k0_pay21 a0 a1 a2 a3 a4 a5 a6 a7 a8 a9 a10 a11 a12 a13 a14 a15) (k0_pay22 a0 a1 a2 a3 a4 a5 a6 a7 a8 a9 a10 a11 a12 a13 a14 a15) (Scalar.ofBits .f32 0x3F800000#32) a13 a14 a15

/-- A load of the whole of a block reads the block, and the one store through the whole rectangle leaves its payload. -/
theorem out16_eq (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : out0_16 (F := F) a0 a1 a2 a3 a4 a5 a6 a7 a8 a9 a10 a11 a12 a13 a14 a15 = G16 a0 a1 a2 a3 a4 a5 a6 a7 a8 a9 a10 a11 a12 a13 a14 a15 := by
  unfold out0_16
  rw [View.canon_unit_zero hz16, View.ld_unit_zero (S := S4096x1280) hz0 _ a0, View.ld_unit_zero (S := S4096x1280) hz1 _ a1, View.ld_unit_zero (S := S16x1x256) hz2 _ a2, View.ld_unit_zero (S := S1280x1280) hz3 _ a3, View.ld_unit_zero (S := S1x1280) hz4 _ a4, View.ld_unit_zero (S := S1x1280) hz5 _ a5, View.ld_unit_zero (S := S3420x1280) hz13 _ a13, View.ld_unit_zero (S := S1x1280) hz14 _ a14, View.ld_unit_zero (S := S1x1280) hz15 _ a15]

/-- Cutting the point's block out of `X` and reading `X` through the block's view give the same. -/
theorem cut16_eq (t : Fin cfg0.N) (X : Vec F S4096x1280 .bf16) :
    (cfg0.win 16).cut (grid0.coords t) X = ((cfg0.win 16).blk t).view.read (Elt F) X := by
  funext j
  show X j = X (((cfg0.win 16).blk t).view.emb j)
  rw [emb16]

/-- WHAT THE POINT WRITES BACK is its block of `G16` of the argument arrays as the region finds them. -/
theorem flushed16_eq (c : Dev nD) (t : Fin cfg0.N) :
    (dats m 0 c).flushed 16 t = ((cfg0.win 16).blk t).view.read (Elt F) (G16 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) := by
  show (cfg0.win 16).cut (grid0.coords t) ((dats m 0 c).after 16 t) = _
  rw [after0_16, out16_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq]
  exact cut16_eq t _

/-- Every index of the array is in the point's block. -/
theorem covered16 (i : S4096x1280.Idx) :
    ∃ t : Fin cfg0.N, (cfg0.win 16).flush t = true ∧ i ∈ ((cfg0.win 16).blk t).view.set :=
  ⟨(⟨0, by decide⟩ : Fin cfg0.N), flush0_16 _, by have h := ((cfg0.win 16).blk (⟨0, by decide⟩ : Fin cfg0.N)).view.emb_mem_set i; rwa [emb16] at h⟩

/-- THE ARRAY after the run: `G16` of the argument arrays as launched. -/
theorem final16 (c : Dev nD) : (dats m 0 c).arrAt 16 cfg0.N = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  ((dats m 0 c).arrAt_eq_of_cover 16 (G16 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) (fun t _ => flushed16_eq m c t) covered16).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15])

/-! ### Output window 17: the array after the run -/

/-- What the window's array ends holding: `out0_17` applied to the argument arrays in place of the input blocks (a value that the
    frame states apart, `kK_payN a…`, keeps its loads inside its own definition). -/
abbrev G17 (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : Vec F S4096x1280 .fp8e4m3 :=
  k0_pay12 (k0_pay17 a0 a1 a2 a3 a4 a5 a6 a7 a8 a9 a10 a11 a12 a13 a14 a15) (k0_pay18 a0 a1 a2 a3 a4 a5 a6 a7 a8 a9 a10 a11 a12 a13 a14 a15) (k0_pay19 a0 a1 a2 a3 a4 a5 a6 a7 a8 a9 a10 a11 a12 a13 a14 a15)

/-- The one store through the whole rectangle leaves its payload. -/
theorem out17_eq (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : out0_17 (F := F) a0 a1 a2 a3 a4 a5 a6 a7 a8 a9 a10 a11 a12 a13 a14 a15 = G17 a0 a1 a2 a3 a4 a5 a6 a7 a8 a9 a10 a11 a12 a13 a14 a15 := by
  unfold out0_17
  rw [View.canon_unit_zero hz17]

/-- Cutting the point's block out of `X` and reading `X` through the block's view give the same. -/
theorem cut17_eq (t : Fin cfg0.N) (X : Vec F S4096x1280 .fp8e4m3) :
    (cfg0.win 17).cut (grid0.coords t) X = ((cfg0.win 17).blk t).view.read (Elt F) X := by
  funext j
  show X j = X (((cfg0.win 17).blk t).view.emb j)
  rw [emb17]

/-- WHAT THE POINT WRITES BACK is its block of `G17` of the argument arrays as the region finds them. -/
theorem flushed17_eq (c : Dev nD) (t : Fin cfg0.N) :
    (dats m 0 c).flushed 17 t = ((cfg0.win 17).blk t).view.read (Elt F) (G17 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) := by
  show (cfg0.win 17).cut (grid0.coords t) ((dats m 0 c).after 17 t) = _
  rw [after0_17, out17_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq]
  exact cut17_eq t _

/-- Every index of the array is in the point's block. -/
theorem covered17 (i : S4096x1280.Idx) :
    ∃ t : Fin cfg0.N, (cfg0.win 17).flush t = true ∧ i ∈ ((cfg0.win 17).blk t).view.set :=
  ⟨(⟨0, by decide⟩ : Fin cfg0.N), flush0_17 _, by have h := ((cfg0.win 17).blk (⟨0, by decide⟩ : Fin cfg0.N)).view.emb_mem_set i; rwa [emb17] at h⟩

/-- THE ARRAY after the run: `G17` of the argument arrays as launched. -/
theorem final17 (c : Dev nD) : (dats m 0 c).arrAt 17 cfg0.N = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  ((dats m 0 c).arrAt_eq_of_cover 17 (G17 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) (fun t _ => flushed17_eq m c t) covered17).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15])

/-! ### Output window 18: the array after the run -/

/-- What the window's array ends holding: `out0_18` applied to the argument arrays in place of the input blocks (a value that the
    frame states apart, `kK_payN a…`, keeps its loads inside its own definition). -/
abbrev G18 (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : Vec F S16x1x256 .f32 :=
  k0_pay4 (k0_pay11 (k0_pay18 a0 a1 a2 a3 a4 a5 a6 a7 a8 a9 a10 a11 a12 a13 a14 a15) (k0_pay19 a0 a1 a2 a3 a4 a5 a6 a7 a8 a9 a10 a11 a12 a13 a14 a15))

/-- The one store through the whole rectangle leaves its payload. -/
theorem out18_eq (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : out0_18 (F := F) a0 a1 a2 a3 a4 a5 a6 a7 a8 a9 a10 a11 a12 a13 a14 a15 = G18 a0 a1 a2 a3 a4 a5 a6 a7 a8 a9 a10 a11 a12 a13 a14 a15 := by
  unfold out0_18
  rw [View.canon_unit_zero hz18]

/-- Cutting the point's block out of `X` and reading `X` through the block's view give the same. -/
theorem cut18_eq (t : Fin cfg0.N) (X : Vec F S16x1x256 .f32) :
    (cfg0.win 18).cut (grid0.coords t) X = ((cfg0.win 18).blk t).view.read (Elt F) X := by
  funext j
  show X j = X (((cfg0.win 18).blk t).view.emb j)
  rw [emb18]

/-- WHAT THE POINT WRITES BACK is its block of `G18` of the argument arrays as the region finds them. -/
theorem flushed18_eq (c : Dev nD) (t : Fin cfg0.N) :
    (dats m 0 c).flushed 18 t = ((cfg0.win 18).blk t).view.read (Elt F) (G18 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) := by
  show (cfg0.win 18).cut (grid0.coords t) ((dats m 0 c).after 18 t) = _
  rw [after0_18, out18_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq]
  exact cut18_eq t _

/-- Every index of the array is in the point's block. -/
theorem covered18 (i : S16x1x256.Idx) :
    ∃ t : Fin cfg0.N, (cfg0.win 18).flush t = true ∧ i ∈ ((cfg0.win 18).blk t).view.set :=
  ⟨(⟨0, by decide⟩ : Fin cfg0.N), flush0_18 _, by have h := ((cfg0.win 18).blk (⟨0, by decide⟩ : Fin cfg0.N)).view.emb_mem_set i; rwa [emb18] at h⟩

/-- THE ARRAY after the run: `G18` of the argument arrays as launched. -/
theorem final18 (c : Dev nD) : (dats m 0 c).arrAt 18 cfg0.N = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  ((dats m 0 c).arrAt_eq_of_cover 18 (G18 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) (fun t _ => flushed18_eq m c t) covered18).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15])

/-! ### Output window 19: the array after the run -/

/-- What the window's array ends holding: `out0_19` applied to the argument arrays in place of the input blocks (a value that the
    frame states apart, `kK_payN a…`, keeps its loads inside its own definition). -/
abbrev G19 (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : Vec F S4096x3420 .fp8e4m3 :=
  k0_pay2 (k0_pay20 a0 a1 a2 a3 a4 a5 a6 a7 a8 a9 a10 a11 a12 a13 a14 a15) (k0_pay21 a0 a1 a2 a3 a4 a5 a6 a7 a8 a9 a10 a11 a12 a13 a14 a15) (k0_pay22 a0 a1 a2 a3 a4 a5 a6 a7 a8 a9 a10 a11 a12 a13 a14 a15) (Scalar.ofBits .f32 0x3F800000#32)

/-- The one store through the whole rectangle leaves its payload. -/
theorem out19_eq (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : out0_19 (F := F) a0 a1 a2 a3 a4 a5 a6 a7 a8 a9 a10 a11 a12 a13 a14 a15 = G19 a0 a1 a2 a3 a4 a5 a6 a7 a8 a9 a10 a11 a12 a13 a14 a15 := by
  unfold out0_19
  rw [View.canon_unit_zero hz19]

/-- Cutting the point's block out of `X` and reading `X` through the block's view give the same. -/
theorem cut19_eq (t : Fin cfg0.N) (X : Vec F S4096x3420 .fp8e4m3) :
    (cfg0.win 19).cut (grid0.coords t) X = ((cfg0.win 19).blk t).view.read (Elt F) X := by
  funext j
  show X j = X (((cfg0.win 19).blk t).view.emb j)
  rw [emb19]

/-- WHAT THE POINT WRITES BACK is its block of `G19` of the argument arrays as the region finds them. -/
theorem flushed19_eq (c : Dev nD) (t : Fin cfg0.N) :
    (dats m 0 c).flushed 19 t = ((cfg0.win 19).blk t).view.read (Elt F) (G19 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) := by
  show (cfg0.win 19).cut (grid0.coords t) ((dats m 0 c).after 19 t) = _
  rw [after0_19, out19_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq]
  exact cut19_eq t _

/-- Every index of the array is in the point's block. -/
theorem covered19 (i : S4096x3420.Idx) :
    ∃ t : Fin cfg0.N, (cfg0.win 19).flush t = true ∧ i ∈ ((cfg0.win 19).blk t).view.set :=
  ⟨(⟨0, by decide⟩ : Fin cfg0.N), flush0_19 _, by have h := ((cfg0.win 19).blk (⟨0, by decide⟩ : Fin cfg0.N)).view.emb_mem_set i; rwa [emb19] at h⟩

/-- THE ARRAY after the run: `G19` of the argument arrays as launched. -/
theorem final19 (c : Dev nD) : (dats m 0 c).arrAt 19 cfg0.N = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  ((dats m 0 c).arrAt_eq_of_cover 19 (G19 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) (fun t _ => flushed19_eq m c t) covered19).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15])

/-! ### Output window 20: the array after the run -/

/-- What the window's array ends holding: `out0_20` applied to the argument arrays in place of the input blocks (a value that the
    frame states apart, `kK_payN a…`, keeps its loads inside its own definition). -/
abbrev G20 (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : Vec F S16x1x256 .f32 :=
  k0_pay5 (k0_pay21 a0 a1 a2 a3 a4 a5 a6 a7 a8 a9 a10 a11 a12 a13 a14 a15) (k0_pay22 a0 a1 a2 a3 a4 a5 a6 a7 a8 a9 a10 a11 a12 a13 a14 a15) (Scalar.ofBits .f32 0x3F800000#32)

/-- The one store through the whole rectangle leaves its payload. -/
theorem out20_eq (a0 : Vec F S4096x1280 .bf16) (a1 : Vec F S4096x1280 .fp8e4m3) (a2 : Vec F S16x1x256 .f32) (a3 : Vec F S1280x1280 .fp8e4m3) (a4 : Vec F S1x1280 .f32) (a5 : Vec F S1x1280 .f32) (a6 : Vec F S1x1280 .f32) (a7 : Vec F S1280x3420 .fp8e4m3) (a8 : Vec F S1x3420 .f32) (a9 : Vec F S1x3420 .f32) (a10 : Vec F S1280x3420 .fp8e4m3) (a11 : Vec F S1x3420 .f32) (a12 : Vec F S1x3420 .f32) (a13 : Vec F S3420x1280 .fp8e4m3) (a14 : Vec F S1x1280 .f32) (a15 : Vec F S1x1280 .f32) : out0_20 (F := F) a0 a1 a2 a3 a4 a5 a6 a7 a8 a9 a10 a11 a12 a13 a14 a15 = G20 a0 a1 a2 a3 a4 a5 a6 a7 a8 a9 a10 a11 a12 a13 a14 a15 := by
  unfold out0_20
  rw [View.canon_unit_zero hz20]

/-- Cutting the point's block out of `X` and reading `X` through the block's view give the same. -/
theorem cut20_eq (t : Fin cfg0.N) (X : Vec F S16x1x256 .f32) :
    (cfg0.win 20).cut (grid0.coords t) X = ((cfg0.win 20).blk t).view.read (Elt F) X := by
  funext j
  show X j = X (((cfg0.win 20).blk t).view.emb j)
  rw [emb20]

/-- WHAT THE POINT WRITES BACK is its block of `G20` of the argument arrays as the region finds them. -/
theorem flushed20_eq (c : Dev nD) (t : Fin cfg0.N) :
    (dats m 0 c).flushed 20 t = ((cfg0.win 20).blk t).view.read (Elt F) (G20 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) := by
  show (cfg0.win 20).cut (grid0.coords t) ((dats m 0 c).after 20 t) = _
  rw [after0_20, out20_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq]
  exact cut20_eq t _

/-- Every index of the array is in the point's block. -/
theorem covered20 (i : S16x1x256.Idx) :
    ∃ t : Fin cfg0.N, (cfg0.win 20).flush t = true ∧ i ∈ ((cfg0.win 20).blk t).view.set :=
  ⟨(⟨0, by decide⟩ : Fin cfg0.N), flush0_20 _, by have h := ((cfg0.win 20).blk (⟨0, by decide⟩ : Fin cfg0.N)).view.emb_mem_set i; rwa [emb20] at h⟩

/-- THE ARRAY after the run: `G20` of the argument arrays as launched. -/
theorem final20 (c : Dev nD) : (dats m 0 c).arrAt 20 cfg0.N = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  ((dats m 0 c).arrAt_eq_of_cover 20 (G20 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)) (fun t _ => flushed20_eq m c t) covered20).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v0_1) = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v0_2) = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v0_3) = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v0_4) = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(post16 m r h c).trans (final16 m c),
      (post17 m r h c).trans (final17 m c),
      (post18 m r h c).trans (final18 m c),
      (post19 m r h c).trans (final19 m c),
      (post20 m r h c).trans (final20 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.MlpRefIdeal.Value

end
-- ==== Proof.MlpRefRow.lean ====
/- The rows of the plainly written MLP: each entry of its five results is the specification's. -/
module

public import proofs.«01_k».proof.Proof.MlpRow
public import proofs.«01_k».proof.Proof.MlpRefValue
public import Idealize.ShloMosaic.Lib.Pipeline.ValueKit

@[expose] public section

set_option maxRecDepth 16384

noncomputable section

namespace Cert.MlpRefIdeal.Value

open Idealize.ShloMosaic Idealize.ShloMosaic.TcCoe
open Cert.MlpRefIdeal Cert.MlpRefIdeal.Gen Cert.MlpRow

/-! ## What each step computes, entry by entry -/

theorem scale_first (p : FVec Ideal S4096x1 .f32) (R : Fin 4096) :
    k0_pay11 (F := Ideal) (cmpf .oeq p (broadcast S4096x1 (Scalar.ofBits .f32 0x00000000#32))) (divf p (broadcast S4096x1 (Scalar.ofBits .f32 0x43E00000#32))) (ix2 R 0)
      = scaleOf (p (ix2 R 0)) := by
  pointwise! [k0_pay11, scaleOf]

theorem scale_second (p : FVec Ideal S4096x1 .f32) (R : Fin 4096) :
    k0_pay1 (F := Ideal) (cmpf .oeq p (broadcast S4096x1 (Scalar.ofBits .f32 0x00000000#32))) (divf p (broadcast S4096x1 (Scalar.ofBits .f32 0x43E00000#32))) (Scalar.ofBits .f32 0x3F800000#32) (ix2 R 0)
      = scaleOf (p (ix2 R 0)) := by
  pointwise! [k0_pay1, scaleOf]

theorem codes_first (v : FVec Ideal S4096x1280 .f32) (a : IVec S4096x1 1) (b : FVec Ideal S4096x1 .f32) (R : Fin 4096) (j : Fin 1280) :
    k0_pay12 (F := Ideal) v a b (ix2 R j) = quant (k0_pay11 (F := Ideal) a b (ix2 R 0)) (v (ix2 R j)) := by
  pointwise! [k0_pay12, quant]

theorem codes_second (v : FVec Ideal S4096x3420 .f32) (a : IVec S4096x1 1) (b : FVec Ideal S4096x1 .f32) (q : Ideal .f32) (R : Fin 4096) (j : Fin 3420) :
    k0_pay2 (F := Ideal) v a b q (ix2 R j) = quant (k0_pay1 (F := Ideal) a b q (ix2 R 0)) (v (ix2 R j)) := by
  pointwise! [k0_pay2, quant]

theorem act_at (v : FVec Ideal S4096x1280 .f32) (a : IVec S4096x1 1) (b : FVec Ideal S4096x1 .f32) (wg : Vec Ideal S1280x3420 .fp8e4m3) (sg bg : Vec Ideal S1x3420 .f32)
    (wu : Vec Ideal S1280x3420 .fp8e4m3) (su bu : Vec Ideal S1x3420 .f32) (R : Fin 4096) (j : Fin 3420) :
    k0_pay13 (F := Ideal) v a b wg sg bg wu su bu (ix2 R j)
      = glu (lin (fun x => k0_pay12 (F := Ideal) v a b (ix2 R x)) (k0_pay11 (F := Ideal) a b (ix2 R 0)) (fun x => wg (ix2 x j)) (sg (ix2 0 j)) (bg (ix2 0 j)))
          (lin (fun x => k0_pay12 (F := Ideal) v a b (ix2 R x)) (k0_pay11 (F := Ideal) a b (ix2 R 0)) (fun x => wu (ix2 x j)) (su (ix2 0 j)) (bu (ix2 0 j))) := by
  pointwise! [k0_pay13, glu, lin]

theorem amax_second (v : FVec Ideal S4096x1280 .f32) (a : IVec S4096x1 1) (b : FVec Ideal S4096x1 .f32) (wg : Vec Ideal S1280x3420 .fp8e4m3) (sg bg : Vec Ideal S1x3420 .f32)
    (wu : Vec Ideal S1280x3420 .fp8e4m3) (su bu : Vec Ideal S1x3420 .f32) (R : Fin 4096) :
    k0_pay14 (F := Ideal) v a b wg sg bg wu su bu (ix2 R 0) = topAbs (fun j => k0_pay13 (F := Ideal) v a b wg sg bg wu su bu (ix2 R j)) := by
  pointwise! [k0_pay14, topAbs]

theorem out_at (y : FVec Ideal S4096x1280 .f32) (v : FVec Ideal S4096x3420 .f32) (a : IVec S4096x1 1) (b : FVec Ideal S4096x1 .f32) (q : Ideal .f32)
    (wd : Vec Ideal S3420x1280 .fp8e4m3) (sd bd : Vec Ideal S1x1280 .f32) (R : Fin 4096) (j : Fin 1280) :
    k0_pay3 (F := Ideal) y v a b q wd sd bd (ix2 R j)
      = y (ix2 R j) + lin (fun x => k0_pay2 (F := Ideal) v a b q (ix2 R x)) (k0_pay1 (F := Ideal) a b q (ix2 R 0)) (fun x => wd (ix2 x j)) (sd (ix2 0 j)) (bd (ix2 0 j)) := by
  pointwise! [k0_pay3, lin]

theorem scales_first (v : FVec Ideal S4096x1 .f32) (a : Fin 16) (r : Fin 256) :
    k0_pay4 (F := Ideal) v (ix3 a 0 r) = v (ix2 ⟨256 * a.val + r.val, by omega⟩ 0) := by
  have : k0_pay4 (F := Ideal) v (ix3 a 0 r) = v (ix2 ⟨a.val * 256 + r.val, by omega⟩ 0) := by
    pointwise [k0_pay4]
  rw [this]
  congr 2
  apply Fin.ext
  show a.val * 256 + r.val = 256 * a.val + r.val
  omega

theorem scales_second (p : IVec S4096x1 1) (b : FVec Ideal S4096x1 .f32) (q : Ideal .f32) (a : Fin 16) (r : Fin 256) :
    k0_pay5 (F := Ideal) p b q (ix3 a 0 r) = k0_pay1 (F := Ideal) p b q (ix2 ⟨256 * a.val + r.val, by omega⟩ 0) := by
  unfold k0_pay5
  exact scales_first _ a r

section

variable (a0 : Vec Ideal S4096x1280 .bf16) (a1 : Vec Ideal S4096x1280 .fp8e4m3) (a2 : Vec Ideal S16x1x256 .f32) (a3 : Vec Ideal S1280x1280 .fp8e4m3) (a4 : Vec Ideal S1x1280 .f32) (a5 : Vec Ideal S1x1280 .f32) (a6 : Vec Ideal S1x1280 .f32) (a7 : Vec Ideal S1280x3420 .fp8e4m3) (a8 : Vec Ideal S1x3420 .f32) (a9 : Vec Ideal S1x3420 .f32) (a10 : Vec Ideal S1280x3420 .fp8e4m3) (a11 : Vec Ideal S1x3420 .f32) (a12 : Vec Ideal S1x3420 .f32) (a13 : Vec Ideal S3420x1280 .fp8e4m3) (a14 : Vec Ideal S1x1280 .f32) (a15 : Vec Ideal S1x1280 .f32) (R : Fin 4096)

/-- The call's weights, read off the arrays. -/
def weightsOf : Weights where
  wo x j := a3 (ix2 x j)
  so j := a4 (ix2 0 j)
  bo j := a5 (ix2 0 j)
  g j := a6 (ix2 0 j)
  wg x j := a7 (ix2 x j)
  sg j := a8 (ix2 0 j)
  bg j := a9 (ix2 0 j)
  wu x j := a10 (ix2 x j)
  su j := a11 (ix2 0 j)
  bu j := a12 (ix2 0 j)
  wd x j := a13 (ix2 x j)
  sd j := a14 (ix2 0 j)
  bd j := a15 (ix2 0 j)

/-- Row `R` of the call's row operands. -/
def rowOf : Row where
  h j := a0 (ix2 R j)
  oc j := a1 (ix2 R j)
  os := a2 (ix3 ⟨R.val / 256, by omega⟩ 0 ⟨R.val % 256, by omega⟩)

theorem h1_at (j : Fin 1280) : k0_pay6 (F := Ideal) a0 a1 a2 a3 a4 a5 (ix2 R j) = h1 (weightsOf a3 a4 a5 a6 a7 a8 a9 a10 a11 a12 a13 a14 a15) (rowOf a0 a1 a2 R) j := by
  have : k0_pay6 (F := Ideal) a0 a1 a2 a3 a4 a5 (ix2 R j)
      = a0 (ix2 R j) + lin (fun x => a1 (ix2 R x)) (a2 (ix3 ⟨R.val / 256, by omega⟩ 0 ⟨R.val % 256, by omega⟩)) (fun x => a3 (ix2 x j)) (a4 (ix2 0 j)) (a5 (ix2 0 j)) := by
    pointwise! [k0_pay6, lin]
  exact this

theorem normed_at (j : Fin 1280) : k0_pay7 (F := Ideal) a0 a1 a2 a3 a4 a5 a6 (ix2 R j) = normed (weightsOf a3 a4 a5 a6 a7 a8 a9 a10 a11 a12 a13 a14 a15) (rowOf a0 a1 a2 R) j := by
  have : k0_pay7 (F := Ideal) a0 a1 a2 a3 a4 a5 a6 (ix2 R j)
      = Ideal.div (k0_pay6 (F := Ideal) a0 a1 a2 a3 a4 a5 (ix2 R j)) (rms fun x => k0_pay6 (F := Ideal) a0 a1 a2 a3 a4 a5 (ix2 R x)) * a6 (ix2 0 j) := by
    pointwise! [k0_pay7, rms]
  rw [this]
  simp only [h1_at a0 a1 a2 a3 a4 a5 a6 a7 a8 a9 a10 a11 a12 a13 a14 a15]
  rfl

theorem amax_first : k0_pay8 (F := Ideal) a0 a1 a2 a3 a4 a5 a6 (ix2 R 0) = topAbs (normed (weightsOf a3 a4 a5 a6 a7 a8 a9 a10 a11 a12 a13 a14 a15) (rowOf a0 a1 a2 R)) := by
  have : k0_pay8 (F := Ideal) a0 a1 a2 a3 a4 a5 a6 (ix2 R 0) = topAbs fun x => k0_pay7 (F := Ideal) a0 a1 a2 a3 a4 a5 a6 (ix2 R x) := by
    pointwise! [k0_pay8, topAbs]
  rw [this]
  simp only [normed_at a0 a1 a2 a3 a4 a5 a6 a7 a8 a9 a10 a11 a12 a13 a14 a15]

theorem scale1 : k0_pay11 (F := Ideal) (k0_pay9 (F := Ideal) a0 a1 a2 a3 a4 a5 a6) (k0_pay10 (F := Ideal) a0 a1 a2 a3 a4 a5 a6) (ix2 R 0) = guScale (weightsOf a3 a4 a5 a6 a7 a8 a9 a10 a11 a12 a13 a14 a15) (rowOf a0 a1 a2 R) :=
  (scale_first (k0_pay8 (F := Ideal) a0 a1 a2 a3 a4 a5 a6) R).trans (congrArg scaleOf (amax_first a0 a1 a2 a3 a4 a5 a6 a7 a8 a9 a10 a11 a12 a13 a14 a15 R))

theorem codes1 (j : Fin 1280) : k0_pay12 (F := Ideal) (k0_pay7 (F := Ideal) a0 a1 a2 a3 a4 a5 a6) (k0_pay9 (F := Ideal) a0 a1 a2 a3 a4 a5 a6) (k0_pay10 (F := Ideal) a0 a1 a2 a3 a4 a5 a6) (ix2 R j) = guCodes (weightsOf a3 a4 a5 a6 a7 a8 a9 a10 a11 a12 a13 a14 a15) (rowOf a0 a1 a2 R) j := by
  rw [codes_first, scale1 a0 a1 a2 a3 a4 a5 a6 a7 a8 a9 a10 a11 a12 a13 a14 a15, normed_at a0 a1 a2 a3 a4 a5 a6 a7 a8 a9 a10 a11 a12 a13 a14 a15]
  rfl

/-- The activation's arguments. -/
theorem act1 (j : Fin 3420) : k0_pay13 (F := Ideal) (k0_pay7 (F := Ideal) a0 a1 a2 a3 a4 a5 a6) (k0_pay9 (F := Ideal) a0 a1 a2 a3 a4 a5 a6) (k0_pay10 (F := Ideal) a0 a1 a2 a3 a4 a5 a6) a7 a8 a9 a10 a11 a12 (ix2 R j) = act (weightsOf a3 a4 a5 a6 a7 a8 a9 a10 a11 a12 a13 a14 a15) (rowOf a0 a1 a2 R) j := by
  rw [act_at]
  simp only [scale1 a0 a1 a2 a3 a4 a5 a6 a7 a8 a9 a10 a11 a12 a13 a14 a15, codes1 a0 a1 a2 a3 a4 a5 a6 a7 a8 a9 a10 a11 a12 a13 a14 a15]
  rfl

theorem amax2 : k0_pay14 (F := Ideal) (k0_pay7 (F := Ideal) a0 a1 a2 a3 a4 a5 a6) (k0_pay9 (F := Ideal) a0 a1 a2 a3 a4 a5 a6) (k0_pay10 (F := Ideal) a0 a1 a2 a3 a4 a5 a6) a7 a8 a9 a10 a11 a12 (ix2 R 0) = topAbs (act (weightsOf a3 a4 a5 a6 a7 a8 a9 a10 a11 a12 a13 a14 a15) (rowOf a0 a1 a2 R)) := by
  rw [amax_second]
  simp only [act1 a0 a1 a2 a3 a4 a5 a6 a7 a8 a9 a10 a11 a12 a13 a14 a15]

/-! ## The values the stores name -/

theorem pay17_eq : k0_pay17 (F := Ideal) a0 a1 a2 a3 a4 a5 a6 a7 a8 a9 a10 a11 a12 a13 a14 a15 = k0_pay7 (F := Ideal) a0 a1 a2 a3 a4 a5 a6 := by
  unfold k0_pay17
  rw [View.ld_unit_zero (S := S4096x1280) hz0 _ a0, View.ld_unit_zero (S := S4096x1280) hz1 _ a1, View.ld_unit_zero (S := S16x1x256) hz2 _ a2, View.ld_unit_zero (S := S1280x1280) hz3 _ a3, View.ld_unit_zero (S := S1x1280) hz4 _ a4, View.ld_unit_zero (S := S1x1280) hz5 _ a5, View.ld_unit_zero (S := S1x1280) hz6 _ a6]

theorem pay18_eq : k0_pay18 (F := Ideal) a0 a1 a2 a3 a4 a5 a6 a7 a8 a9 a10 a11 a12 a13 a14 a15 = k0_pay9 (F := Ideal) a0 a1 a2 a3 a4 a5 a6 := by
  unfold k0_pay18
  rw [View.ld_unit_zero (S := S4096x1280) hz0 _ a0, View.ld_unit_zero (S := S4096x1280) hz1 _ a1, View.ld_unit_zero (S := S16x1x256) hz2 _ a2, View.ld_unit_zero (S := S1280x1280) hz3 _ a3, View.ld_unit_zero (S := S1x1280) hz4 _ a4, View.ld_unit_zero (S := S1x1280) hz5 _ a5, View.ld_unit_zero (S := S1x1280) hz6 _ a6]

theorem pay19_eq : k0_pay19 (F := Ideal) a0 a1 a2 a3 a4 a5 a6 a7 a8 a9 a10 a11 a12 a13 a14 a15 = k0_pay10 (F := Ideal) a0 a1 a2 a3 a4 a5 a6 := by
  unfold k0_pay19
  rw [View.ld_unit_zero (S := S4096x1280) hz0 _ a0, View.ld_unit_zero (S := S4096x1280) hz1 _ a1, View.ld_unit_zero (S := S16x1x256) hz2 _ a2, View.ld_unit_zero (S := S1280x1280) hz3 _ a3, View.ld_unit_zero (S := S1x1280) hz4 _ a4, View.ld_unit_zero (S := S1x1280) hz5 _ a5, View.ld_unit_zero (S := S1x1280) hz6 _ a6]

theorem pay20_eq : k0_pay20 (F := Ideal) a0 a1 a2 a3 a4 a5 a6 a7 a8 a9 a10 a11 a12 a13 a14 a15 = k0_pay13 (F := Ideal) (k0_pay7 (F := Ideal) a0 a1 a2 a3 a4 a5 a6) (k0_pay9 (F := Ideal) a0 a1 a2 a3 a4 a5 a6) (k0_pay10 (F := Ideal) a0 a1 a2 a3 a4 a5 a6) a7 a8 a9 a10 a11 a12 := by
  unfold k0_pay20
  rw [pay17_eq, pay18_eq, pay19_eq, View.ld_unit_zero (S := S1280x3420) hz7 _ a7, View.ld_unit_zero (S := S1x3420) hz8 _ a8, View.ld_unit_zero (S := S1x3420) hz9 _ a9, View.ld_unit_zero (S := S1280x3420) hz10 _ a10, View.ld_unit_zero (S := S1x3420) hz11 _ a11, View.ld_unit_zero (S := S1x3420) hz12 _ a12]

theorem pay21_eq : k0_pay21 (F := Ideal) a0 a1 a2 a3 a4 a5 a6 a7 a8 a9 a10 a11 a12 a13 a14 a15 = k0_pay15 (F := Ideal) (k0_pay7 (F := Ideal) a0 a1 a2 a3 a4 a5 a6) (k0_pay9 (F := Ideal) a0 a1 a2 a3 a4 a5 a6) (k0_pay10 (F := Ideal) a0 a1 a2 a3 a4 a5 a6) a7 a8 a9 a10 a11 a12 := by
  unfold k0_pay21
  rw [pay17_eq, pay18_eq, pay19_eq, View.ld_unit_zero (S := S1280x3420) hz7 _ a7, View.ld_unit_zero (S := S1x3420) hz8 _ a8, View.ld_unit_zero (S := S1x3420) hz9 _ a9, View.ld_unit_zero (S := S1280x3420) hz10 _ a10, View.ld_unit_zero (S := S1x3420) hz11 _ a11, View.ld_unit_zero (S := S1x3420) hz12 _ a12]

theorem pay22_eq : k0_pay22 (F := Ideal) a0 a1 a2 a3 a4 a5 a6 a7 a8 a9 a10 a11 a12 a13 a14 a15 = k0_pay16 (F := Ideal) (k0_pay7 (F := Ideal) a0 a1 a2 a3 a4 a5 a6) (k0_pay9 (F := Ideal) a0 a1 a2 a3 a4 a5 a6) (k0_pay10 (F := Ideal) a0 a1 a2 a3 a4 a5 a6) a7 a8 a9 a10 a11 a12 := by
  unfold k0_pay22
  rw [pay17_eq, pay18_eq, pay19_eq, View.ld_unit_zero (S := S1280x3420) hz7 _ a7, View.ld_unit_zero (S := S1x3420) hz8 _ a8, View.ld_unit_zero (S := S1x3420) hz9 _ a9, View.ld_unit_zero (S := S1280x3420) hz10 _ a10, View.ld_unit_zero (S := S1x3420) hz11 _ a11, View.ld_unit_zero (S := S1x3420) hz12 _ a12]

theorem scale2 : k0_pay1 (F := Ideal) (k0_pay21 (F := Ideal) a0 a1 a2 a3 a4 a5 a6 a7 a8 a9 a10 a11 a12 a13 a14 a15) (k0_pay22 (F := Ideal) a0 a1 a2 a3 a4 a5 a6 a7 a8 a9 a10 a11 a12 a13 a14 a15) (Scalar.ofBits .f32 0x3F800000#32) (ix2 R 0) = downScale (weightsOf a3 a4 a5 a6 a7 a8 a9 a10 a11 a12 a13 a14 a15) (rowOf a0 a1 a2 R) := by
  rw [pay21_eq, pay22_eq]
  exact (scale_second (k0_pay14 (F := Ideal) (k0_pay7 (F := Ideal) a0 a1 a2 a3 a4 a5 a6) (k0_pay9 (F := Ideal) a0 a1 a2 a3 a4 a5 a6) (k0_pay10 (F := Ideal) a0 a1 a2 a3 a4 a5 a6) a7 a8 a9 a10 a11 a12) R).trans (congrArg scaleOf (amax2 a0 a1 a2 a3 a4 a5 a6 a7 a8 a9 a10 a11 a12 a13 a14 a15 R))

theorem codes2 (j : Fin 3420) : k0_pay2 (F := Ideal) (k0_pay20 (F := Ideal) a0 a1 a2 a3 a4 a5 a6 a7 a8 a9 a10 a11 a12 a13 a14 a15) (k0_pay21 (F := Ideal) a0 a1 a2 a3 a4 a5 a6 a7 a8 a9 a10 a11 a12 a13 a14 a15) (k0_pay22 (F := Ideal) a0 a1 a2 a3 a4 a5 a6 a7 a8 a9 a10 a11 a12 a13 a14 a15) (Scalar.ofBits .f32 0x3F800000#32) (ix2 R j) = downCodes (weightsOf a3 a4 a5 a6 a7 a8 a9 a10 a11 a12 a13 a14 a15) (rowOf a0 a1 a2 R) j := by
  rw [codes_second, scale2, pay20_eq, act1]
  rfl

/-! ## The five results -/

theorem G16_at (j : Fin 1280) : G16 (F := Ideal) a0 a1 a2 a3 a4 a5 a6 a7 a8 a9 a10 a11 a12 a13 a14 a15 (ix2 R j) = out (weightsOf a3 a4 a5 a6 a7 a8 a9 a10 a11 a12 a13 a14 a15) (rowOf a0 a1 a2 R) j := by
  unfold G16
  rw [out_at, scale2, h1_at a0 a1 a2 a3 a4 a5 a6 a7 a8 a9 a10 a11 a12 a13 a14 a15]
  simp only [codes2]
  rfl

theorem G17_at (j : Fin 1280) : G17 (F := Ideal) a0 a1 a2 a3 a4 a5 a6 a7 a8 a9 a10 a11 a12 a13 a14 a15 (ix2 R j) = guCodes (weightsOf a3 a4 a5 a6 a7 a8 a9 a10 a11 a12 a13 a14 a15) (rowOf a0 a1 a2 R) j := by
  unfold G17
  rw [pay17_eq, pay18_eq, pay19_eq]
  exact codes1 a0 a1 a2 a3 a4 a5 a6 a7 a8 a9 a10 a11 a12 a13 a14 a15 R j

theorem G19_at (j : Fin 3420) : G19 (F := Ideal) a0 a1 a2 a3 a4 a5 a6 a7 a8 a9 a10 a11 a12 a13 a14 a15 (ix2 R j) = downCodes (weightsOf a3 a4 a5 a6 a7 a8 a9 a10 a11 a12 a13 a14 a15) (rowOf a0 a1 a2 R) j := codes2 a0 a1 a2 a3 a4 a5 a6 a7 a8 a9 a10 a11 a12 a13 a14 a15 R j

theorem G18_at (a : Fin 16) (r : Fin 256) : G18 (F := Ideal) a0 a1 a2 a3 a4 a5 a6 a7 a8 a9 a10 a11 a12 a13 a14 a15 (ix3 a 0 r) = guScale (weightsOf a3 a4 a5 a6 a7 a8 a9 a10 a11 a12 a13 a14 a15) (rowOf a0 a1 a2 ⟨256 * a.val + r.val, by omega⟩) := by
  unfold G18
  rw [pay18_eq, pay19_eq, scales_first]
  exact scale1 a0 a1 a2 a3 a4 a5 a6 a7 a8 a9 a10 a11 a12 a13 a14 a15 _

theorem G20_at (a : Fin 16) (r : Fin 256) : G20 (F := Ideal) a0 a1 a2 a3 a4 a5 a6 a7 a8 a9 a10 a11 a12 a13 a14 a15 (ix3 a 0 r) = downScale (weightsOf a3 a4 a5 a6 a7 a8 a9 a10 a11 a12 a13 a14 a15) (rowOf a0 a1 a2 ⟨256 * a.val + r.val, by omega⟩) := by
  unfold G20
  rw [scales_second]
  exact scale2 a0 a1 a2 a3 a4 a5 a6 a7 a8 a9 a10 a11 a12 a13 a14 a15 _

end

end Cert.MlpRefIdeal.Value
-- ==== Proof.MlpAgree.lean ====
/- The specification's results as the kernel's run names them are the reference's. -/
module

public import proofs.«01_k».proof.Proof.MlpValue
public import proofs.«01_k».proof.Proof.MlpRefRow

@[expose] public section

set_option maxRecDepth 16384

noncomputable section

namespace Cert.MlpIdeal.Hand

open Idealize.ShloMosaic Idealize.ShloMosaic.TcCoe Idealize.SL.Sem
open Cert.MlpIdeal Cert.MlpIdeal.Gen Cert.MlpRow Cert.MlpRefIdeal.Value

variable (m : (ℓ : Loc nD τ sig) → Buf (Elt Ideal) ℓ)

theorem congr16 {A0 A1 A2 A3 A4 A5 A6 A7 A8 A9 A10 A11 A12 A13 A14 A15 B : Type} (f : A0 → A1 → A2 → A3 → A4 → A5 → A6 → A7 → A8 → A9 → A10 → A11 → A12 → A13 → A14 → A15 → B) {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12} {a13 b13 : A13} {a14 b14 : A14} {a15 b15 : A15} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    f a0 a1 a2 a3 a4 a5 a6 a7 a8 a9 a10 a11 a12 a13 a14 a15 = f b0 b1 b2 b3 b4 b5 b6 b7 b8 b9 b10 b11 b12 b13 b14 b15 := by
  subst h0 h1 h2 h3 h4 h5 h6 h7 h8 h9 h10 h11 h12 h13 h14 h15
  rfl

theorem forall_rows {P : (⟨3, ![16, 1, 256]⟩ : Shape).Idx → Prop} (h : ∀ (a : Fin 16) (r : Fin 256), P (ix3 a 0 r)) (i : (⟨3, ![16, 1, 256]⟩ : Shape).Idx) :
    P i := by
  have hall : ∀ (a : Fin 16) (b : Fin 1) (r : Fin 256), P (ix3 a b r) := fun a b r => by
    obtain rfl : b = 0 := Subsingleton.elim _ _
    exact h a r
  rw [eq_ix3 i]
  exact hall (i 0) (i 1) (i 2)

theorem agree17 (c : Dev nD) : F17 m c = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  rw [eq_ix2 i]
  exact (G16_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (i 0) (i 1)).symm

theorem agree18 (c : Dev nD) : F18 m c = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  rw [eq_ix2 i]
  exact (G17_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (i 0) (i 1)).symm

theorem agree19 (c : Dev nD) : F19 m c = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  refine forall_rows (P := fun i => F19 m c i = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) i) (fun a r => ?_) i
  refine Eq.trans ?_ (G18_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) a r).symm
  exact congrArg (guScale (weights m c)) (rowR_eq m c a r ⟨256 * a.val + r.val, by omega⟩ rfl).symm

theorem agree20 (c : Dev nD) : F20 m c = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  rw [eq_ix2 i]
  exact (G19_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (i 0) (i 1)).symm

theorem agree21 (c : Dev nD) : F21 m c = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  refine forall_rows (P := fun i => F21 m c i = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) i) (fun a r => ?_) i
  refine Eq.trans ?_ (G20_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) a r).symm
  exact congrArg (downScale (weights m c)) (rowR_eq m c a r ⟨256 * a.val + r.val, by omega⟩ rfl).symm

end Cert.MlpIdeal.Hand
-- ==== Proof.QkvRow.lean ====
/- The query, key and value projection of one row over the extended reals: what each result of the call is, written
   out. -/
module

public import proofs.«01_k».proof.Proof.MlpRow

@[expose] public section

noncomputable section

namespace Cert.QkvRow

open Idealize.ShloMosaic Cert.MlpRow

/-- The weights of the projection, as entries. -/
structure Weights where
  g : Fin 1280 → EReal
  w : Fin 1280 → Fin 3840 → EReal
  s : Fin 3840 → EReal
  b : Fin 3840 → EReal

/-- One row of the call's row operands: the residual and its rotation's cosines and sines. -/
structure Row where
  h : Fin 1280 → EReal
  cos : Fin 80 → EReal
  sin : Fin 80 → EReal

variable (W : Weights) (X : Row)

/-- The normalised row. -/
def normed (j : Fin 1280) : EReal := Ideal.div (X.h j) (rms X.h) * W.g j

/-- The scale of the normalised row. -/
def scale : EReal := scaleOf (topAbs (normed W X))

/-- The codes of the normalised row. -/
def codes (j : Fin 1280) : EReal := quant (scale W X) (normed W X j)

/-- A column of the projection. -/
def proj (j : Fin 3840) : EReal := lin (codes W X) (scale W X) (fun x => W.w x j) (W.s j) (W.b j)

/-- A list of entries, read at any number: zero past its end. -/
def at' {n : ℕ} (f : Fin n → EReal) (i : ℕ) : EReal := if h : i < n then f ⟨i, h⟩ else 0

theorem at'_val {n : ℕ} (f : Fin n → EReal) (i : Fin n) : at' f i.val = f i := dif_pos i.isLt

theorem at'_of_lt {n : ℕ} (f : Fin n → EReal) {i : ℕ} (h : i < n) : at' f i = f ⟨i, h⟩ := dif_pos h

/-- Entry `d` of a head of 80, turned: the entry and its partner of the other half, by cosines and sines. -/
def turn (t c s : ℕ → EReal) (d : ℕ) : EReal :=
  if d < 40 then t d * c d - t (d + 40) * s d else t d * c d + t (d - 40) * s d

/-- Entry `n` of the heads that begin at column `o` of the projection, turned. -/
def turned (o n : ℕ) : EReal :=
  turn (fun d => at' (proj W X) (o + 80 * (n / 80) + d)) (at' X.cos) (at' X.sin) (n % 80)

/-- The queries: the projection's first 16 heads, turned. -/
def q (n : Fin 1280) : EReal := turned W X 0 n.val

/-- The keys: the next 16 heads, turned. -/
def k (n : Fin 1280) : EReal := turned W X 1280 n.val

/-- The values: the last 16 heads. -/
def v (n : Fin 1280) : EReal := at' (proj W X) (2560 + n.val)

end Cert.QkvRow

end
-- ==== Proof.QkvBlock.lean ====
/- One grid point of the projection over the extended reals: the block each store writes, as a function of the values
   the body loads, and each of its entries as the row's result (`QkvRow`). -/
module

public import proofs.«01_k».proof.Proof.QkvRow
public import proofs.«01_k».proof.Proof.Gen.QkvIdeal.Skeleton
public import Idealize.ShloMosaic.Lib.Pointwise
public import Idealize.ShloMosaic.Lib.Pipeline.FrameBody
public import Idealize.ShloMosaic.Lib.Pipeline.Value

@[expose] public section

set_option maxRecDepth 16384

noncomputable section

namespace Cert.QkvIdeal.Hand

open Idealize.ShloMosaic Idealize.ShloMosaic.TcCoe
open Cert.QkvIdeal.Gen Cert.QkvRow
open Cert.MlpRow (rms scaleOf topAbs quant lin quant_recip scaleOf_ne_zero rms_ne_zero)

/-- What the body loads at one point: the rows' operands, and the transposed weights with their scales and biases, a
    head of the queries or values at a time and 8 heads of the keys. -/
structure Loads where
  h : Vec Ideal S256x1280 .bf16
  cos : Vec Ideal S256x80 .f32
  sin : Vec Ideal S256x80 .f32
  g : Vec Ideal S1x1280 .f32
  wq : Fin 16 → Vec Ideal S80x1280 .fp8e4m3
  sq : Fin 16 → Vec Ideal S80x128 .f32
  bq : Fin 16 → Vec Ideal S80x128 .f32
  wk : Fin 2 → Vec Ideal S640x1280 .fp8e4m3
  sk : Fin 2 → Vec Ideal S640x128 .f32
  bk : Fin 2 → Vec Ideal S640x128 .f32
  wv : Fin 16 → Vec Ideal S80x1280 .fp8e4m3
  sv : Fin 16 → Vec Ideal S80x128 .f32
  bv : Fin 16 → Vec Ideal S80x128 .f32

/-- The rows of head `h`, of 1280. -/
theorem head_in (h : Fin 16) : ∀ a, (![80 * h.val, 0] : Fin 2 → ℕ) a + (![80, 256] : Fin 2 → ℕ) a ≤ (![1280, 256] : Fin 2 → ℕ) a := by
  intro a
  fin_cases a
  · have := h.isLt; simp; omega
  · simp

theorem half_in (j : Fin 2) : ∀ a, (![0, 640 * j.val] : Fin 2 → ℕ) a + (![256, 640] : Fin 2 → ℕ) a ≤ (![256, 1280] : Fin 2 → ℕ) a := by
  intro a
  fin_cases a
  · simp
  · have := j.isLt; simp; omega

def last16 : List (Fin 16) := [15, 14, 13, 12, 11, 10, 9, 8, 7, 6, 5, 4, 3, 2, 1, 0]
def last2 : List (Fin 2) := [1, 0]

namespace Loads

variable (T : Loads)

/-- The scales of the rows, as a column and as a row. -/
def S : FVec Ideal S256x1 .f32 := k0_pay104 T.h T.g
def R : FVec Ideal S1x256 .f32 := k0_pay106 T.S
/-- The codes of the rows. -/
def C : FVec Ideal S256x1280 .fp8e4m3 := k0_pay105 T.h T.g
/-- The cosines and sines, transposed, in halves. -/
def c1 : FVec Ideal S40x256 .f32 := k0_pay110 T.cos
def c2 : FVec Ideal S40x256 .f32 := k0_pay111 T.cos
def s1 : FVec Ideal S40x256 .f32 := k0_pay112 T.sin
def s2 : FVec Ideal S40x256 .f32 := k0_pay113 T.sin

/-- A head of the queries. -/
def qHead (h : Fin 16) : FVec Ideal S80x256 .bf16 := k0_pay136 T.c1 T.c2 T.s1 T.s2 (k0_pay134 T.C T.R (T.wq h) (T.sq h) (T.bq h)) (k0_pay135 T.C T.R (T.wq h) (T.sq h) (T.bq h))
/-- A head of the values. -/
def vHead (h : Fin 16) : FVec Ideal S80x256 .bf16 := k0_pay125 T.C T.R (T.wv h) (T.sv h) (T.bv h)
/-- Eight heads of the keys, before they are turned. -/
def kFlat (j : Fin 2) : FVec Ideal S640x256 .f32 := k0_pay169 T.C T.R (T.wk j) (T.sk j) (T.bk j)
/-- Eight heads of the keys. -/
def kHalf (j : Fin 2) : FVec Ideal S256x640 .bf16 :=
  k0_pay1 T.c1 T.c2 T.s1 T.s2 (T.kFlat j) (k0_pay170 T.C T.R T.c1 T.c2 T.s1 T.s2 (T.wk j) (T.sk j) (T.bk j))
    (k0_pay173 T.c1 T.c2 T.s1 T.s2 (k0_pay171 T.C T.R (T.wk j) (T.sk j) (T.bk j)) (k0_pay172 T.C T.R (T.wk j) (T.sk j) (T.bk j)))
    (k0_pay174 T.c1 T.c2 T.s1 T.s2 (T.kFlat j)) (k0_pay175 T.c1 T.c2 T.s1 T.s2 (T.kFlat j)) (k0_pay176 T.c1 T.c2 T.s1 T.s2 (T.kFlat j))
    (k0_pay177 T.c1 T.c2 T.s1 T.s2 (T.kFlat j)) (k0_pay178 T.c1 T.c2 T.s1 T.s2 (T.kFlat j))

/-- The stores of the queries, a head each. -/
def qPiece (h : Fin 16) : View.Piece (Elt Ideal) S1280x256 .bf16 := ⟨Rect.unit ![80 * h.val, 0] S80x256.size (head_in h), T.qHead h⟩
def vPiece (h : Fin 16) : View.Piece (Elt Ideal) S1280x256 .bf16 := ⟨Rect.unit ![80 * h.val, 0] S80x256.size (head_in h), T.vHead h⟩
def kPiece (j : Fin 2) : View.Piece (Elt Ideal) S256x1280 .bf16 := ⟨Rect.unit ![0, 640 * j.val] S256x640.size (half_in j), T.kHalf j⟩

/-- The stores, the last one first. -/
def qs : List (View.Piece (Elt Ideal) S1280x256 .bf16) := last16.map T.qPiece
def vs : List (View.Piece (Elt Ideal) S1280x256 .bf16) := last16.map T.vPiece
def ks : List (View.Piece (Elt Ideal) S256x1280 .bf16) := last2.map T.kPiece

end Loads

/-! ## One row -/

/-- The loads at row `r` are the row's operands and the weights. -/
structure Loads.Fits (T : Loads) (W : Weights) (X : Row) (r : Fin 256) : Prop where
  h : ∀ j, T.h (ix2 r j) = X.h j
  cos : ∀ d, T.cos (ix2 r d) = X.cos d
  sin : ∀ d, T.sin (ix2 r d) = X.sin d
  g : ∀ j, T.g (ix2 0 j) = W.g j
  wq : ∀ h (d : Fin 80) x, T.wq h (ix2 d x) = W.w x ⟨80 * h.val + d.val, by omega⟩
  sq : ∀ h (d : Fin 80) l, T.sq h (ix2 d l) = W.s ⟨80 * h.val + d.val, by omega⟩
  bq : ∀ h (d : Fin 80) l, T.bq h (ix2 d l) = W.b ⟨80 * h.val + d.val, by omega⟩
  wk : ∀ j (d : Fin 640) x, T.wk j (ix2 d x) = W.w x ⟨1280 + 640 * j.val + d.val, by omega⟩
  sk : ∀ j (d : Fin 640) l, T.sk j (ix2 d l) = W.s ⟨1280 + 640 * j.val + d.val, by omega⟩
  bk : ∀ j (d : Fin 640) l, T.bk j (ix2 d l) = W.b ⟨1280 + 640 * j.val + d.val, by omega⟩
  wv : ∀ h (d : Fin 80) x, T.wv h (ix2 d x) = W.w x ⟨2560 + 80 * h.val + d.val, by omega⟩
  sv : ∀ h (d : Fin 80) l, T.sv h (ix2 d l) = W.s ⟨2560 + 80 * h.val + d.val, by omega⟩
  bv : ∀ h (d : Fin 80) l, T.bv h (ix2 d l) = W.b ⟨2560 + 80 * h.val + d.val, by omega⟩

variable {T : Loads} {W : Weights} {X : Row} {r : Fin 256}

theorem normed_row (f : T.Fits W X r) (j : Fin 1280) : k0_pay103 (F := Ideal) T.h T.g (ix2 r j) = normed W X j := by
  have : k0_pay103 (F := Ideal) T.h T.g (ix2 r j)
      = T.h (ix2 r j) * Ideal.div 1 (rms (fun j => T.h (ix2 r j))) * T.g (ix2 0 j) := by
    pointwise! [k0_pay103, rms]
  rw [this]
  simp only [f.h, f.g]
  rw [Ideal.mul_one_div (rms_ne_zero _)]
  rfl

theorem S_row (f : T.Fits W X r) : T.S (ix2 r 0) = scale W X := by
  have : T.S (ix2 r 0) = scaleOf (topAbs fun x => k0_pay103 (F := Ideal) T.h T.g (ix2 r x)) := by
    pointwise! [Loads.S, k0_pay104, scaleOf, topAbs]
  rw [this]
  simp only [normed_row f, scale]

theorem C_row (f : T.Fits W X r) (j : Fin 1280) : T.C (ix2 r j) = codes W X j := by
  have : T.C (ix2 r j) = min (Ideal.ofBits .f32 1138753536#32) (max (Ideal.ofBits .f32 3286237184#32)
      (k0_pay103 (F := Ideal) T.h T.g (ix2 r j) * Ideal.div 1 (T.S (ix2 r 0)))) := by
    pointwise! [Loads.C, k0_pay105, Loads.S]
  rw [this, normed_row f, S_row f, quant_recip (s := scale W X) (scaleOf_ne_zero _)]
  rfl

theorem R_row (f : T.Fits W X r) : T.R (ix2 0 r) = scale W X := by
  have : T.R (ix2 0 r) = T.S (ix2 r 0) := by
    pointwise! [Loads.R, k0_pay106]
  rw [this, S_row f]

theorem scale_row (f : T.Fits W X r) : k0_pay107 (F := Ideal) T.S (ix3 0 0 r) = scale W X := by
  have : k0_pay107 (F := Ideal) T.S (ix3 0 0 r) = T.S (ix2 r 0) := by
    pointwise! [k0_pay107, k0_pay106]
  rw [this, S_row f]

theorem c1_row (f : T.Fits W X r) (d : Fin 40) : T.c1 (ix2 d r) = at' X.cos d.val := by
  rw [at'_of_lt _ (by omega : d.val < 80), ← f.cos]
  pointwise! [Loads.c1, k0_pay110, k0_pay108]
theorem c2_row (f : T.Fits W X r) (d : Fin 40) : T.c2 (ix2 d r) = at' X.cos (40 + d.val) := by
  rw [at'_of_lt _ (by omega : 40 + d.val < 80), ← f.cos]
  pointwise! [Loads.c2, k0_pay111, k0_pay108]
theorem s1_row (f : T.Fits W X r) (d : Fin 40) : T.s1 (ix2 d r) = at' X.sin d.val := by
  rw [at'_of_lt _ (by omega : d.val < 80), ← f.sin]
  pointwise! [Loads.s1, k0_pay112, k0_pay109]
theorem s2_row (f : T.Fits W X r) (d : Fin 40) : T.s2 (ix2 d r) = at' X.sin (40 + d.val) := by
  rw [at'_of_lt _ (by omega : 40 + d.val < 80), ← f.sin]
  pointwise! [Loads.s2, k0_pay113, k0_pay109]

section Flat
variable (C : FVec Ideal S256x1280 .fp8e4m3) (R : FVec Ideal S1x256 .f32)

/-! The projection before it is turned, at an entry: scales and biases are the same in every lane. -/

theorem flat_80 (w : Vec Ideal S80x1280 .fp8e4m3) (s b : Vec Ideal S80x128 .f32) (d : Fin 80) (r : Fin 256) (σ β : EReal)
    (hs : ∀ l, s (ix2 d l) = σ) (hb : ∀ l, b (ix2 d l) = β) :
    k0_pay133 (F := Ideal) C R w s b (ix2 d r) = lin (fun x => C (ix2 r x)) (R (ix2 0 r)) (fun x => w (ix2 d x)) σ β := by
  pointwise [k0_pay133, lin]
  simp only [hs, hb, dite_eq_ite, ite_self, mul_comm]

theorem value_80 (w : Vec Ideal S80x1280 .fp8e4m3) (s b : Vec Ideal S80x128 .f32) (d : Fin 80) (r : Fin 256) (σ β : EReal)
    (hs : ∀ l, s (ix2 d l) = σ) (hb : ∀ l, b (ix2 d l) = β) :
    k0_pay125 (F := Ideal) C R w s b (ix2 d r) = lin (fun x => C (ix2 r x)) (R (ix2 0 r)) (fun x => w (ix2 d x)) σ β := by
  pointwise [k0_pay125, lin]
  simp only [hs, hb, dite_eq_ite, ite_self, mul_comm]

theorem flat_640 (w : Vec Ideal S640x1280 .fp8e4m3) (s b : Vec Ideal S640x128 .f32) (d : Fin 640) (r : Fin 256) (σ β : EReal)
    (hs : ∀ l, s (ix2 d l) = σ) (hb : ∀ l, b (ix2 d l) = β) :
    k0_pay169 (F := Ideal) C R w s b (ix2 d r) = lin (fun x => C (ix2 r x)) (R (ix2 0 r)) (fun x => w (ix2 d x)) σ β := by
  pointwise [k0_pay169, lin]
  simp only [hs, hb, dite_eq_ite, ite_self, mul_comm]

end Flat

theorem qFlat_row (f : T.Fits W X r) (h : Fin 16) (d : Fin 80) :
    k0_pay133 (F := Ideal) T.C T.R (T.wq h) (T.sq h) (T.bq h) (ix2 d r) = at' (proj W X) (80 * h.val + d.val) := by
  rw [at'_of_lt _ (by omega : 80 * h.val + d.val < 3840), flat_80 _ _ _ _ _ _ _ _ _ (f.sq h d) (f.bq h d)]
  simp only [f.wq, C_row f, R_row f, proj]

theorem vHead_row (f : T.Fits W X r) (h : Fin 16) (d : Fin 80) : T.vHead h (ix2 d r) = at' (proj W X) (2560 + 80 * h.val + d.val) := by
  rw [at'_of_lt _ (by omega : 2560 + 80 * h.val + d.val < 3840), Loads.vHead, value_80 _ _ _ _ _ _ _ _ _ (f.sv h d) (f.bv h d)]
  simp only [f.wv, C_row f, R_row f, proj]

theorem kFlat_row (f : T.Fits W X r) (j : Fin 2) (d : Fin 640) :
    T.kFlat j (ix2 d r) = at' (proj W X) (1280 + 640 * j.val + d.val) := by
  rw [at'_of_lt _ (by omega : 1280 + 640 * j.val + d.val < 3840), Loads.kFlat, flat_640 _ _ _ _ _ _ _ _ _ (f.sk j d) (f.bk j d)]
  simp only [f.wk, C_row f, R_row f, proj]

theorem qHead_row (f : T.Fits W X r) (h : Fin 16) (d : Fin 80) :
    T.qHead h (ix2 d r) = turn (fun d => at' (proj W X) (80 * h.val + d)) (at' X.cos) (at' X.sin) d.val := by
  pointwise [Loads.qHead, k0_pay136, k0_pay134, k0_pay135]
  simp only [qFlat_row f, c1_row f, c2_row f, s1_row f, s2_row f, turn]
  split
  · congr 2 <;> exact congrArg _ (by omega)
  · congr 2 <;> exact congrArg _ (by omega)

/-! A head of the keys, turned, from the eight heads before they are turned. -/
section Heads
variable {c1 c2 s1 s2 : FVec Ideal S40x256 .f32} {p : FVec Ideal S640x256 .f32} {t c s : ℕ → EReal} {r : Fin 256}

/-- At row `r`, eight heads and the cosines and sines are these lists. -/
structure Heads (c1 c2 s1 s2 : FVec Ideal S40x256 .f32) (p : FVec Ideal S640x256 .f32) (t c s : ℕ → EReal) (r : Fin 256) : Prop where
  p : ∀ a : Fin 640, p (ix2 a r) = t a.val
  c1 : ∀ d : Fin 40, c1 (ix2 d r) = c d.val
  c2 : ∀ d : Fin 40, c2 (ix2 d r) = c (40 + d.val)
  s1 : ∀ d : Fin 40, s1 (ix2 d r) = s d.val
  s2 : ∀ d : Fin 40, s2 (ix2 d r) = s (40 + d.val)

variable (H : Heads c1 c2 s1 s2 p t c s r)

theorem key_0 (C : FVec Ideal S256x1280 .fp8e4m3) (R : FVec Ideal S1x256 .f32) (w : Vec Ideal S640x1280 .fp8e4m3) (σ β : Vec Ideal S640x128 .f32)
    (H : Heads c1 c2 s1 s2 (k0_pay169 C R w σ β) t c s r) (d : Fin 80) :
    k0_pay170 (F := Ideal) C R c1 c2 s1 s2 w σ β (ix2 d r) = turn (fun d => t (0 + d)) c s d.val := by
  pointwise [k0_pay170]
  simp only [H.p, H.c1, H.c2, H.s1, H.s2, turn]
  split <;> congr 2 <;> exact congrArg _ (by omega)

theorem key_1 (C : FVec Ideal S256x1280 .fp8e4m3) (R : FVec Ideal S1x256 .f32) (w : Vec Ideal S640x1280 .fp8e4m3) (σ β : Vec Ideal S640x128 .f32)
    (H : Heads c1 c2 s1 s2 (k0_pay169 C R w σ β) t c s r) (d : Fin 80) :
    k0_pay173 (F := Ideal) c1 c2 s1 s2 (k0_pay171 C R w σ β) (k0_pay172 C R w σ β) (ix2 d r) = turn (fun d => t (80 + d)) c s d.val := by
  pointwise [k0_pay173, k0_pay171, k0_pay172]
  simp only [H.p, H.c1, H.c2, H.s1, H.s2, turn]
  split <;> congr 2 <;> exact congrArg _ (by omega)

include H

theorem key_2 (d : Fin 80) : k0_pay174 (F := Ideal) c1 c2 s1 s2 p (ix2 d r) = turn (fun d => t (160 + d)) c s d.val := by
  pointwise [k0_pay174]
  simp only [H.p, H.c1, H.c2, H.s1, H.s2, turn]
  split <;> congr 2 <;> exact congrArg _ (by omega)

theorem key_3 (d : Fin 80) : k0_pay175 (F := Ideal) c1 c2 s1 s2 p (ix2 d r) = turn (fun d => t (240 + d)) c s d.val := by
  pointwise [k0_pay175]
  simp only [H.p, H.c1, H.c2, H.s1, H.s2, turn]
  split <;> congr 2 <;> exact congrArg _ (by omega)

theorem key_4 (d : Fin 80) : k0_pay176 (F := Ideal) c1 c2 s1 s2 p (ix2 d r) = turn (fun d => t (320 + d)) c s d.val := by
  pointwise [k0_pay176]
  simp only [H.p, H.c1, H.c2, H.s1, H.s2, turn]
  split <;> congr 2 <;> exact congrArg _ (by omega)

theorem key_5 (d : Fin 80) : k0_pay177 (F := Ideal) c1 c2 s1 s2 p (ix2 d r) = turn (fun d => t (400 + d)) c s d.val := by
  pointwise [k0_pay177]
  simp only [H.p, H.c1, H.c2, H.s1, H.s2, turn]
  split <;> congr 2 <;> exact congrArg _ (by omega)

theorem key_6 (d : Fin 80) : k0_pay178 (F := Ideal) c1 c2 s1 s2 p (ix2 d r) = turn (fun d => t (480 + d)) c s d.val := by
  pointwise [k0_pay178]
  simp only [H.p, H.c1, H.c2, H.s1, H.s2, turn]
  split <;> congr 2 <;> exact congrArg _ (by omega)

/-- Eight turned heads side by side, the last one turned here. -/
theorem keys (v0 v1 v2 v3 v4 v5 v6 : FVec Ideal S80x256 .f32)
    (h0 : ∀ d, v0 (ix2 d r) = turn (fun d => t (0 + d)) c s d.val) (h1 : ∀ d, v1 (ix2 d r) = turn (fun d => t (80 + d)) c s d.val)
    (h2 : ∀ d, v2 (ix2 d r) = turn (fun d => t (160 + d)) c s d.val) (h3 : ∀ d, v3 (ix2 d r) = turn (fun d => t (240 + d)) c s d.val)
    (h4 : ∀ d, v4 (ix2 d r) = turn (fun d => t (320 + d)) c s d.val) (h5 : ∀ d, v5 (ix2 d r) = turn (fun d => t (400 + d)) c s d.val)
    (h6 : ∀ d, v6 (ix2 d r) = turn (fun d => t (480 + d)) c s d.val) (n : Fin 640) :
    k0_pay1 (F := Ideal) c1 c2 s1 s2 p v0 v1 v2 v3 v4 v5 v6 (ix2 r n) = turn (fun d => t (80 * (n.val / 80) + d)) c s (n.val % 80) := by
  pointwise [k0_pay1]
  simp only [h0, h1, h2, h3, h4, h5, h6, H.p, H.c1, H.c2, H.s1, H.s2]
  have K : ∀ a b o : ℕ, n.val / 80 = a → b = n.val % 80 → o = 80 * a →
      turn (fun d => t (o + d)) c s b = turn (fun d => t (80 * (n.val / 80) + d)) c s (n.val % 80) := by rintro _ _ _ rfl rfl rfl; rfl
  have hn := n.isLt
  split
  · exact K 0 _ _ (by omega) (by omega) rfl
  split
  · exact K 1 _ _ (by omega) (by omega) rfl
  split
  · exact K 2 _ _ (by omega) (by omega) rfl
  split
  · exact K 3 _ _ (by omega) (by omega) rfl
  split
  · exact K 4 _ _ (by omega) (by omega) rfl
  split
  · exact K 5 _ _ (by omega) (by omega) rfl
  split
  · exact K 6 _ _ (by omega) (by omega) rfl
  refine Eq.trans ?_ (K 7 (n.val - 560) 560 (by omega) (by omega) rfl)
  simp only [turn]
  split <;> split <;> first | (exfalso; omega) | (congr 2 <;> exact congrArg _ (by omega))

end Heads

theorem heads_row (f : T.Fits W X r) (j : Fin 2) :
    Heads T.c1 T.c2 T.s1 T.s2 (T.kFlat j) (fun d => at' (proj W X) (1280 + 640 * j.val + d)) (at' X.cos) (at' X.sin) r :=
  ⟨kFlat_row f j, c1_row f, c2_row f, s1_row f, s2_row f⟩

theorem kHalf_row (f : T.Fits W X r) (j : Fin 2) (n : Fin 640) :
    T.kHalf j (ix2 r n) = turn (fun d => at' (proj W X) (1280 + 640 * j.val + (80 * (n.val / 80) + d))) (at' X.cos) (at' X.sin) (n.val % 80) :=
  have H := heads_row f j
  keys H _ _ _ _ _ _ _ (key_0 _ _ _ _ _ H) (key_1 _ _ _ _ _ H) (key_2 H) (key_3 H) (key_4 H) (key_5 H) (key_6 H) n

/-! ## The blocks the stores leave -/

/-- Stores, one for each `j`, that write one function's entries and cover an index leave that function's entry there. -/
theorem canon_map {S : Shape} {e : EltTy} {n : ℕ} (P : Fin n → View.Piece (Elt Ideal) S e) {l : List (Fin n)} (hl : ∀ j, j ∈ l)
    (G : S.Idx → Elt Ideal e) (h : ∀ j x, (P j).2 x = G ((P j).1.emb x)) (y : S.Idx) (j : Fin n) (x : (P j).1.shape.Idx) (hy : (P j).1.emb x = y) :
    View.canon (l.map P) y = G y := by
  refine View.canon_apply_of_pieces G _ (fun p hp => ?_) y ⟨P j, List.mem_map_of_mem (hl j), hy ▸ (P j).1.idx_mem x⟩
  obtain ⟨i, -, rfl⟩ := List.mem_map.1 hp
  exact h i

section Blocks
variable {Y : Fin 256 → Row}

theorem qPiece_at (h : Fin 16) (d : Fin 80) (r : Fin 256) : (T.qPiece h).1.emb (ix2 d r) = ix2 ⟨80 * h.val + d.val, by omega⟩ r := by
  show (Rect.unit (s := S1280x256) ![80 * h.val, 0] S80x256.size (head_in h)).idx (ix2 d r) = _
  idx_ext <;> simp

theorem kPiece_at (j : Fin 2) (r : Fin 256) (n : Fin 640) : (T.kPiece j).1.emb (ix2 r n) = ix2 r ⟨640 * j.val + n.val, by omega⟩ := by
  show (Rect.unit (s := S256x1280) ![0, 640 * j.val] S256x640.size (half_in j)).idx (ix2 r n) = _
  idx_ext <;> simp

theorem qs_at (f : ∀ r, T.Fits W (Y r) r) (n : Fin 1280) (r : Fin 256) : View.canon T.qs (ix2 n r) = q W (Y r) n := by
  refine canon_map T.qPiece (by decide) (fun y => q W (Y (y 1)) (y 0)) (fun h x => ?_) _ (⟨n.val / 80, by omega⟩ : Fin 16) (ix2 (⟨n.val % 80, by omega⟩ : Fin 80) r) ?_
  · obtain ⟨d, r, rfl⟩ : ∃ (d : Fin 80) (r : Fin 256), x = ix2 d r := ⟨x 0, x 1, eq_ix2 x⟩
    refine (qHead_row (f r) h d).trans (Eq.trans ?_ (congrArg (fun y : S1280x256.Idx => q W (Y (y 1)) (y 0)) (qPiece_at h d r).symm))
    show _ = turn (fun e => at' (proj W (Y r)) (0 + 80 * ((80 * h.val + d.val) / 80) + e)) _ _ ((80 * h.val + d.val) % 80)
    rw [show (80 * h.val + d.val) / 80 = h.val by omega, show (80 * h.val + d.val) % 80 = d.val by omega, Nat.zero_add]
    rfl
  · refine (qPiece_at _ _ _).trans ?_
    idx_ext <;> simp <;> omega

theorem vs_at (f : ∀ r, T.Fits W (Y r) r) (n : Fin 1280) (r : Fin 256) : View.canon T.vs (ix2 n r) = v W (Y r) n := by
  refine canon_map T.vPiece (by decide) (fun y => v W (Y (y 1)) (y 0)) (fun h x => ?_) _ (⟨n.val / 80, by omega⟩ : Fin 16) (ix2 (⟨n.val % 80, by omega⟩ : Fin 80) r) ?_
  · obtain ⟨d, r, rfl⟩ : ∃ (d : Fin 80) (r : Fin 256), x = ix2 d r := ⟨x 0, x 1, eq_ix2 x⟩
    refine (vHead_row (f r) h d).trans (Eq.trans ?_ (congrArg (fun y : S1280x256.Idx => v W (Y (y 1)) (y 0)) (qPiece_at (T := T) h d r).symm))
    show _ = at' (proj W (Y r)) (2560 + (80 * h.val + d.val))
    rw [Nat.add_assoc]
  · refine (qPiece_at (T := T) _ _ _).trans ?_
    idx_ext <;> simp <;> omega

theorem ks_at (f : ∀ r, T.Fits W (Y r) r) (r : Fin 256) (n : Fin 1280) : View.canon T.ks (ix2 r n) = k W (Y r) n := by
  refine canon_map T.kPiece (by decide) (fun y => k W (Y (y 0)) (y 1)) (fun j x => ?_) _ (⟨n.val / 640, by omega⟩ : Fin 2) (ix2 r (⟨n.val % 640, by omega⟩ : Fin 640)) ?_
  · obtain ⟨r, n, rfl⟩ : ∃ (r : Fin 256) (n : Fin 640), x = ix2 r n := ⟨x 0, x 1, eq_ix2 x⟩
    refine (kHalf_row (f r) j n).trans (Eq.trans ?_ (congrArg (fun y : S256x1280.Idx => k W (Y (y 0)) (y 1)) (kPiece_at j r n).symm))
    show _ = turn (fun e => at' (proj W (Y r)) (1280 + 80 * ((640 * j.val + n.val) / 80) + e)) _ _ ((640 * j.val + n.val) % 80)
    rw [show (640 * j.val + n.val) / 80 = 8 * j.val + n.val / 80 by omega, show (640 * j.val + n.val) % 80 = n.val % 80 by omega]
    congr 1
    funext e
    congr 1
    omega
  · refine (kPiece_at _ _ _).trans ?_
    idx_ext <;> simp <;> omega

end Blocks

end Cert.QkvIdeal.Hand

end
-- ==== Proof.QkvLeft.lean ====
/- What the runs of the projection's body leave in its five outputs and in its carried scratch, in terms of what the
   staging buffers hold. -/
module

public import proofs.«01_k».proof.Proof.QkvBlock
public import proofs.«01_k».proof.Proof.Gen.QkvIdeal.Frame
public import Idealize.ShloMosaic.Lib.Pipeline.Value
public import Idealize.ShloMosaic.Lib.WholeRead

@[expose] public section

set_option maxRecDepth 16384

noncomputable section

namespace Cert.QkvIdeal.Hand

open Idealize.ShloMosaic Idealize.ShloMosaic.TcCoe
open Cert.QkvIdeal.Gen
open Idealize.ShloMosaic.Tactic

theorem rows_in (a o n N : ℕ) (h : o + n ≤ N) : ∀ b, (![o, 0] : Fin 2 → ℕ) b + (![n, a] : Fin 2 → ℕ) b ≤ (![N, a] : Fin 2 → ℕ) b := by
  intro b
  fin_cases b
  · simpa using h
  · simp

theorem cols_in (a : ℕ) (j : Fin 30) : ∀ b, (![0, 128 * j.val] : Fin 2 → ℕ) b + (![a, 128] : Fin 2 → ℕ) b ≤ (![a, 3840] : Fin 2 → ℕ) b := by
  intro b
  fin_cases b
  · simp
  · have := j.isLt; simp; omega

theorem whole_2 (s : Fin 2 → ℕ) : ∀ b, (![0, 0] : Fin 2 → ℕ) b + s b ≤ s b := by
  intro b
  fin_cases b <;> simp

theorem z2 : (![0, 0] : Fin 2 → ℕ) = fun _ => 0 := by funext b; fin_cases b <;> rfl
theorem z3 : (![0, 0, 0] : Fin 3 → ℕ) = fun _ => 0 := by funext b; fin_cases b <;> rfl

/-- A load of a rectangle of a whole buffer reads the contents at the rectangle. -/
theorem readAt_ld {κ : Kind} {sp : Space} {s : Shape} {e : EltTy} {M : Memref sig κ sp s e} (h : M.IsWhole) (X : s.Idx → Elt Ideal e) (R : Rect s) :
    View.readAt (Elt Ideal) M.view R.toLoadRect (h.unread X) = View.ld X R :=
  funext fun x => h.readAt_unread X R.toLoadRect x

/-- The rows of the transposed weights that head `h` of the queries, half `j` of the keys, head `h` of the values use. -/
def rowsQ (h : Fin 16) : Rect S3840x1280 := Rect.unit ![80 * h.val, 0] S80x1280.size (rows_in 1280 _ 80 3840 (by omega))
def rowsK (j : Fin 2) : Rect S3840x1280 := Rect.unit ![1280 + 640 * j.val, 0] S640x1280.size (rows_in 1280 _ 640 3840 (by omega))
def rowsV (h : Fin 16) : Rect S3840x1280 := Rect.unit ![2560 + 80 * h.val, 0] S80x1280.size (rows_in 1280 _ 80 3840 (by omega))
/-- The same rows of the scales and biases. -/
def lanesQ (h : Fin 16) : Rect S3840x128 := Rect.unit ![80 * h.val, 0] S80x128.size (rows_in 128 _ 80 3840 (by omega))
def lanesK (j : Fin 2) : Rect S3840x128 := Rect.unit ![1280 + 640 * j.val, 0] S640x128.size (rows_in 128 _ 640 3840 (by omega))
def lanesV (h : Fin 16) : Rect S3840x128 := Rect.unit ![2560 + 80 * h.val, 0] S80x128.size (rows_in 128 _ 80 3840 (by omega))

/-- What the body loads, from the rows' blocks and the scratch's contents. -/
def loads (x0 : Vec Ideal S256x1280 .bf16) (x1 : Vec Ideal S256x80 .f32) (x2 : Vec Ideal S256x80 .f32) (x3 : Vec Ideal S1x1280 .f32)
    (w : Vec Ideal S3840x1280 .fp8e4m3) (s b : Vec Ideal S3840x128 .f32) : Loads where
  h := x0
  cos := x1
  sin := x2
  g := x3
  wq h := View.ld w (rowsQ h)
  sq h := View.ld s (lanesQ h)
  bq h := View.ld b (lanesQ h)
  wk j := View.ld w (rowsK j)
  sk j := View.ld s (lanesK j)
  bk j := View.ld b (lanesK j)
  wv h := View.ld w (rowsV h)
  sv h := View.ld s (lanesV h)
  bv h := View.ld b (lanesV h)

/-- The first run's stores into the scratch, the last one first: 128 columns of the weights, transposed, each. -/
def last30 : List (Fin 30) := [29, 28, 27, 26, 25, 24, 23, 22, 21, 20, 19, 18, 17, 16, 15, 14, 13, 12, 11, 10, 9, 8, 7, 6, 5, 4, 3, 2, 1, 0]

def wPiece (f : Fin 30 → Vec Ideal S1280x128 .fp8e4m3) (j : Fin 30) : View.Piece (Elt Ideal) S3840x1280 .fp8e4m3 :=
  ⟨Rect.unit ![128 * j.val, 0] S128x1280.size (rows_in 1280 _ 128 3840 (by omega)), k0_pay2 (f j)⟩
def sPiece (f : Fin 30 → Vec Ideal S1x128 .f32) (j : Fin 30) : View.Piece (Elt Ideal) S3840x128 .f32 :=
  ⟨Rect.unit ![128 * j.val, 0] S128x128.size (rows_in 128 _ 128 3840 (by omega)), k0_pay3 (f j)⟩

def wts (f : Fin 30 → Vec Ideal S1280x128 .fp8e4m3) : List (View.Piece (Elt Ideal) S3840x1280 .fp8e4m3) := last30.map (wPiece f)
def sts (f : Fin 30 → Vec Ideal S1x128 .f32) : List (View.Piece (Elt Ideal) S3840x128 .f32) := last30.map (sPiece f)

/-- 128 columns of the weights, and of a row of scales or biases. -/
def colsW (j : Fin 30) : Rect S1280x3840 := Rect.unit ![0, 128 * j.val] S1280x128.size (cols_in 1280 j)
def colsS (j : Fin 30) : Rect S1x3840 := Rect.unit ![0, 128 * j.val] S1x128.size (cols_in 1 j)

/-- The scratch after the first run: the weights transposed, and the scales and biases in every lane. -/
def wT (x4 : Vec Ideal S1280x3840 .fp8e4m3) : Vec Ideal S3840x1280 .fp8e4m3 := View.canon (wts fun j => View.ld x4 (colsW j))
def sT (x : Vec Ideal S1x3840 .f32) : Vec Ideal S3840x128 .f32 := View.canon (sts fun j => View.ld x (colsS j))

/-- One store of a whole buffer leaves its payload. -/
theorem whole_store {κ : Kind} {sp : Space} {S : Shape} {e : EltTy} (v : View sig κ sp S e) (f : v.ty.Contents (Elt Ideal)) {off : Fin S.rank → ℕ}
    (hz : off = fun _ => 0) (inb : ∀ a, off a + S.size a ≤ S.size a) (P : S.Idx → Elt Ideal e) :
    v.read (Elt Ideal) (v.writes (Elt Ideal) f [(⟨Rect.unit off S.size inb, P⟩ : View.Piece (Elt Ideal) S e)]) = P := by
  subst hz
  refine (View.read_writes_eq_canon v f _ fun y => ⟨_, List.mem_singleton_self _, ?_⟩).trans (View.canon_unit_zero rfl inb P)
  exact (Rect.mem_set_unit (s := S) (inb := inb)).2 fun a => ⟨Nat.zero_le _, by simpa using (y a).isLt⟩

section Runs

variable (c : Dev nD) (i : grid0.Coords)
  (arg1 : Memref sig .tc .vmem S256x1280 .bf16) (harg1 : arg1.IsWhole)
  (arg2 : Memref sig .tc .vmem S256x80 .f32) (harg2 : arg2.IsWhole)
  (arg3 : Memref sig .tc .vmem S256x80 .f32) (harg3 : arg3.IsWhole)
  (arg4 : Memref sig .tc .vmem S1x1280 .f32) (harg4 : arg4.IsWhole)
  (arg5 : Memref sig .tc .vmem S1280x3840 .fp8e4m3) (harg5 : arg5.IsWhole)
  (arg6 : Memref sig .tc .vmem S1x3840 .f32) (harg6 : arg6.IsWhole)
  (arg7 : Memref sig .tc .vmem S1x3840 .f32) (harg7 : arg7.IsWhole)
  (arg8 : Memref sig .tc .vmem S256x1280 .fp8e4m3) (harg8 : arg8.IsWhole)
  (arg9 : Memref sig .tc .vmem S1x1x256 .f32) (harg9 : arg9.IsWhole)
  (arg10 : Memref sig .tc .vmem S1280x256 .bf16) (harg10 : arg10.IsWhole)
  (arg11 : Memref sig .tc .vmem S256x1280 .bf16) (harg11 : arg11.IsWhole)
  (arg12 : Memref sig .tc .vmem S1280x256 .bf16) (harg12 : arg12.IsWhole)
  (arg13 : Memref sig .tc .vmem S3840x1280 .fp8e4m3) (harg13 : arg13.IsWhole)
  (arg14 : Memref sig .tc .vmem S3840x128 .f32) (harg14 : arg14.IsWhole)
  (arg15 : Memref sig .tc .vmem S3840x128 .f32) (harg15 : arg15.IsWhole)
  (x0 : Vec Ideal S256x1280 .bf16) (x1 : Vec Ideal S256x80 .f32) (x2 : Vec Ideal S256x80 .f32) (x3 : Vec Ideal S1x1280 .f32)
  (x4 : Vec Ideal S1280x3840 .fp8e4m3) (x5 : Vec Ideal S1x3840 .f32) (x6 : Vec Ideal S1x3840 .f32)
  (xs0 : Vec Ideal S3840x1280 .fp8e4m3) (xs1 xs2 : Vec Ideal S3840x128 .f32)

/-! The loads as the runs spell them: each through its staging buffer. -/

def colsRead4 (j : Fin 30) : Vec Ideal S1280x128 .fp8e4m3 := View.readAt (Elt Ideal) arg5.view (colsW j).toLoadRect (harg5.unread x4)
def colsRead (arg : Memref sig .tc .vmem S1x3840 .f32) (harg : arg.IsWhole) (x : Vec Ideal S1x3840 .f32) (j : Fin 30) : Vec Ideal S1x128 .f32 :=
  View.readAt (Elt Ideal) arg.view (colsS j).toLoadRect (harg.unread x)

theorem colsRead4_eq : colsRead4 arg5 harg5 x4 = fun j => View.ld x4 (colsW j) := funext fun j => readAt_ld harg5 x4 _
theorem colsRead_eq (arg : Memref sig .tc .vmem S1x3840 .f32) (harg : arg.IsWhole) (x : Vec Ideal S1x3840 .f32) :
    colsRead arg harg x = fun j => View.ld x (colsS j) := funext fun j => readAt_ld harg x _

def readsA : Loads where
  h := View.readAt (Elt Ideal) arg1.view (Rect.unit ![0, 0] S256x1280.size (whole_2 _)).toLoadRect (harg1.unread x0)
  cos := View.readAt (Elt Ideal) arg2.view (Rect.unit ![0, 0] S256x80.size (whole_2 _)).toLoadRect (harg2.unread x1)
  sin := View.readAt (Elt Ideal) arg3.view (Rect.unit ![0, 0] S256x80.size (whole_2 _)).toLoadRect (harg3.unread x2)
  g := View.readAt (Elt Ideal) arg4.view (Rect.unit ![0, 0] S1x1280.size (whole_2 _)).toLoadRect (harg4.unread x3)

  wq h := arg13.view.readCov (wts (colsRead4 arg5 harg5 x4)) (rowsQ h).toLoadRect
  sq h := arg14.view.readCov (sts (colsRead arg6 harg6 x5)) (lanesQ h).toLoadRect
  bq h := arg15.view.readCov (sts (colsRead arg7 harg7 x6)) (lanesQ h).toLoadRect
  wk j := arg13.view.readCov (wts (colsRead4 arg5 harg5 x4)) (rowsK j).toLoadRect
  sk j := arg14.view.readCov (sts (colsRead arg6 harg6 x5)) (lanesK j).toLoadRect
  bk j := arg15.view.readCov (sts (colsRead arg7 harg7 x6)) (lanesK j).toLoadRect
  wv h := arg13.view.readCov (wts (colsRead4 arg5 harg5 x4)) (rowsV h).toLoadRect
  sv h := arg14.view.readCov (sts (colsRead arg6 harg6 x5)) (lanesV h).toLoadRect
  bv h := arg15.view.readCov (sts (colsRead arg7 harg7 x6)) (lanesV h).toLoadRect

def readsB : Loads where
  h := View.readAt (Elt Ideal) arg1.view (Rect.unit ![0, 0] S256x1280.size (whole_2 _)).toLoadRect (harg1.unread x0)
  cos := View.readAt (Elt Ideal) arg2.view (Rect.unit ![0, 0] S256x80.size (whole_2 _)).toLoadRect (harg2.unread x1)
  sin := View.readAt (Elt Ideal) arg3.view (Rect.unit ![0, 0] S256x80.size (whole_2 _)).toLoadRect (harg3.unread x2)
  g := View.readAt (Elt Ideal) arg4.view (Rect.unit ![0, 0] S1x1280.size (whole_2 _)).toLoadRect (harg4.unread x3)
  wq h := View.readAt (Elt Ideal) arg13.view (rowsQ h).toLoadRect (harg13.unread xs0)
  sq h := View.readAt (Elt Ideal) arg14.view (lanesQ h).toLoadRect (harg14.unread xs1)
  bq h := View.readAt (Elt Ideal) arg15.view (lanesQ h).toLoadRect (harg15.unread xs2)
  wk j := View.readAt (Elt Ideal) arg13.view (rowsK j).toLoadRect (harg13.unread xs0)
  sk j := View.readAt (Elt Ideal) arg14.view (lanesK j).toLoadRect (harg14.unread xs1)
  bk j := View.readAt (Elt Ideal) arg15.view (lanesK j).toLoadRect (harg15.unread xs2)
  wv h := View.readAt (Elt Ideal) arg13.view (rowsV h).toLoadRect (harg13.unread xs0)
  sv h := View.readAt (Elt Ideal) arg14.view (lanesV h).toLoadRect (harg14.unread xs1)
  bv h := View.readAt (Elt Ideal) arg15.view (lanesV h).toLoadRect (harg15.unread xs2)

theorem readsA_eq : readsA arg1 harg1 arg2 harg2 arg3 harg3 arg4 harg4 arg5 harg5 arg6 harg6 arg7 harg7 arg13 arg14 arg15 x0 x1 x2 x3 x4 x5 x6 = loads x0 x1 x2 x3 (wT x4) (sT x5) (sT x6) := by
  unfold readsA loads wT sT
  simp only [readAt_ld, View.readCov_eq_canon', colsRead4_eq, colsRead_eq]
  congr 1
  all_goals exact View.ld_unit_zero z2 _ _

theorem readsB_eq : readsB arg1 harg1 arg2 harg2 arg3 harg3 arg4 harg4 arg13 harg13 arg14 harg14 arg15 harg15 x0 x1 x2 x3 xs0 xs1 xs2 = loads x0 x1 x2 x3 xs0 xs1 xs2 := by
  unfold readsB loads
  simp only [readAt_ld]
  congr 1
  all_goals exact View.ld_unit_zero z2 _ _

/-! What the runs store. -/

theorem pieces_A_7 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1
    = [⟨Rect.unit ![0, 0] S256x1280.size (whole_2 _), (readsA arg1 harg1 arg2 harg2 arg3 harg3 arg4 harg4 arg5 harg5 arg6 harg6 arg7 harg7 arg13 arg14 arg15 x0 x1 x2 x3 x4 x5 x6).C⟩] := by
  sl_kernel_rfl

theorem pieces_A_8 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1
    = [⟨Rect.unit ![0, 0, 0] S1x1x256.size inb_S1x1x256_S1x1x256_0_0_0, k0_pay107 (readsA arg1 harg1 arg2 harg2 arg3 harg3 arg4 harg4 arg5 harg5 arg6 harg6 arg7 harg7 arg13 arg14 arg15 x0 x1 x2 x3 x4 x5 x6).S⟩] := by
  sl_kernel_rfl

theorem pieces_A_9 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1
    = (readsA arg1 harg1 arg2 harg2 arg3 harg3 arg4 harg4 arg5 harg5 arg6 harg6 arg7 harg7 arg13 arg14 arg15 x0 x1 x2 x3 x4 x5 x6).qs := by
  sl_kernel_rfl

theorem pieces_A_10 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1
    = (readsA arg1 harg1 arg2 harg2 arg3 harg3 arg4 harg4 arg5 harg5 arg6 harg6 arg7 harg7 arg13 arg14 arg15 x0 x1 x2 x3 x4 x5 x6).ks := by
  sl_kernel_rfl

theorem pieces_A_11 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1
    = (readsA arg1 harg1 arg2 harg2 arg3 harg3 arg4 harg4 arg5 harg5 arg6 harg6 arg7 harg7 arg13 arg14 arg15 x0 x1 x2 x3 x4 x5 x6).vs := by
  sl_kernel_rfl

theorem pieces_B_7 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2).1
    = [⟨Rect.unit ![0, 0] S256x1280.size (whole_2 _), (readsB arg1 harg1 arg2 harg2 arg3 harg3 arg4 harg4 arg13 harg13 arg14 harg14 arg15 harg15 x0 x1 x2 x3 xs0 xs1 xs2).C⟩] := by
  sl_kernel_rfl

theorem pieces_B_8 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2).2.1
    = [⟨Rect.unit ![0, 0, 0] S1x1x256.size inb_S1x1x256_S1x1x256_0_0_0, k0_pay107 (readsB arg1 harg1 arg2 harg2 arg3 harg3 arg4 harg4 arg13 harg13 arg14 harg14 arg15 harg15 x0 x1 x2 x3 xs0 xs1 xs2).S⟩] := by
  sl_kernel_rfl

theorem pieces_B_9 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2).2.2.1
    = (readsB arg1 harg1 arg2 harg2 arg3 harg3 arg4 harg4 arg13 harg13 arg14 harg14 arg15 harg15 x0 x1 x2 x3 xs0 xs1 xs2).qs := by
  sl_kernel_rfl

theorem pieces_B_10 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2).2.2.2.1
    = (readsB arg1 harg1 arg2 harg2 arg3 harg3 arg4 harg4 arg13 harg13 arg14 harg14 arg15 harg15 x0 x1 x2 x3 xs0 xs1 xs2).ks := by
  sl_kernel_rfl

theorem pieces_B_11 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2).2.2.2.2.1
    = (readsB arg1 harg1 arg2 harg2 arg3 harg3 arg4 harg4 arg13 harg13 arg14 harg14 arg15 harg15 x0 x1 x2 x3 xs0 xs1 xs2).vs := by
  sl_kernel_rfl

theorem scratch_A_0 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1 = wts (colsRead4 arg5 harg5 x4) := by
  sl_kernel_rfl

theorem scratch_A_1 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1 = sts (colsRead arg6 harg6 x5) := by
  sl_kernel_rfl

theorem scratch_A_2 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.2.1 = sts (colsRead arg7 harg7 x6) := by
  sl_kernel_rfl

/-! What the runs leave. -/

theorem left_A_7 (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
    = (loads x0 x1 x2 x3 (wT x4) (sT x5) (sT x6)).C := by
  unfold out0_A_7
  rw [pieces_A_7, readsA_eq]
  exact whole_store VO0_7 _ z2 (whole_2 _) _

theorem left_A_8 (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
    = k0_pay107 (loads x0 x1 x2 x3 (wT x4) (sT x5) (sT x6)).S := by
  unfold out0_A_8
  rw [pieces_A_8, readsA_eq]
  exact whole_store VO0_8 _ z3 inb_S1x1x256_S1x1x256_0_0_0 _

theorem left_A_9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
    = View.canon (loads x0 x1 x2 x3 (wT x4) (sT x5) (sT x6)).qs := by
  unfold out0_A_9
  rw [View.read_writes_eq_canon VO0_9 _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), pieces_A_9, readsA_eq]

theorem left_A_10 (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
    = View.canon (loads x0 x1 x2 x3 (wT x4) (sT x5) (sT x6)).ks := by
  unfold out0_A_10
  rw [View.read_writes_eq_canon VO0_10 _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), pieces_A_10, readsA_eq]

theorem left_A_11 (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
    = View.canon (loads x0 x1 x2 x3 (wT x4) (sT x5) (sT x6)).vs := by
  unfold out0_A_11
  rw [View.read_writes_eq_canon VO0_11 _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), pieces_A_11, readsA_eq]

theorem left_B_7 (hc0 : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2
    = (loads x0 x1 x2 x3 xs0 xs1 xs2).C := by
  unfold out0_B_7
  rw [pieces_B_7, readsB_eq]
  exact whole_store VO0_7 _ z2 (whole_2 _) _

theorem left_B_8 (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2
    = k0_pay107 (loads x0 x1 x2 x3 xs0 xs1 xs2).S := by
  unfold out0_B_8
  rw [pieces_B_8, readsB_eq]
  exact whole_store VO0_8 _ z3 inb_S1x1x256_S1x1x256_0_0_0 _

theorem left_B_9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2
    = View.canon (loads x0 x1 x2 x3 xs0 xs1 xs2).qs := by
  unfold out0_B_9
  rw [View.read_writes_eq_canon VO0_9 _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2), pieces_B_9, readsB_eq]

theorem left_B_10 (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2
    = View.canon (loads x0 x1 x2 x3 xs0 xs1 xs2).ks := by
  unfold out0_B_10
  rw [View.read_writes_eq_canon VO0_10 _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2), pieces_B_10, readsB_eq]

theorem left_B_11 (hc0 : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2
    = View.canon (loads x0 x1 x2 x3 xs0 xs1 xs2).vs := by
  unfold out0_B_11
  rw [View.read_writes_eq_canon VO0_11 _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2), pieces_B_11, readsB_eq]

theorem sleft_A_0 (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = wT x4 := by
  unfold sout0_A_0
  rw [View.read_writes_eq_canon VS0_0 _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), scratch_A_0, colsRead4_eq]
  rfl

theorem sleft_A_1 (hc0 : cond0_0 i) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = sT x5 := by
  unfold sout0_A_1
  rw [View.read_writes_eq_canon VS0_1 _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), scratch_A_1, colsRead_eq]
  rfl

theorem sleft_A_2 (hc0 : cond0_0 i) : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = sT x6 := by
  unfold sout0_A_2
  rw [View.read_writes_eq_canon VS0_2 _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), scratch_A_2, colsRead_eq]
  rfl

end Runs

end Cert.QkvIdeal.Hand

end
-- ==== Proof.QkvRefValue.lean ====
/- What the arrays of the projection's reference hold after its one ungridded call: each output array as a function of
   the argument arrays. -/
module

public import proofs.«01_k».proof.Proof.Gen.QkvRefIdeal.Frame
public import Idealize.ShloMosaic.Lib.Pipeline.Value

@[expose] public section

noncomputable section

namespace Cert.QkvRefIdeal.Value

open Cert.QkvRefIdeal Cert.QkvRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4096x1280.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16x1x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S1280x4096.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S4096x1280.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S1280x4096.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S4096x1280.Idx) : ((cfg0.win 0).blk t).view.emb j = j := by
  obtain ⟨e0, e1⟩ := idx_zero0 t
  funext a; apply Fin.ext
  match a with
  | ⟨0, _⟩ => show win0_0.index t (0 : Fin 2) * 4096 + 1 * (j 0).val = (j 0).val; omega
  | ⟨1, _⟩ => show win0_0.index t (1 : Fin 2) * 1280 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4096x80.Idx) : ((cfg0.win 1).blk t).view.emb j = j := by
  obtain ⟨e0, e1⟩ := idx_zero1 t
  funext a; apply Fin.ext
  match a with
  | ⟨0, _⟩ => show win0_1.index t (0 : Fin 2) * 4096 + 1 * (j 0).val = (j 0).val; omega
  | ⟨1, _⟩ => show win0_1.index t (1 : Fin 2) * 80 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4096x80.Idx) : ((cfg0.win 2).blk t).view.emb j = j := by
  obtain ⟨e0, e1⟩ := idx_zero2 t
  funext a; apply Fin.ext
  match a with
  | ⟨0, _⟩ => show win0_2.index t (0 : Fin 2) * 4096 + 1 * (j 0).val = (j 0).val; omega
  | ⟨1, _⟩ => show win0_2.index t (1 : Fin 2) * 80 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x1280.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 1280 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1280x3840.Idx) : ((cfg0.win 4).blk t).view.emb j = j := by
  obtain ⟨e0, e1⟩ := idx_zero4 t
  funext a; apply Fin.ext
  match a with
  | ⟨0, _⟩ => show win0_4.index t (0 : Fin 2) * 1280 + 1 * (j 0).val = (j 0).val; omega
  | ⟨1, _⟩ => show win0_4.index t (1 : Fin 2) * 3840 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x3840.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 3840 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x3840.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 3840 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S4096x1280.Idx) : ((cfg0.win 7).blk t).view.emb j = j := by
  obtain ⟨e0, e1⟩ := idx_zero7 t
  funext a; apply Fin.ext
  match a with
  | ⟨0, _⟩ => show win0_7.index t (0 : Fin 2) * 4096 + 1 * (j 0).val = (j 0).val; omega
  | ⟨1, _⟩ => show win0_7.index t (1 : Fin 2) * 1280 + 1 * (j 1).val = (j 1).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S16x1x256.Idx) : ((cfg0.win 8).blk t).view.emb j = j := by
  obtain ⟨e0, e1, e2⟩ := idx_zero8 t
  funext a; apply Fin.ext
  match a with
  | ⟨0, _⟩ => show win0_8.index t (0 : Fin 3) * 16 + 1 * (j 0).val = (j 0).val; omega
  | ⟨1, _⟩ => show win0_8.index t (1 : Fin 3) * 1 + 1 * (j 1).val = (j 1).val; omega
  | ⟨2, _⟩ => show win0_8.index t (2 : Fin 3) * 256 + 1 * (j 2).val = (j 2).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S1280x4096.Idx) : ((cfg0.win 9).blk t).view.emb j = j := by
  obtain ⟨e0, e1⟩ := idx_zero9 t
  funext a; apply Fin.ext
  match a with
  | ⟨0, _⟩ => show win0_9.index t (0 : Fin 2) * 1280 + 1 * (j 0).val = (j 0).val; omega
  | ⟨1, _⟩ => show win0_9.index t (1 : Fin 2) * 4096 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S4096x1280.Idx) : ((cfg0.win 10).blk t).view.emb j = j := by
  obtain ⟨e0, e1⟩ := idx_zero10 t
  funext a; apply Fin.ext
  match a with
  | ⟨0, _⟩ => show win0_10.index t (0 : Fin 2) * 4096 + 1 * (j 0).val = (j 0).val; omega
  | ⟨1, _⟩ => show win0_10.index t (1 : Fin 2) * 1280 + 1 * (j 1).val = (j 1).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S1280x4096.Idx) : ((cfg0.win 11).blk t).view.emb j = j := by
  obtain ⟨e0, e1⟩ := idx_zero11 t
  funext a; apply Fin.ext
  match a with
  | ⟨0, _⟩ => show win0_11.index t (0 : Fin 2) * 1280 + 1 * (j 0).val = (j 0).val; omega
  | ⟨1, _⟩ => show win0_11.index t (1 : Fin 2) * 4096 + 1 * (j 1).val = (j 1).val; omega

/-! ### Output window 7: the array after the run -/

/-- What the window's array ends holding: `out0_7` applied to the argument arrays in place of the input blocks (a value that the
    frame states apart, `kK_payN a…`, keeps its loads inside its own definition). -/
abbrev G7 (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : Vec F S4096x1280 .fp8e4m3 :=
  k0_pay5 a0 a3

/-- A load of the whole of a block reads the block, and the one store through the whole rectangle leaves its payload. -/
theorem out7_eq (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : out0_7 (F := F) a0 a1 a2 a3 a4 a5 a6 = G7 a0 a1 a2 a3 a4 a5 a6 := by
  unfold out0_7
  rw [View.canon_unit_zero hz7, View.ld_unit_zero (S := S4096x1280) hz0 _ a0, View.ld_unit_zero (S := S1x1280) hz3 _ a3]

/-- Cutting the point's block out of `X` and reading `X` through the block's view give the same. -/
theorem cut7_eq (t : Fin cfg0.N) (X : Vec F S4096x1280 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S4096x1280.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : Vec F S16x1x256 .f32 :=
  k0_pay11 (k0_pay4 a0 a3)

/-- A load of the whole of a block reads the block, and the one store through the whole rectangle leaves its payload. -/
theorem out8_eq (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : out0_8 (F := F) a0 a1 a2 a3 a4 a5 a6 = G8 a0 a1 a2 a3 a4 a5 a6 := by
  unfold out0_8
  rw [View.canon_unit_zero hz8, View.ld_unit_zero (S := S4096x1280) hz0 _ a0, View.ld_unit_zero (S := S1x1280) hz3 _ a3]

/-- Cutting the point's block out of `X` and reading `X` through the block's view give the same. -/
theorem cut8_eq (t : Fin cfg0.N) (X : Vec F S16x1x256 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S16x1x256.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : Vec F S1280x4096 .bf16 :=
  k0_pay12 (k0_pay13 a0 a1 a2 a3 a4 a5 a6) (k0_pay14 a0 a1 a2 a3 a4 a5 a6) a1 a2

/-- A load of the whole of a block reads the block, and the one store through the whole rectangle leaves its payload. -/
theorem out9_eq (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : out0_9 (F := F) a0 a1 a2 a3 a4 a5 a6 = G9 a0 a1 a2 a3 a4 a5 a6 := by
  unfold out0_9
  rw [View.canon_unit_zero hz9, View.ld_unit_zero (S := S4096x80) hz1 _ a1, View.ld_unit_zero (S := S4096x80) hz2 _ a2]

/-- Cutting the point's block out of `X` and reading `X` through the block's view give the same. -/
theorem cut9_eq (t : Fin cfg0.N) (X : Vec F S1280x4096 .bf16) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S1280x4096.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : Vec F S4096x1280 .bf16 :=
  k0_pay1 (k0_pay9 (k0_pay13 a0 a1 a2 a3 a4 a5 a6) (k0_pay14 a0 a1 a2 a3 a4 a5 a6) a1 a2)

/-- A load of the whole of a block reads the block, and the one store through the whole rectangle leaves its payload. -/
theorem out10_eq (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : out0_10 (F := F) a0 a1 a2 a3 a4 a5 a6 = G10 a0 a1 a2 a3 a4 a5 a6 := by
  unfold out0_10
  rw [View.canon_unit_zero hz10, View.ld_unit_zero (S := S4096x80) hz1 _ a1, View.ld_unit_zero (S := S4096x80) hz2 _ a2]

/-- Cutting the point's block out of `X` and reading `X` through the block's view give the same. -/
theorem cut10_eq (t : Fin cfg0.N) (X : Vec F S4096x1280 .bf16) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S4096x1280.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_arg0) (V m c main_arg1) (V m c main_arg2) (V m c main_arg3) (V m c main_arg4) (V m c main_arg5) (V m c main_arg6)) (fun t _ => flushed10_eq m c t) covered10).trans (by rw [V_main_arg0, V_main_arg1, V_main_arg2, V_main_arg3, V_main_arg4, V_main_arg5, V_main_arg6])

/-! ### Output window 11: the array after the run -/

/-- What the window's array ends holding: `out0_11` applied to the argument arrays in place of the input blocks (a value that the
    frame states apart, `kK_payN a…`, keeps its loads inside its own definition). -/
abbrev G11 (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : Vec F S1280x4096 .bf16 :=
  k0_pay2 (k0_pay10 (k0_pay13 a0 a1 a2 a3 a4 a5 a6) (k0_pay14 a0 a1 a2 a3 a4 a5 a6))

/-- The one store through the whole rectangle leaves its payload. -/
theorem out11_eq (a0 : Vec F S4096x1280 .bf16) (a1 : Vec F S4096x80 .f32) (a2 : Vec F S4096x80 .f32) (a3 : Vec F S1x1280 .f32) (a4 : Vec F S1280x3840 .fp8e4m3) (a5 : Vec F S1x3840 .f32) (a6 : Vec F S1x3840 .f32) : out0_11 (F := F) a0 a1 a2 a3 a4 a5 a6 = G11 a0 a1 a2 a3 a4 a5 a6 := by
  unfold out0_11
  rw [View.canon_unit_zero hz11]

/-- Cutting the point's block out of `X` and reading `X` through the block's view give the same. -/
theorem cut11_eq (t : Fin cfg0.N) (X : Vec F S1280x4096 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6)) := by
  show (cfg0.win 11).cut (grid0.coords t) ((dats m 0 c).after 11 t) = _
  rw [after0_11, out11_eq, iblk0_eq, iblk1_eq, iblk2_eq, iblk3_eq, iblk4_eq, iblk5_eq, iblk6_eq]
  exact cut11_eq t _

/-- Every index of the array is in the point's block. -/
theorem covered11 (i : S1280x4096.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 11 (G11 (V m c main_arg0) (V m c main_arg1) (V m c main_arg2) (V m c main_arg3) (V m c main_arg4) (V m c main_arg5) (V m c main_arg6)) (fun t _ => flushed11_eq m c t) covered11).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.QkvRefIdeal.Value

end
-- ==== Proof.QkvRefRow.lean ====
/- The rows of the plainly written projection: each entry of its five results is the specification's. -/
module

public import proofs.«01_k».proof.Proof.QkvRow
public import proofs.«01_k».proof.Proof.QkvRefValue
public import Idealize.ShloMosaic.Lib.Pipeline.ValueKit

@[expose] public section

set_option maxRecDepth 16384

noncomputable section

namespace Cert.QkvRefIdeal.Value

open Idealize.ShloMosaic Idealize.ShloMosaic.TcCoe
open Cert.QkvRefIdeal Cert.QkvRefIdeal.Gen Cert.QkvRow
open Cert.MlpRow (rms scaleOf topAbs quant lin)

section

variable (a0 : Vec Ideal S4096x1280 .bf16) (a1 : Vec Ideal S4096x80 .f32) (a2 : Vec Ideal S4096x80 .f32) (a3 : Vec Ideal S1x1280 .f32)
  (a4 : Vec Ideal S1280x3840 .fp8e4m3) (a5 : Vec Ideal S1x3840 .f32) (a6 : Vec Ideal S1x3840 .f32) (R : Fin 4096)

/-- The call's weights, read off the arrays. -/
def weightsOf : Weights where
  g j := a3 (ix2 0 j)
  w x j := a4 (ix2 x j)
  s j := a5 (ix2 0 j)
  b j := a6 (ix2 0 j)

/-- Row `R` of the call's row operands. -/
def rowOf : Row where
  h j := a0 (ix2 R j)
  cos d := a1 (ix2 R d)
  sin d := a2 (ix2 R d)

theorem normed_at (j : Fin 1280) : k0_pay3 (F := Ideal) a0 a3 (ix2 R j) = normed (weightsOf a3 a4 a5 a6) (rowOf a0 a1 a2 R) j := by
  have : k0_pay3 (F := Ideal) a0 a3 (ix2 R j) = Ideal.div (a0 (ix2 R j)) (rms fun x => a0 (ix2 R x)) * a3 (ix2 0 j) := by
    pointwise! [k0_pay3, rms]
  exact this

theorem amax_of (v : FVec Ideal S4096x1280 .f32) :
    shapeCast S4096x1 (multiReduction .maximumf [1] S4096 (absf v) 0xFF800000#32 reduces_S4096x1280_S4096 (.inl rfl) rfl) shapeCasts_S4096_S4096x1 (ix2 R 0)
      = topAbs fun x => v (ix2 R x) := by
  pointwise! [topAbs]

theorem scale_of (p : FVec Ideal S4096x1 .f32) :
    select (cmpf .oeq p (broadcast S4096x1 (Scalar.ofBits .f32 0x00000000#32))) (broadcast S4096x1 (Scalar.ofBits .f32 0x3F800000#32))
        (divf p (broadcast S4096x1 (Scalar.ofBits .f32 0x43E00000#32))) (ix2 R 0)
      = scaleOf (p (ix2 R 0)) := by
  pointwise! [scaleOf]

theorem scale_at : k0_pay4 (F := Ideal) a0 a3 (ix2 R 0) = scale (weightsOf a3 a4 a5 a6) (rowOf a0 a1 a2 R) :=
  (scale_of R _).trans (congrArg scaleOf ((amax_of R (k0_pay3 a0 a3)).trans (congrArg topAbs (funext fun j => normed_at a0 a1 a2 a3 a4 a5 a6 R j))))

theorem codes_of (v : FVec Ideal S4096x1280 .f32) (S : FVec Ideal S4096x1 .f32) (j : Fin 1280) :
    truncf .fp8e4m3 (minimumf (broadcast S4096x1280 (Scalar.ofBits .f32 0x43E00000#32)) (maximumf (broadcast S4096x1280 (Scalar.ofBits .f32 0xC3E00000#32))
        (divf v (broadcastTo S4096x1280 S broadcasts_S4096x1_S4096x1280)))) bitsLt_fp8e4m3_f32 (ix2 R j)
      = quant (S (ix2 R 0)) (v (ix2 R j)) := by
  pointwise! [quant]

theorem codes_at (j : Fin 1280) : k0_pay5 (F := Ideal) a0 a3 (ix2 R j) = codes (weightsOf a3 a4 a5 a6) (rowOf a0 a1 a2 R) j :=
  (codes_of R (k0_pay3 a0 a3) (k0_pay4 a0 a3) j).trans
    (congrArg₂ quant (scale_at a0 a1 a2 a3 a4 a5 a6 R) (normed_at a0 a1 a2 a3 a4 a5 a6 R j))

theorem scales_at (v : FVec Ideal S4096x1 .f32) (a : Fin 16) (r : Fin 256) :
    k0_pay11 (F := Ideal) v (ix3 a 0 r) = v (ix2 ⟨256 * a.val + r.val, by omega⟩ 0) := by
  have : k0_pay11 (F := Ideal) v (ix3 a 0 r) = v (ix2 ⟨a.val * 256 + r.val, by omega⟩ 0) := by
    pointwise [k0_pay11]
  rw [this]
  congr 2
  apply Fin.ext
  show a.val * 256 + r.val = 256 * a.val + r.val
  omega

theorem pay13_eq : k0_pay13 (F := Ideal) a0 a1 a2 a3 a4 a5 a6 = k0_pay6 (F := Ideal) a0 a3 a4 a5 := by
  unfold k0_pay13
  rw [View.ld_unit_zero (S := S4096x1280) hz0 _ a0, View.ld_unit_zero (S := S1x1280) hz3 _ a3, View.ld_unit_zero (S := S1280x3840) hz4 _ a4, View.ld_unit_zero (S := S1x3840) hz5 _ a5]

theorem pay14_eq : k0_pay14 (F := Ideal) a0 a1 a2 a3 a4 a5 a6 = k0_pay7 (F := Ideal) a6 := by
  unfold k0_pay14
  rw [View.ld_unit_zero (S := S1x3840) hz6 _ a6]

theorem proj_of (w : FVec Ideal S1280x3840 .fp8e4m3) (C : FVec Ideal S4096x1280 .fp8e4m3) (S : FVec Ideal S4096x1 .f32) (j : Fin 3840) :
    mulf (mulf (matmul dot_S4096x1280_S1280x3840_S4096x3840_1_0_0_1_n_n none C w (constant S4096x3840 .f32 0x00000000#32)) (broadcastTo S4096x3840 S broadcasts_S4096x1_S4096x3840))
        (broadcastTo S4096x3840 a5 broadcasts_S1x3840_S4096x3840) (ix2 R j) + broadcastTo S4096x3840 a6 broadcasts_S1x3840_S4096x3840 (ix2 R j)
      = lin (fun x => C (ix2 R x)) (S (ix2 R 0)) (fun x => w (ix2 x j)) (a5 (ix2 0 j)) (a6 (ix2 0 j)) := by
  pointwise! [lin]

theorem proj_at (j : Fin 3840) : k0_pay6 (F := Ideal) a0 a3 a4 a5 (ix2 R j) + k0_pay7 (F := Ideal) a6 (ix2 R j)
    = at' (proj (weightsOf a3 a4 a5 a6) (rowOf a0 a1 a2 R)) j.val := by
  rw [at'_val]
  refine (proj_of a5 a6 R a4 (k0_pay5 a0 a3) (k0_pay4 a0 a3) j).trans ?_
  rw [scale_at a0 a1 a2 a3 a4 a5 a6, funext (codes_at a0 a1 a2 a3 a4 a5 a6 R)]
  rfl

end

/-! ## Heads, from the projection before its bias and the bias -/

section
variable {p b : FVec Ideal S4096x3840 .f32} {c s : Vec Ideal S4096x80 .f32} {R : Fin 4096} {t C S : ℕ → EReal}
  (hp : ∀ j : Fin 3840, p (ix2 R j) + b (ix2 R j) = t j.val)
include hp

theorem q_of (hc : ∀ d : Fin 80, c (ix2 R d) = C d.val) (hs : ∀ d : Fin 80, s (ix2 R d) = S d.val) (n : Fin 1280) :
    k0_pay12 (F := Ideal) p b c s (ix2 n R) = turn (fun d => t (0 + 80 * (n.val / 80) + d)) C S (n.val % 80) := by
  pointwise [k0_pay12, k0_pay8]
  simp only [hp, hc, hs, turn]
  split
  · rw [zero_sub, EReal.neg_mul, ← sub_eq_add_neg]
    congr 2 <;> exact congrArg _ (by omega)
  · congr 2 <;> exact congrArg _ (by omega)

theorem k_of (hc : ∀ d : Fin 80, c (ix2 R d) = C d.val) (hs : ∀ d : Fin 80, s (ix2 R d) = S d.val) (n : Fin 1280) :
    k0_pay1 (F := Ideal) (k0_pay9 p b c s) (ix2 R n) = turn (fun d => t (1280 + 80 * (n.val / 80) + d)) C S (n.val % 80) := by
  pointwise [k0_pay1, k0_pay9, k0_pay8]
  simp only [hp, hc, hs, turn]
  split
  · rw [zero_sub, EReal.neg_mul, ← sub_eq_add_neg]
    congr 2 <;> exact congrArg _ (by omega)
  · congr 2 <;> exact congrArg _ (by omega)

theorem v_of (n : Fin 1280) : k0_pay2 (F := Ideal) (k0_pay10 p b) (ix2 n R) = t (2560 + n.val) := by
  pointwise [k0_pay2, k0_pay10, k0_pay8]
  rw [hp]
  exact congrArg t (show (32 + n.val / 80) * 80 + n.val % 80 = 2560 + n.val by omega)

end

/-! ## The five results -/

section

variable (a0 : Vec Ideal S4096x1280 .bf16) (a1 : Vec Ideal S4096x80 .f32) (a2 : Vec Ideal S4096x80 .f32) (a3 : Vec Ideal S1x1280 .f32)
  (a4 : Vec Ideal S1280x3840 .fp8e4m3) (a5 : Vec Ideal S1x3840 .f32) (a6 : Vec Ideal S1x3840 .f32) (R : Fin 4096)

theorem G7_at (j : Fin 1280) : G7 (F := Ideal) a0 a1 a2 a3 a4 a5 a6 (ix2 R j) = codes (weightsOf a3 a4 a5 a6) (rowOf a0 a1 a2 R) j :=
  codes_at a0 a1 a2 a3 a4 a5 a6 R j

theorem G8_at (a : Fin 16) (r : Fin 256) :
    G8 (F := Ideal) a0 a1 a2 a3 a4 a5 a6 (ix3 a 0 r) = scale (weightsOf a3 a4 a5 a6) (rowOf a0 a1 a2 ⟨256 * a.val + r.val, by omega⟩) :=
  (scales_at _ a r).trans (scale_at a0 a1 a2 a3 a4 a5 a6 _)

theorem G9_at (n : Fin 1280) : G9 (F := Ideal) a0 a1 a2 a3 a4 a5 a6 (ix2 n R) = q (weightsOf a3 a4 a5 a6) (rowOf a0 a1 a2 R) n := by
  unfold G9
  rw [pay13_eq, pay14_eq]
  exact q_of (proj_at a0 a1 a2 a3 a4 a5 a6 R) (fun d => (at'_val (rowOf a0 a1 a2 R).cos d).symm) (fun d => (at'_val (rowOf a0 a1 a2 R).sin d).symm) n

theorem G10_at (n : Fin 1280) : G10 (F := Ideal) a0 a1 a2 a3 a4 a5 a6 (ix2 R n) = k (weightsOf a3 a4 a5 a6) (rowOf a0 a1 a2 R) n := by
  unfold G10
  rw [pay13_eq, pay14_eq]
  exact k_of (proj_at a0 a1 a2 a3 a4 a5 a6 R) (fun d => (at'_val (rowOf a0 a1 a2 R).cos d).symm) (fun d => (at'_val (rowOf a0 a1 a2 R).sin d).symm) n

theorem G11_at (n : Fin 1280) : G11 (F := Ideal) a0 a1 a2 a3 a4 a5 a6 (ix2 n R) = v (weightsOf a3 a4 a5 a6) (rowOf a0 a1 a2 R) n := by
  unfold G11
  rw [pay13_eq, pay14_eq]
  exact v_of (proj_at a0 a1 a2 a3 a4 a5 a6 R) n

end

end Cert.QkvRefIdeal.Value
-- ==== Proof.QkvFits.lean ====
/- The blocks the projection's windows stage, read against the argument arrays, and what the body leaves at each grid
   point: at point `t` a block of 256 rows is the one whose rows are `256 t + r`; the weights in the scratch are the ones
   the first point stored. -/
module

public import proofs.«01_k».proof.Proof.QkvLeft
public import proofs.«01_k».proof.Proof.QkvRefRow
public import proofs.«01_k».proof.Proof.Gen.QkvIdeal.Frame
public import Idealize.ShloMosaic.Lib.Pipeline.ValueKit

@[expose] public section

set_option maxRecDepth 16384

noncomputable section

namespace Cert.QkvIdeal.Hand

open Idealize.ShloMosaic Idealize.ShloMosaic.TcCoe
open Cert.QkvIdeal Cert.QkvIdeal.Gen Cert.QkvRow
open Cert.QkvRefIdeal.Value (weightsOf rowOf)

/-! ## The scratch -/

theorem pay2_at (f : Vec Ideal S1280x128 .fp8e4m3) (d : Fin 128) (x : Fin 1280) : k0_pay2 (F := Ideal) f (ix2 d x) = f (ix2 x d) := by
  pointwise! [k0_pay2]

theorem pay3_at (f : Vec Ideal S1x128 .f32) (d l : Fin 128) : k0_pay3 (F := Ideal) f (ix2 d l) = f (ix2 0 d) := by
  pointwise! [k0_pay3]

theorem colsW_at (x4 : Vec Ideal S1280x3840 .fp8e4m3) (j : Fin 30) (x : Fin 1280) (d : Fin 128) :
    View.ld x4 (colsW j) (ix2 x d) = x4 (ix2 x ⟨128 * j.val + d.val, by omega⟩) :=
  View.ld_unit_apply_of x4 _ _ _ _ _ fun b => by fin_cases b <;> simp

theorem colsS_at (x5 : Vec Ideal S1x3840 .f32) (j : Fin 30) (d : Fin 128) :
    View.ld x5 (colsS j) (ix2 0 d) = x5 (ix2 0 ⟨128 * j.val + d.val, by omega⟩) :=
  View.ld_unit_apply_of x5 _ _ _ _ _ fun b => by fin_cases b <;> simp

theorem wPiece_at (f) (j : Fin 30) (d : Fin 128) (x : Fin 1280) : (wPiece f j).1.emb (ix2 d x) = ix2 ⟨128 * j.val + d.val, by omega⟩ x := by
  show (Rect.unit (s := S3840x1280) ![128 * j.val, 0] S128x1280.size (rows_in 1280 _ 128 3840 (by omega))).idx (ix2 d x) = _
  idx_ext <;> simp

theorem sPiece_at (f) (j : Fin 30) (d l : Fin 128) : (sPiece f j).1.emb (ix2 d l) = ix2 ⟨128 * j.val + d.val, by omega⟩ l := by
  show (Rect.unit (s := S3840x128) ![128 * j.val, 0] S128x128.size (rows_in 128 _ 128 3840 (by omega))).idx (ix2 d l) = _
  idx_ext <;> simp

theorem wT_at (x4 : Vec Ideal S1280x3840 .fp8e4m3) (n : Fin 3840) (x : Fin 1280) : wT x4 (ix2 n x) = x4 (ix2 x n) := by
  refine canon_map (wPiece fun j => View.ld x4 (colsW j)) (by decide) (fun y => x4 (ix2 (y 1) (y 0))) (fun j y => ?_) _ (⟨n.val / 128, by omega⟩ : Fin 30) (ix2 (⟨n.val % 128, by omega⟩ : Fin 128) x) ?_
  · obtain ⟨d, x, rfl⟩ : ∃ (d : Fin 128) (x : Fin 1280), y = ix2 d x := ⟨y 0, y 1, eq_ix2 y⟩
    refine (pay2_at _ d x).trans ((colsW_at x4 j x d).trans ?_)
    exact congrArg (fun y : S3840x1280.Idx => x4 (ix2 (y 1) (y 0))) (wPiece_at _ j d x).symm
  · refine (wPiece_at _ _ _ _).trans ?_
    idx_ext <;> simp <;> omega

theorem sT_at (x5 : Vec Ideal S1x3840 .f32) (n : Fin 3840) (l : Fin 128) : sT x5 (ix2 n l) = x5 (ix2 0 n) := by
  refine canon_map (sPiece fun j => View.ld x5 (colsS j)) (by decide) (fun y => x5 (ix2 0 (y 0))) (fun j y => ?_) _ (⟨n.val / 128, by omega⟩ : Fin 30) (ix2 (⟨n.val % 128, by omega⟩ : Fin 128) l) ?_
  · obtain ⟨d, l, rfl⟩ : ∃ (d l : Fin 128), y = ix2 d l := ⟨y 0, y 1, eq_ix2 y⟩
    refine (pay3_at _ d l).trans ((colsS_at x5 j d).trans ?_)
    exact congrArg (fun y : S3840x128.Idx => x5 (ix2 0 (y 0))) (sPiece_at _ j d l).symm
  · refine (sPiece_at _ _ _ _).trans ?_
    idx_ext <;> simp <;> omega

/-- A load of rows `o …` of a matrix. -/
theorem ld_rows {a n N o : ℕ} {e} (v : Vec Ideal (⟨2, ![N, a]⟩ : Shape) e) (h) (d : Fin n) (x : Fin a) (hd : o + d.val < N) :
    View.ld v (Rect.unit ![o, 0] (![n, a] : Fin 2 → ℕ) h) (ix2 d x) = v (ix2 ⟨o + d.val, hd⟩ x) :=
  View.ld_unit_apply_of v _ _ _ _ _ fun b => by fin_cases b <;> simp

/-- Blocks that agree with the weights and a row give loads that fit. -/
theorem fits_of (W : Weights) (X : Row) (r : Fin 256) (x0 : Vec Ideal S256x1280 .bf16) (x1 : Vec Ideal S256x80 .f32) (x2 : Vec Ideal S256x80 .f32)
    (x3 : Vec Ideal S1x1280 .f32) (w : Vec Ideal S3840x1280 .fp8e4m3) (s b : Vec Ideal S3840x128 .f32)
    (h0 : ∀ j, x0 (ix2 r j) = X.h j)
    (h1 : ∀ d, x1 (ix2 r d) = X.cos d)
    (h2 : ∀ d, x2 (ix2 r d) = X.sin d)
    (h3 : ∀ j, x3 (ix2 0 j) = W.g j)
    (hw : ∀ n x, w (ix2 n x) = W.w x n)
    (hs : ∀ n l, s (ix2 n l) = W.s n)
    (hb : ∀ n l, b (ix2 n l) = W.b n) :
    (loads x0 x1 x2 x3 w s b).Fits W X r where
  h := h0
  cos := h1
  sin := h2
  g := h3
  wq h d x := (ld_rows w _ d x _).trans (hw ⟨80 * h.val + d.val, by omega⟩ x)
  sq h d l := (ld_rows s _ d l _).trans (hs ⟨80 * h.val + d.val, by omega⟩ l)
  bq h d l := (ld_rows b _ d l _).trans (hb ⟨80 * h.val + d.val, by omega⟩ l)
  wk j d x := (ld_rows w _ d x _).trans (hw ⟨1280 + 640 * j.val + d.val, by omega⟩ x)
  sk j d l := (ld_rows s _ d l _).trans (hs ⟨1280 + 640 * j.val + d.val, by omega⟩ l)
  bk j d l := (ld_rows b _ d l _).trans (hb ⟨1280 + 640 * j.val + d.val, by omega⟩ l)
  wv h d x := (ld_rows w _ d x _).trans (hw ⟨2560 + 80 * h.val + d.val, by omega⟩ x)
  sv h d l := (ld_rows s _ d l _).trans (hs ⟨2560 + 80 * h.val + d.val, by omega⟩ l)
  bv h d l := (ld_rows b _ d l _).trans (hb ⟨2560 + 80 * h.val + d.val, by omega⟩ l)

/-! ## The staged blocks -/

variable (m : (ℓ : Loc nD τ sig) → Buf (Elt Ideal) ℓ)

/-- The weights of the call, and row `R` of its row operands. -/
abbrev weights (c : Dev nD) : Weights := weightsOf (m ((c : Thread nD τ).loc main_arg3)) (m ((c : Thread nD τ).loc main_arg4)) (m ((c : Thread nD τ).loc main_arg5)) (m ((c : Thread nD τ).loc main_arg6))
abbrev rowR (c : Dev nD) (R : Fin 4096) : Row := rowOf (m ((c : Thread nD τ).loc main_arg0)) (m ((c : Thread nD τ).loc main_arg1)) (m ((c : Thread nD τ).loc main_arg2)) R

theorem point_lt (t : Fin cfg0.N) : t.val < 16 := lt_of_lt_of_eq t.isLt (show cfg0.N = 16 from N_0)

/-- The row block of a grid point. -/
def pt (t : Fin cfg0.N) : Fin 16 := ⟨t.val, point_lt t⟩

/-- The first grid point. -/
def p0 : Fin cfg0.N := ⟨0, lt_of_lt_of_eq (by decide : 0 < 16) (show cfg0.N = 16 from N_0).symm⟩

theorem idxRows : ∀ t : Fin cfg0.N, win0_0.index t = ![t.val, 0] ∧ win0_1.index t = ![t.val, 0] ∧ win0_2.index t = ![t.val, 0] := by
  decide +kernel

theorem idxWeights : ∀ t : Fin cfg0.N, win0_3.index t = ![0, 0] ∧ win0_4.index t = ![0, 0] ∧ win0_5.index t = ![0, 0] ∧ win0_6.index t = ![0, 0] := by
  decide +kernel

theorem blk0 (c : Dev nD) (t : Fin cfg0.N) (r : Fin 256) (j : Fin 1280) :
    iblk m c 0 t (ix2 r j) = m ((c : Thread nD τ).loc main_arg0) (ix2 ⟨256 * (pt t).val + r.val, by omega⟩ j) := by
  have := idxRows t
  blk_ext [iblk, V, idxRows t, pt]

theorem blk1 (c : Dev nD) (t : Fin cfg0.N) (r : Fin 256) (j : Fin 80) :
    iblk m c 1 t (ix2 r j) = m ((c : Thread nD τ).loc main_arg1) (ix2 ⟨256 * (pt t).val + r.val, by omega⟩ j) := by
  have := idxRows t
  blk_ext [iblk, V, idxRows t, pt]

theorem blk2 (c : Dev nD) (t : Fin cfg0.N) (r : Fin 256) (j : Fin 80) :
    iblk m c 2 t (ix2 r j) = m ((c : Thread nD τ).loc main_arg2) (ix2 ⟨256 * (pt t).val + r.val, by omega⟩ j) := by
  have := idxRows t
  blk_ext [iblk, V, idxRows t, pt]

theorem blk3 (c : Dev nD) (t : Fin cfg0.N) (j : Fin 1280) :
    iblk m c 3 t (ix2 0 j) = m ((c : Thread nD τ).loc main_arg3) (ix2 0 j) := by
  blk_ext [iblk, V, idxWeights t]

theorem blk4 (c : Dev nD) (t : Fin cfg0.N) (x : Fin 1280) (j : Fin 3840) :
    iblk m c 4 t (ix2 x j) = m ((c : Thread nD τ).loc main_arg4) (ix2 x j) := by
  blk_ext [iblk, V, idxWeights t]

theorem blk5 (c : Dev nD) (t : Fin cfg0.N) (j : Fin 3840) :
    iblk m c 5 t (ix2 0 j) = m ((c : Thread nD τ).loc main_arg5) (ix2 0 j) := by
  blk_ext [iblk, V, idxWeights t]

theorem blk6 (c : Dev nD) (t : Fin cfg0.N) (j : Fin 3840) :
    iblk m c 6 t (ix2 0 j) = m ((c : Thread nD τ).loc main_arg6) (ix2 0 j) := by
  blk_ext [iblk, V, idxWeights t]

/-- What the body loads at grid point `t`. -/
def atPoint (c : Dev nD) (t : Fin cfg0.N) : Loads :=
  loads (iblk m c 0 t) (iblk m c 1 t) (iblk m c 2 t) (iblk m c 3 t) (wT (iblk m c 4 p0)) (sT (iblk m c 5 p0)) (sT (iblk m c 6 p0))

theorem fits (c : Dev nD) (t : Fin cfg0.N) (r : Fin 256) :
    (atPoint m c t).Fits (weights m c) (rowR m c ⟨256 * (pt t).val + r.val, by omega⟩) r :=
  fits_of _ _ _ _ _ _ _ _ _ _ (blk0 m c t r) (blk1 m c t r) (blk2 m c t r) (blk3 m c t)
    (fun n x => (wT_at _ n x).trans (blk4 m c p0 x n)) (fun n l => (sT_at _ n l).trans (blk5 m c p0 n)) (fun n l => (sT_at _ n l).trans (blk6 m c p0 n))

/-! ## What each grid point leaves -/

theorem tup8 {A0 A1 A2 A3 A4 A5 A6 A7 : Type} {a0 b0 : A0} {a1 b1 : A1} {a2 b2 : A2} {a3 b3 : A3} {a4 b4 : A4} {a5 b5 : A5} {a6 b6 : A6} {a7 b7 : A7}
    (h0 : a0 = b0) (h1 : a1 = b1) (h2 : a2 = b2) (h3 : a3 = b3) (h4 : a4 = b4) (h5 : a5 = b5) (h6 : a6 = b6) (h7 : a7 = b7) :
    (a0, a1, a2, a3, a4, a5, a6, a7) = (b0, b1, b2, b3, b4, b5, b6, b7) := by
  subst h0 h1 h2 h3 h4 h5 h6 h7
  rfl

theorem outs_eq (c : Dev nD) : ∀ (k : ℕ) (t : Fin cfg0.N), t.val = k → outsAt0 m c t.val t.isLt
    = ((atPoint m c t).C, k0_pay107 (atPoint m c t).S, View.canon (atPoint m c t).qs, View.canon (atPoint m c t).ks, View.canon (atPoint m c t).vs,
        wT (iblk m c 4 p0), sT (iblk m c 5 p0), sT (iblk m c 6 p0)) := by
  intro k
  induction k with
  | zero =>
    intro t ht
    obtain rfl : t = p0 := Fin.ext ht
    refine (outsAt0_A m c p0 rfl).trans (tup8 ?_ ?_ ?_ ?_ ?_ ?_ ?_ ?_)
    · apply left_A_7
    · apply left_A_8
    · apply left_A_9
    · apply left_A_10
    · apply left_A_11
    · apply sleft_A_0
    · apply sleft_A_1
    · apply sleft_A_2
  | succ k ih =>
    intro t ht
    have hlt := point_lt t
    have h0 : ¬t.val % 16 = 0 := by omega
    have e := ih ⟨t.val - 1, Nat.lt_of_le_of_lt (Nat.sub_le _ _) t.isLt⟩ (by show t.val - 1 = k; omega)
    dsimp only at e
    have e0 : (outsAt0 m c (t.val - 1) (Nat.lt_of_le_of_lt (Nat.sub_le _ _) t.isLt)).2.2.2.2.2.1 = wT (iblk m c 4 p0) := by rw [e]
    have e1 : (outsAt0 m c (t.val - 1) (Nat.lt_of_le_of_lt (Nat.sub_le _ _) t.isLt)).2.2.2.2.2.2.1 = sT (iblk m c 5 p0) := by rw [e]
    have e2 : (outsAt0 m c (t.val - 1) (Nat.lt_of_le_of_lt (Nat.sub_le _ _) t.isLt)).2.2.2.2.2.2.2 = sT (iblk m c 6 p0) := by rw [e]
    have hT : loads (iblk m c 0 t) (iblk m c 1 t) (iblk m c 2 t) (iblk m c 3 t) (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
        = atPoint m c t := by
      rw [e0, e1, e2]
      rfl
    refine (outsAt0_B m c t h0).trans (tup8 (Eq.trans ?_ (congrArg Loads.C hT)) (Eq.trans ?_ (congrArg (fun T : Loads => k0_pay107 T.S) hT))
      (Eq.trans ?_ (congrArg (fun T : Loads => View.canon T.qs) hT)) (Eq.trans ?_ (congrArg (fun T : Loads => View.canon T.ks) hT))
      (Eq.trans ?_ (congrArg (fun T : Loads => View.canon T.vs) hT)) e0 e1 e2)
    · apply left_B_7
    · apply left_B_8
    · apply left_B_9
    · apply left_B_10
    · apply left_B_11

end Cert.QkvIdeal.Hand

end
-- ==== Proof.QkvValue.lean ====
/- The projection's results over its grid: every block it writes back is the reference's block, and the blocks cover the
   arrays. -/
module

public import proofs.«01_k».proof.Proof.QkvFits
public import proofs.«01_k».proof.Proof.Gen.QkvIdeal.Value

@[expose] public section

set_option maxRecDepth 16384

noncomputable section

namespace Cert.QkvIdeal.Hand

open Idealize.ShloMosaic Idealize.ShloMosaic.TcCoe Idealize.SL.Sem
open Cert.QkvIdeal Cert.QkvIdeal.Gen Cert.QkvRow

variable (m : (ℓ : Loc nD τ sig) → Buf (Elt Ideal) ℓ) (ρ : Dev nD → PrngReg)

theorem idxOuts : ∀ t : Fin cfg0.N, win0_7.index t = ![t.val, 0] ∧ win0_8.index t = ![t.val, 0, 0] ∧ win0_9.index t = ![0, t.val]
    ∧ win0_10.index t = ![t.val, 0] ∧ win0_11.index t = ![0, t.val] := by
  decide +kernel

/-- The row of the arrays that row `r` of point `t`'s block is. -/
abbrev row (t : Fin cfg0.N) (r : Fin 256) : Fin 4096 := ⟨256 * (pt t).val + r.val, by omega⟩

def F7 (c : Dev nD) : Buf (Elt Ideal) ((c : Thread nD τ).loc main_v0_0) := Cert.QkvRefIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem after_7 (c : Dev nD) (t : Fin cfg0.N) : (dats m 0 c).after 7 t = (atPoint m c t).C :=
  (after0_7 m c t).trans (by rw [outs_eq m c t.val t rfl])

theorem emb7 (t : Fin cfg0.N) (y : S256x1280.Idx) : ((cfg0.win 7).blk t).view.emb y = ix2 (row t (y 0)) (y 1 : Fin 1280) := by
  have e0 : ((((cfg0.win 7).blk t).view.emb y) 0).val = t.val * 256 + (y 0).val := by blk_simp [(idxOuts t).1]
  have e1 : ((((cfg0.win 7).blk t).view.emb y) 1).val = (y 1).val := by blk_simp [(idxOuts t).1]
  exact (eq_ix2 _).trans (congrArg₂ ix2 (Fin.ext (e0.trans (by show _ = 256 * t.val + _; omega))) (Fin.ext e1))

theorem at7 (c : Dev nD) (t : Fin cfg0.N) (r : Fin 256) (j : Fin 1280) : (atPoint m c t).C (ix2 r j) = F7 m c (ix2 (row t r) j) :=
  (C_row (fits m c t r) j).trans (Cert.QkvRefIdeal.Value.G7_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) j).symm

theorem block7 (c : Dev nD) (t : Fin cfg0.N) (X : Vec Ideal S256x1280 .fp8e4m3) (h : ∀ r j, X (ix2 r j) = F7 m c (ix2 (row t r) j))
    (y : S256x1280.Idx) : X y = F7 m c (((cfg0.win 7).blk t).view.emb y) := by
  rw [emb7 t y]
  exact (congrArg X (eq_ix2 y)).trans (h (y 0) (y 1))

theorem back7 (c : Dev nD) (t : Fin cfg0.N) (y : S256x1280.Idx) : (dats m 0 c).after 7 t y = F7 m c (((cfg0.win 7).blk t).view.emb y) :=
  (congrFun (after_7 m c t) y).trans (block7 m c t _ (at7 m c t) y)

theorem final7 (c : Dev nD) : (dats m 0 c).arrAt 7 cfg0.N = F7 m c :=
  (dats m 0 c).arrAt_eq_of_covers 7 _ (by decide +kernel) fun t _ y => back7 m c t y

def F8 (c : Dev nD) : Buf (Elt Ideal) ((c : Thread nD τ).loc main_v0_1) := Cert.QkvRefIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem after_8 (c : Dev nD) (t : Fin cfg0.N) : (dats m 0 c).after 8 t = k0_pay107 (atPoint m c t).S :=
  (after0_8 m c t).trans (by rw [outs_eq m c t.val t rfl])

theorem emb8 (t : Fin cfg0.N) (y : S1x1x256.Idx) : ((cfg0.win 8).blk t).view.emb y = ix3 (pt t) 0 (y 2 : Fin 256) := by
  have h0 : (y 0).val < 1 := (y 0).isLt
  have h1 : (y 1).val < 1 := (y 1).isLt
  have e0 : ((((cfg0.win 8).blk t).view.emb y) 0).val = t.val * 1 + (y 0).val := by blk_simp [(idxOuts t).2.1]
  have e1 : ((((cfg0.win 8).blk t).view.emb y) 1) = (0 : Fin 1) := Subsingleton.elim (α := Fin 1) _ _
  have e2 : ((((cfg0.win 8).blk t).view.emb y) 2).val = (y 2).val := by blk_simp [(idxOuts t).2.1]
  have e0' : ((((cfg0.win 8).blk t).view.emb y) 0) = pt t := Fin.ext (e0.trans (by show _ = t.val; omega))
  have e2' : ((((cfg0.win 8).blk t).view.emb y) 2) = (y 2 : Fin 256) := Fin.ext e2
  refine (eq_ix3 _).trans ?_
  rw [e0', e1, e2']
  rfl

theorem at8 (c : Dev nD) (t : Fin cfg0.N) (a b : Fin 1) (r : Fin 256) : k0_pay107 (F := Ideal) (atPoint m c t).S (ix3 a b r) = F8 m c (ix3 (pt t) 0 r) := by
  obtain rfl : a = 0 := Subsingleton.elim _ _
  obtain rfl : b = 0 := Subsingleton.elim _ _
  exact (scale_row (fits m c t r)).trans (Cert.QkvRefIdeal.Value.G8_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (pt t) r).symm

theorem block8 (c : Dev nD) (t : Fin cfg0.N) (X : Vec Ideal S1x1x256 .f32) (h : ∀ a b r, X (ix3 a b r) = F8 m c (ix3 (pt t) 0 r))
    (y : S1x1x256.Idx) : X y = F8 m c (((cfg0.win 8).blk t).view.emb y) := by
  rw [emb8 t y]
  exact (congrArg X (eq_ix3 y)).trans (h (y 0) (y 1) (y 2))

theorem back8 (c : Dev nD) (t : Fin cfg0.N) (y : S1x1x256.Idx) : (dats m 0 c).after 8 t y = F8 m c (((cfg0.win 8).blk t).view.emb y) :=
  (congrFun (after_8 m c t) y).trans (block8 m c t _ (at8 m c t) y)

theorem final8 (c : Dev nD) : (dats m 0 c).arrAt 8 cfg0.N = F8 m c :=
  (dats m 0 c).arrAt_eq_of_covers 8 _ (by decide +kernel) fun t _ y => back8 m c t y

def F9 (c : Dev nD) : Buf (Elt Ideal) ((c : Thread nD τ).loc main_v0_2) := Cert.QkvRefIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem after_9 (c : Dev nD) (t : Fin cfg0.N) : (dats m 0 c).after 9 t = View.canon (atPoint m c t).qs :=
  (after0_9 m c t).trans (by rw [outs_eq m c t.val t rfl])

theorem emb9 (t : Fin cfg0.N) (y : S1280x256.Idx) : ((cfg0.win 9).blk t).view.emb y = ix2 (y 0 : Fin 1280) (row t (y 1)) := by
  have e0 : ((((cfg0.win 9).blk t).view.emb y) 0).val = (y 0).val := by blk_simp [(idxOuts t).2.2.1]
  have e1 : ((((cfg0.win 9).blk t).view.emb y) 1).val = t.val * 256 + (y 1).val := by blk_simp [(idxOuts t).2.2.1]
  exact (eq_ix2 _).trans (congrArg₂ ix2 (Fin.ext e0) (Fin.ext (e1.trans (by show _ = 256 * t.val + _; omega))))

theorem at9 (c : Dev nD) (t : Fin cfg0.N) (n : Fin 1280) (r : Fin 256) : View.canon (atPoint m c t).qs (ix2 n r) = F9 m c (ix2 n (row t r)) :=
  (qs_at (fits m c t) n r).trans (Cert.QkvRefIdeal.Value.G9_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) n).symm

theorem block9 (c : Dev nD) (t : Fin cfg0.N) (X : Vec Ideal S1280x256 .bf16) (h : ∀ n r, X (ix2 n r) = F9 m c (ix2 n (row t r)))
    (y : S1280x256.Idx) : X y = F9 m c (((cfg0.win 9).blk t).view.emb y) := by
  rw [emb9 t y]
  exact (congrArg X (eq_ix2 y)).trans (h (y 0) (y 1))

theorem back9 (c : Dev nD) (t : Fin cfg0.N) (y : S1280x256.Idx) : (dats m 0 c).after 9 t y = F9 m c (((cfg0.win 9).blk t).view.emb y) :=
  (congrFun (after_9 m c t) y).trans (block9 m c t _ (at9 m c t) y)

theorem final9 (c : Dev nD) : (dats m 0 c).arrAt 9 cfg0.N = F9 m c :=
  (dats m 0 c).arrAt_eq_of_covers 9 _ (by decide +kernel) fun t _ y => back9 m c t y

def F10 (c : Dev nD) : Buf (Elt Ideal) ((c : Thread nD τ).loc main_v0_3) := Cert.QkvRefIdeal.Value.G10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem after_10 (c : Dev nD) (t : Fin cfg0.N) : (dats m 0 c).after 10 t = View.canon (atPoint m c t).ks :=
  (after0_10 m c t).trans (by rw [outs_eq m c t.val t rfl])

theorem emb10 (t : Fin cfg0.N) (y : S256x1280.Idx) : ((cfg0.win 10).blk t).view.emb y = ix2 (row t (y 0)) (y 1 : Fin 1280) := by
  have e0 : ((((cfg0.win 10).blk t).view.emb y) 0).val = t.val * 256 + (y 0).val := by blk_simp [(idxOuts t).2.2.2.1]
  have e1 : ((((cfg0.win 10).blk t).view.emb y) 1).val = (y 1).val := by blk_simp [(idxOuts t).2.2.2.1]
  exact (eq_ix2 _).trans (congrArg₂ ix2 (Fin.ext (e0.trans (by show _ = 256 * t.val + _; omega))) (Fin.ext e1))

theorem at10 (c : Dev nD) (t : Fin cfg0.N) (r : Fin 256) (j : Fin 1280) : View.canon (atPoint m c t).ks (ix2 r j) = F10 m c (ix2 (row t r) j) :=
  (ks_at (fits m c t) r j).trans (Cert.QkvRefIdeal.Value.G10_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) j).symm

theorem block10 (c : Dev nD) (t : Fin cfg0.N) (X : Vec Ideal S256x1280 .bf16) (h : ∀ r j, X (ix2 r j) = F10 m c (ix2 (row t r) j))
    (y : S256x1280.Idx) : X y = F10 m c (((cfg0.win 10).blk t).view.emb y) := by
  rw [emb10 t y]
  exact (congrArg X (eq_ix2 y)).trans (h (y 0) (y 1))

theorem back10 (c : Dev nD) (t : Fin cfg0.N) (y : S256x1280.Idx) : (dats m 0 c).after 10 t y = F10 m c (((cfg0.win 10).blk t).view.emb y) :=
  (congrFun (after_10 m c t) y).trans (block10 m c t _ (at10 m c t) y)

theorem final10 (c : Dev nD) : (dats m 0 c).arrAt 10 cfg0.N = F10 m c :=
  (dats m 0 c).arrAt_eq_of_covers 10 _ (by decide +kernel) fun t _ y => back10 m c t y

def F11 (c : Dev nD) : Buf (Elt Ideal) ((c : Thread nD τ).loc main_v0_4) := Cert.QkvRefIdeal.Value.G11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem after_11 (c : Dev nD) (t : Fin cfg0.N) : (dats m 0 c).after 11 t = View.canon (atPoint m c t).vs :=
  (after0_11 m c t).trans (by rw [outs_eq m c t.val t rfl])

theorem emb11 (t : Fin cfg0.N) (y : S1280x256.Idx) : ((cfg0.win 11).blk t).view.emb y = ix2 (y 0 : Fin 1280) (row t (y 1)) := by
  have e0 : ((((cfg0.win 11).blk t).view.emb y) 0).val = (y 0).val := by blk_simp [(idxOuts t).2.2.2.2]
  have e1 : ((((cfg0.win 11).blk t).view.emb y) 1).val = t.val * 256 + (y 1).val := by blk_simp [(idxOuts t).2.2.2.2]
  exact (eq_ix2 _).trans (congrArg₂ ix2 (Fin.ext e0) (Fin.ext (e1.trans (by show _ = 256 * t.val + _; omega))))

theorem at11 (c : Dev nD) (t : Fin cfg0.N) (n : Fin 1280) (r : Fin 256) : View.canon (atPoint m c t).vs (ix2 n r) = F11 m c (ix2 n (row t r)) :=
  (vs_at (fits m c t) n r).trans (Cert.QkvRefIdeal.Value.G11_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) n).symm

theorem block11 (c : Dev nD) (t : Fin cfg0.N) (X : Vec Ideal S1280x256 .bf16) (h : ∀ n r, X (ix2 n r) = F11 m c (ix2 n (row t r)))
    (y : S1280x256.Idx) : X y = F11 m c (((cfg0.win 11).blk t).view.emb y) := by
  rw [emb11 t y]
  exact (congrArg X (eq_ix2 y)).trans (h (y 0) (y 1))

theorem back11 (c : Dev nD) (t : Fin cfg0.N) (y : S1280x256.Idx) : (dats m 0 c).after 11 t y = F11 m c (((cfg0.win 11).blk t).view.emb y) :=
  (congrFun (after_11 m c t) y).trans (block11 m c t _ (at11 m c t) y)

theorem final11 (c : Dev nD) : (dats m 0 c).arrAt 11 cfg0.N = F11 m c :=
  (dats m 0 c).arrAt_eq_of_covers 11 _ (by decide +kernel) fun t _ y => back11 m c t y

/-- The run: the five results are the reference's, and the arguments end unchanged. -/
theorem run : θ_run defs (onTc (τ := τ) (main (F := Ideal))) ⟨m, fun _ => 0, ρ⟩ fun r => ∀ c : Dev nD,
      r.2.mem ((c : Thread nD τ).loc main_v0_0) = F7 m c
      ∧ r.2.mem ((c : Thread nD τ).loc main_v0_1) = F8 m c
      ∧ r.2.mem ((c : Thread nD τ).loc main_v0_2) = F9 m c
      ∧ r.2.mem ((c : Thread nD τ).loc main_v0_3) = F10 m c
      ∧ r.2.mem ((c : Thread nD τ).loc main_v0_4) = F11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c),
    (h c).2.2.2.1.trans (final10 m c), (h c).2.2.2.2.1.trans (final11 m c), (h c).2.2.2.2.2⟩) (Cert.QkvIdeal.Value.run_blocks m ρ)

end Cert.QkvIdeal.Hand

end
-- ==== Proof.MergeBlock.lean ====
/- One grid point of the merge over the extended reals: the picked rows of the codes and of their scales, and the product
   of the picked rows with a block of the weights. -/
module

public import proofs.«01_k».proof.Proof.MlpRow
public import proofs.«01_k».proof.Proof.Gen.MergeIdeal.Skeleton
public import Idealize.ShloMosaic.Lib.Pointwise
public import Idealize.ShloMosaic.Lib.StableHlo.Predicate
public import Idealize.ShloMosaic.Lib.Pipeline.FrameBody
public import Idealize.ShloMosaic.Lib.Pipeline.Value

@[expose] public section

set_option maxRecDepth 16384

noncomputable section

namespace Cert.MergeIdeal.Hand

open Idealize.ShloMosaic Idealize.ShloMosaic.TcCoe
open Cert.MergeIdeal.Gen
open Cert.MlpRow (lin)

/-! ## Picking a row -/

/-- The mask of row `i` is set at the row number that the table holds, and nowhere else. -/
theorem mask_at (v : IVec S1x256 32) (i : Fin 256) (k : Fin 1024) (h : v (ix2 0 i) = BitVec.ofNat 32 k.val) (j : Fin 1024) :
    k0_pay1 (F := Ideal) v (ix2 i j) = if j = k then 1#1 else 0#1 := by
  have e : k0_pay1 (F := Ideal) v (ix2 i j) = IntOp.cmpi .eq (BitVec.ofNat 32 j.val) (v (ix2 0 i)) := by pointwise! [k0_pay1]
  rw [e, h]
  by_cases hj : j = k
  · subst hj
    simp [IntOp.cmpi]
  · rw [if_neg hj]
    have hne : BitVec.ofNat 32 j.val ≠ BitVec.ofNat 32 k.val := fun hh => hj (Fin.ext (by
      have := congrArg BitVec.toNat hh
      simp only [BitVec.toNat_ofNat] at this
      have := j.isLt
      have := k.isLt
      omega))
    show BitVec.ofBool (BitVec.ofNat 32 j.val == BitVec.ofNat 32 k.val) = 0#1
    rw [beq_eq_false_iff_ne.2 hne]
    rfl

/-- The scale of the picked row. -/
theorem scale_at (s : FVec Ideal S1x1024 .f32) (v : IVec S1x256 32) (i : Fin 256) (k : Fin 1024) (h : v (ix2 0 i) = BitVec.ofNat 32 k.val) (l : Fin 128) :
    k0_pay2 (F := Ideal) s v (ix2 i l) = s (ix2 0 k) := by
  have e : k0_pay2 (F := Ideal) s v (ix2 i l) = ∑ x, Scalar.select (k0_pay1 (F := Ideal) v (ix2 i x)) (s (ix2 0 x)) 0 := by pointwise! [k0_pay2]
  rw [e]
  simp only [mask_at v i k h]
  refine (Finset.sum_eq_single k (fun x _ hx => ?_) fun hk => absurd (Finset.mem_univ k) hk).trans ?_
  · rw [if_neg hx]
    rfl
  · rw [if_pos rfl]
    rfl

theorem one_of_bit : (FloatOps.sitofp (F := Ideal) .f32 (BitVec.setWidth 32 (1#1)) : EReal) = 1 := by
  show ((((BitVec.setWidth 32 (1#1)).toInt : ℝ)) : EReal) = 1
  rw [show (BitVec.setWidth 32 (1#1)).toInt = 1 by decide]
  simp

theorem zero_of_bit : (FloatOps.sitofp (F := Ideal) .f32 (BitVec.setWidth 32 (0#1)) : EReal) = 0 := by
  show ((((BitVec.setWidth 32 (0#1)).toInt : ℝ)) : EReal) = 0
  rw [show (BitVec.setWidth 32 (0#1)).toInt = 0 by decide]
  simp

/-- The codes of the picked row. -/
theorem codes_at (v : IVec S1x256 32) (x : FVec Ideal S1024x5120 .fp8e4m3) (i : Fin 256) (k : Fin 1024) (h : v (ix2 0 i) = BitVec.ofNat 32 k.val) (j : Fin 5120) :
    k0_pay3 (F := Ideal) v x (ix2 i j) = x (ix2 k j) := by
  have e : k0_pay3 (F := Ideal) v x (ix2 i j)
      = ∑ a, (FloatOps.sitofp (F := Ideal) .f32 (BitVec.setWidth 32 (k0_pay1 (F := Ideal) v (ix2 i a))) : EReal) * x (ix2 a j) := by pointwise! [k0_pay3]
  rw [e]
  simp only [mask_at v i k h]
  refine (Finset.sum_eq_single k (fun a _ ha => ?_) fun hk => absurd (Finset.mem_univ k) hk).trans ?_
  · rw [if_neg ha]
    exact (congrArg (fun z : EReal => z * x (ix2 a j)) zero_of_bit).trans (zero_mul _)
  · rw [if_pos rfl]
    exact (congrArg (fun z : EReal => z * x (ix2 k j)) one_of_bit).trans (one_mul _)

/-! ## The product -/

theorem prod_at (x : Vec Ideal S256x5120 .fp8e4m3) (w : Vec Ideal S5120x512 .fp8e4m3) (a : Vec Ideal S256x1 .f32) (s b : Vec Ideal S1x512 .f32)
    (i : Fin 256) (j : Fin 512) :
    k0_pay15 (F := Ideal) x w a s b (ix2 i j) = lin (fun k => x (ix2 i k)) (a (ix2 i 0)) (fun k => w (ix2 k j)) (s (ix2 0 j)) (b (ix2 0 j)) := by
  unfold lin
  pointwise! [k0_pay15]

end Cert.MergeIdeal.Hand

end
-- ==== Proof.MergeLeft.lean ====
/- What the runs of the merge's body leave in its output and in its carried scratch, in terms of what the staging buffers
   hold. -/
module

public import proofs.«01_k».proof.Proof.MergeBlock
public import proofs.«01_k».proof.Proof.Gen.MergeIdeal.Frame
public import Idealize.ShloMosaic.Lib.Pipeline.Value
public import Idealize.ShloMosaic.Lib.WholeRead

@[expose] public section

set_option maxRecDepth 16384

noncomputable section

namespace Cert.MergeIdeal.Hand

open Idealize.ShloMosaic Idealize.ShloMosaic.TcCoe
open Cert.MergeIdeal.Gen
open Idealize.ShloMosaic.Tactic

theorem rows_in (a o n N : ℕ) (h : o + n ≤ N) : ∀ b, (![o, 0] : Fin 2 → ℕ) b + (![n, a] : Fin 2 → ℕ) b ≤ (![N, a] : Fin 2 → ℕ) b := by
  intro b
  fin_cases b
  · simpa using h
  · simp

theorem col_in (o : ℕ) (h : o + 256 ≤ 1024) : ∀ b, (![o, 0] : Fin 2 → ℕ) b + (![256, 1] : Fin 2 → ℕ) b ≤ (![1024, 128] : Fin 2 → ℕ) b := by
  intro b
  fin_cases b
  · simpa using h
  · simp

theorem whole_2 (s : Fin 2 → ℕ) : ∀ b, (![0, 0] : Fin 2 → ℕ) b + s b ≤ s b := by
  intro b
  fin_cases b <;> simp

theorem z2 : (![0, 0] : Fin 2 → ℕ) = fun _ => 0 := by funext b; fin_cases b <;> rfl

/-- A load of a rectangle of a whole buffer reads the contents at the rectangle. -/
theorem readAt_ld {κ : Kind} {sp : Space} {s : Shape} {e : EltTy} {M : Memref sig κ sp s e} (h : M.IsWhole) (X : s.Idx → Elt Ideal e) (R : Rect s) :
    View.readAt (Elt Ideal) M.view R.toLoadRect (h.unread X) = View.ld X R :=
  funext fun x => h.readAt_unread X R.toLoadRect x

/-- Block `b` of 256 rows of the codes, of the scales, of one lane of the scales and of the output, and row `b` of the
    table of row numbers. -/
def rowsC (b : Fin 4) : Rect S1024x5120 := Rect.unit ![256 * b.val, 0] S256x5120.size (rows_in 5120 _ 256 1024 (by omega))
def rowsS (b : Fin 4) : Rect S1024x128 := Rect.unit ![256 * b.val, 0] S256x128.size (rows_in 128 _ 256 1024 (by omega))
def rowsL (b : Fin 4) : Rect S1024x128 := Rect.unit ![256 * b.val, 0] S256x1.size (col_in _ (by omega))
def rowsO (b : Fin 4) : Rect S1024x512 := Rect.unit ![256 * b.val, 0] S256x512.size (rows_in 512 _ 256 1024 (by omega))
def rowT (b : Fin 4) : Rect S4x256 := Rect.unit ![b.val, 0] S1x256.size (rows_in 256 _ 1 4 (by omega))

def last4 : List (Fin 4) := [3, 2, 1, 0]

/-- The stores of the picked codes and scales, the last one first. -/
def cPiece (t : Fin 4 → Vec Ideal S1x256 .i32) (x : Vec Ideal S1024x5120 .fp8e4m3) (b : Fin 4) : View.Piece (Elt Ideal) S1024x5120 .fp8e4m3 :=
  ⟨Rect.unit ![256 * b.val, 0] S256x5120.size (rows_in 5120 _ 256 1024 (by omega)), k0_pay3 (F := Ideal) (t b) x⟩
def sPiece (t : Fin 4 → Vec Ideal S1x256 .i32) (s : Vec Ideal S1x1024 .f32) (b : Fin 4) : View.Piece (Elt Ideal) S1024x128 .f32 :=
  ⟨Rect.unit ![256 * b.val, 0] S256x128.size (rows_in 128 _ 256 1024 (by omega)), k0_pay2 (F := Ideal) s (t b)⟩
def codes (t : Fin 4 → Vec Ideal S1x256 .i32) (x : Vec Ideal S1024x5120 .fp8e4m3) : List (View.Piece (Elt Ideal) S1024x5120 .fp8e4m3) := last4.map (cPiece t x)
def scales (t : Fin 4 → Vec Ideal S1x256 .i32) (s : Vec Ideal S1x1024 .f32) : List (View.Piece (Elt Ideal) S1024x128 .f32) := last4.map (sPiece t s)

/-- The stores of the output, a block of 256 rows each. -/
def oPiece (x : Fin 4 → Vec Ideal S256x5120 .fp8e4m3) (a : Fin 4 → Vec Ideal S256x1 .f32) (w : Vec Ideal S5120x512 .fp8e4m3) (s b : Vec Ideal S1x512 .f32) (j : Fin 4) :
    View.Piece (Elt Ideal) S1024x512 .bf16 :=
  ⟨Rect.unit ![256 * j.val, 0] S256x512.size (rows_in 512 _ 256 1024 (by omega)), k0_pay15 (F := Ideal) (x j) w (a j) s b⟩
def outs (x : Fin 4 → Vec Ideal S256x5120 .fp8e4m3) (a : Fin 4 → Vec Ideal S256x1 .f32) (w : Vec Ideal S5120x512 .fp8e4m3) (s b : Vec Ideal S1x512 .f32) :
    List (View.Piece (Elt Ideal) S1024x512 .bf16) := last4.map (oPiece x a w s b)

/-- The scratch after the first run: the picked codes, and the picked scales in every lane. -/
def cT (x0 : Vec Ideal S1024x5120 .fp8e4m3) (x2 : Vec Ideal S4x256 .i32) : Vec Ideal S1024x5120 .fp8e4m3 := View.canon (codes (fun b => View.ld x2 (rowT b)) x0)
def sT (x1 : Vec Ideal S1x1024 .f32) (x2 : Vec Ideal S4x256 .i32) : Vec Ideal S1024x128 .f32 := View.canon (scales (fun b => View.ld x2 (rowT b)) x1)
/-- The output of a run with the codes `C` and the scales `A` in the scratch. -/
def oT (C : Vec Ideal S1024x5120 .fp8e4m3) (A : Vec Ideal S1024x128 .f32) (w : Vec Ideal S5120x512 .fp8e4m3) (s b : Vec Ideal S1x512 .f32) : Vec Ideal S1024x512 .bf16 :=
  View.canon (outs (fun j => View.ld C (rowsC j)) (fun j => View.ld A (rowsL j)) w s b)

section Runs

variable (c : Dev nD) (i : grid0.Coords)
  (arg1 : Memref sig .tc .vmem S1024x5120 .fp8e4m3) (harg1 : arg1.IsWhole)
  (arg2 : Memref sig .tc .vmem S1x1024 .f32) (harg2 : arg2.IsWhole)
  (arg3 : Memref sig .tc .vmem S4x256 .i32) (harg3 : arg3.IsWhole)
  (arg4 : Memref sig .tc .vmem S5120x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1024x512 .bf16) (harg7 : arg7.IsWhole)
  (arg8 : Memref sig .tc .vmem S1024x5120 .fp8e4m3) (harg8 : arg8.IsWhole)
  (arg9 : Memref sig .tc .vmem S1024x128 .f32) (harg9 : arg9.IsWhole)
  (x0 : Vec Ideal S1024x5120 .fp8e4m3) (x1 : Vec Ideal S1x1024 .f32) (x2 : Vec Ideal S4x256 .i32) (x3 : Vec Ideal S5120x512 .fp8e4m3)
  (x4 : Vec Ideal S1x512 .f32) (x5 : Vec Ideal S1x512 .f32)
  (xs0 : Vec Ideal S1024x5120 .fp8e4m3) (xs1 : Vec Ideal S1024x128 .f32)

/-! The loads as the runs spell them: each through its staging buffer. -/

def tRead (b : Fin 4) : Vec Ideal S1x256 .i32 := View.readAt (Elt Ideal) arg3.view (rowT b).toLoadRect (harg3.unread x2)
def xRead : Vec Ideal S1024x5120 .fp8e4m3 := View.readAt (Elt Ideal) arg1.view (Rect.unit ![0, 0] S1024x5120.size (whole_2 _)).toLoadRect (harg1.unread x0)
def aRead : Vec Ideal S1x1024 .f32 := View.readAt (Elt Ideal) arg2.view (Rect.unit ![0, 0] S1x1024.size (whole_2 _)).toLoadRect (harg2.unread x1)
def wRead : Vec Ideal S5120x512 .fp8e4m3 := View.readAt (Elt Ideal) arg4.view (Rect.unit ![0, 0] S5120x512.size (whole_2 _)).toLoadRect (harg4.unread x3)
def sRead (arg : Memref sig .tc .vmem S1x512 .f32) (harg : arg.IsWhole) (x : Vec Ideal S1x512 .f32) : Vec Ideal S1x512 .f32 :=
  View.readAt (Elt Ideal) arg.view (Rect.unit ![0, 0] S1x512.size (whole_2 _)).toLoadRect (harg.unread x)

theorem tRead_eq : tRead arg3 harg3 x2 = fun b => View.ld x2 (rowT b) := funext fun b => readAt_ld harg3 x2 _
theorem xRead_eq : xRead arg1 harg1 x0 = x0 := (readAt_ld harg1 x0 _).trans (View.ld_unit_zero z2 _ _)
theorem aRead_eq : aRead arg2 harg2 x1 = x1 := (readAt_ld harg2 x1 _).trans (View.ld_unit_zero z2 _ _)
theorem wRead_eq : wRead arg4 harg4 x3 = x3 := (readAt_ld harg4 x3 _).trans (View.ld_unit_zero z2 _ _)
theorem sRead_eq (arg : Memref sig .tc .vmem S1x512 .f32) (harg : arg.IsWhole) (x : Vec Ideal S1x512 .f32) : sRead arg harg x = x :=
  (readAt_ld harg x _).trans (View.ld_unit_zero z2 _ _)

/-! What the runs store. -/

theorem scratch_A_0 (hc0 : cond0_0 i) : (kernelRun0_A (F := Ideal) c i arg1 harg1 arg2 harg2 arg3 harg3 arg4 harg4 arg5 harg5 arg6 harg6 arg7 harg7 arg8 harg8 arg9 harg9 hc0 x0 x1 x2 x3 x4 x5).2.1
    = codes (tRead arg3 harg3 x2) (xRead arg1 harg1 x0) := by
  sl_kernel_rfl

theorem scratch_A_1 (hc0 : cond0_0 i) : (kernelRun0_A (F := Ideal) c i arg1 harg1 arg2 harg2 arg3 harg3 arg4 harg4 arg5 harg5 arg6 harg6 arg7 harg7 arg8 harg8 arg9 harg9 hc0 x0 x1 x2 x3 x4 x5).2.2.1
    = scales (tRead arg3 harg3 x2) (aRead arg2 harg2 x1) := by
  sl_kernel_rfl

theorem pieces_A (hc0 : cond0_0 i) : (kernelRun0_A (F := Ideal) c i arg1 harg1 arg2 harg2 arg3 harg3 arg4 harg4 arg5 harg5 arg6 harg6 arg7 harg7 arg8 harg8 arg9 harg9 hc0 x0 x1 x2 x3 x4 x5).1
    = outs (fun j => arg8.view.readCov (codes (tRead arg3 harg3 x2) (xRead arg1 harg1 x0)) (rowsC j).toLoadRect)
        (fun j => arg9.view.readCov (scales (tRead arg3 harg3 x2) (aRead arg2 harg2 x1)) (rowsL j).toLoadRect)
        (wRead arg4 harg4 x3) (sRead arg5 harg5 x4) (sRead arg6 harg6 x5) := by
  sl_kernel_rfl

theorem pieces_B (hc0 : ¬cond0_0 i) : (kernelRun0_B (F := Ideal) c i arg1 harg1 arg2 harg2 arg3 harg3 arg4 harg4 arg5 harg5 arg6 harg6 arg7 harg7 arg8 harg8 arg9 harg9 hc0 x0 x1 x2 x3 x4 x5 xs0 xs1).1
    = outs (fun j => View.readAt (Elt Ideal) arg8.view (rowsC j).toLoadRect (harg8.unread xs0))
        (fun j => View.readAt (Elt Ideal) arg9.view (rowsL j).toLoadRect (harg9.unread xs1))
        (wRead arg4 harg4 x3) (sRead arg5 harg5 x4) (sRead arg6 harg6 x5) := by
  sl_kernel_rfl

/-! What the runs leave. -/

theorem left_A (hc0 : cond0_0 i) : out0_A_6 (F := Ideal) c i arg1 harg1 arg2 harg2 arg3 harg3 arg4 harg4 arg5 harg5 arg6 harg6 arg7 harg7 arg8 harg8 arg9 harg9 hc0 x0 x1 x2 x3 x4 x5
    = oT (cT x0 x2) (sT x1 x2) x3 x4 x5 := by
  unfold out0_A_6
  rw [View.read_writes_eq_canon VO0_6 _ _ (cover0_A_6 c i arg1 harg1 arg2 harg2 arg3 harg3 arg4 harg4 arg5 harg5 arg6 harg6 arg7 harg7 arg8 harg8 arg9 harg9 hc0 x0 x1 x2 x3 x4 x5), pieces_A]
  simp only [View.readCov_eq_canon', tRead_eq, xRead_eq, aRead_eq, wRead_eq, sRead_eq]
  rfl

theorem left_B (hc0 : ¬cond0_0 i) : out0_B_6 (F := Ideal) c i arg1 harg1 arg2 harg2 arg3 harg3 arg4 harg4 arg5 harg5 arg6 harg6 arg7 harg7 arg8 harg8 arg9 harg9 hc0 x0 x1 x2 x3 x4 x5 xs0 xs1
    = oT xs0 xs1 x3 x4 x5 := by
  unfold out0_B_6
  rw [View.read_writes_eq_canon VO0_6 _ _ (cover0_B_6 c i arg1 harg1 arg2 harg2 arg3 harg3 arg4 harg4 arg5 harg5 arg6 harg6 arg7 harg7 arg8 harg8 arg9 harg9 hc0 x0 x1 x2 x3 x4 x5 xs0 xs1), pieces_B]
  simp only [readAt_ld, wRead_eq, sRead_eq]
  rfl

theorem sleft_A_0 (hc0 : cond0_0 i) : sout0_A_0 (F := Ideal) c i arg1 harg1 arg2 harg2 arg3 harg3 arg4 harg4 arg5 harg5 arg6 harg6 arg7 harg7 arg8 harg8 arg9 harg9 hc0 x0 x1 x2 x3 x4 x5 = cT x0 x2 := by
  unfold sout0_A_0
  rw [View.read_writes_eq_canon VS0_0 _ _ (scover0_A_0 c i arg1 harg1 arg2 harg2 arg3 harg3 arg4 harg4 arg5 harg5 arg6 harg6 arg7 harg7 arg8 harg8 arg9 harg9 hc0 x0 x1 x2 x3 x4 x5), scratch_A_0, tRead_eq, xRead_eq]
  rfl

theorem sleft_A_1 (hc0 : cond0_0 i) : sout0_A_1 (F := Ideal) c i arg1 harg1 arg2 harg2 arg3 harg3 arg4 harg4 arg5 harg5 arg6 harg6 arg7 harg7 arg8 harg8 arg9 harg9 hc0 x0 x1 x2 x3 x4 x5 = sT x1 x2 := by
  unfold sout0_A_1
  rw [View.read_writes_eq_canon VS0_1 _ _ (scover0_A_1 c i arg1 harg1 arg2 harg2 arg3 harg3 arg4 harg4 arg5 harg5 arg6 harg6 arg7 harg7 arg8 harg8 arg9 harg9 hc0 x0 x1 x2 x3 x4 x5), scratch_A_1, tRead_eq, aRead_eq]
  rfl

end Runs

end Cert.MergeIdeal.Hand

end
-- ==== Proof.MergeRefValue.lean ====
/- The merge's reference over the extended reals: the array the launch leaves, and what the host's lines after it make of
   it — each row of the result is the row that the table names. -/
module

public import proofs.«01_k».proof.Proof.MlpRow
public import proofs.«01_k».proof.Proof.Gen.MergeRefIdeal.Frame
public import Idealize.ShloMosaic.Lib.Pointwise
public import Idealize.ShloMosaic.Lib.StableHlo.Predicate
public import Idealize.ShloMosaic.Lib.Pipeline.Value
public import Idealize.ShloMosaic.Lib.Pipeline.ValueKit

@[expose] public section

set_option maxRecDepth 16384

noncomputable section

namespace Cert.MergeRefIdeal.Hand

open Idealize.ShloMosaic Idealize.ShloMosaic.TcCoe Idealize.SL.Sem
open Cert.MergeRefIdeal Cert.MergeRefIdeal.Gen
open Cert.MlpRow (lin)

/-! ## The launch -/

theorem z2 : (![0, 0] : Fin 2 → ℕ) = fun _ => 0 := by funext b; fin_cases b <;> rfl

theorem prod_at (x : Vec Ideal S1024x5120 .fp8e4m3) (a : Vec Ideal S1x1024 .f32) (w : Vec Ideal S5120x3584 .fp8e4m3) (s b : Vec Ideal S1x3584 .f32)
    (i : Fin 1024) (j : Fin 3584) :
    k0_pay1 (F := Ideal) x a w s b (ix2 i j) = lin (fun k => x (ix2 i k)) (a (ix2 0 i)) (fun k => w (ix2 k j)) (s (ix2 0 j)) (b (ix2 0 j)) := by
  unfold lin
  pointwise! [k0_pay1]

theorem out_eq (x : Vec Ideal S1024x5120 .fp8e4m3) (a : Vec Ideal S1x1024 .f32) (w : Vec Ideal S5120x3584 .fp8e4m3) (s b : Vec Ideal S1x3584 .f32) :
    out0_5 (F := Ideal) x a w s b = k0_pay1 (F := Ideal) x a w s b := by
  unfold out0_5
  rw [View.canon_unit_zero z2]
  unfold r0_0 r0_1 r0_2 r0_3
  rw [View.ld_unit_zero z2, View.ld_unit_zero z2, View.ld_unit_zero z2, View.ld_unit_zero z2, View.ld_unit_zero z2]

variable (m : (ℓ : Loc nD τ sig) → Buf (Elt Ideal) ℓ) (ρ : Dev nD → PrngReg)

/-- The array the launch leaves. -/
def P (c : Dev nD) : Vec Ideal S1024x3584 .f32 :=
  k0_pay1 (F := Ideal) (m ((c : Thread nD τ).loc main_arg0)) (m ((c : Thread nD τ).loc main_arg1)) (m ((c : Thread nD τ).loc main_arg3))
    (m ((c : Thread nD τ).loc main_arg4)) (m ((c : Thread nD τ).loc main_arg5))

theorem idxs : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := by
  decide +kernel

theorem blk0 (c : Dev nD) (t : Fin cfg0.N) : iblk m c 0 t = m ((c : Thread nD τ).loc main_arg0) := by
  funext y
  obtain ⟨i, j, rfl⟩ : ∃ (i : Fin 1024) (j : Fin 5120), y = ix2 i j := ⟨y 0, y 1, eq_ix2 y⟩
  blk_ext [iblk, V, idxs t]

theorem blk1 (c : Dev nD) (t : Fin cfg0.N) : iblk m c 1 t = m ((c : Thread nD τ).loc main_arg1) := by
  funext y
  obtain ⟨i, j, rfl⟩ : ∃ (i : Fin 1) (j : Fin 1024), y = ix2 i j := ⟨y 0, y 1, eq_ix2 y⟩
  blk_ext [iblk, V, idxs t]

theorem blk2 (c : Dev nD) (t : Fin cfg0.N) : iblk m c 2 t = m ((c : Thread nD τ).loc main_arg3) := by
  funext y
  obtain ⟨i, j, rfl⟩ : ∃ (i : Fin 5120) (j : Fin 3584), y = ix2 i j := ⟨y 0, y 1, eq_ix2 y⟩
  blk_ext [iblk, V, idxs t]

theorem blk3 (c : Dev nD) (t : Fin cfg0.N) : iblk m c 3 t = m ((c : Thread nD τ).loc main_arg4) := by
  funext y
  obtain ⟨i, j, rfl⟩ : ∃ (i : Fin 1) (j : Fin 3584), y = ix2 i j := ⟨y 0, y 1, eq_ix2 y⟩
  blk_ext [iblk, V, idxs t]

theorem blk4 (c : Dev nD) (t : Fin cfg0.N) : iblk m c 4 t = m ((c : Thread nD τ).loc main_arg5) := by
  funext y
  obtain ⟨i, j, rfl⟩ : ∃ (i : Fin 1) (j : Fin 3584), y = ix2 i j := ⟨y 0, y 1, eq_ix2 y⟩
  blk_ext [iblk, V, idxs t]

theorem emb5 (t : Fin cfg0.N) (y : S1024x3584.Idx) : ((cfg0.win 5).blk t).view.emb y = y := by
  have e0 : ((((cfg0.win 5).blk t).view.emb y) 0).val = (y 0).val := by blk_simp [idxs t]
  have e1 : ((((cfg0.win 5).blk t).view.emb y) 1).val = (y 1).val := by blk_simp [idxs t]
  exact (eq_ix2 _).trans ((congrArg₂ ix2 (Fin.ext e0) (Fin.ext e1)).trans (eq_ix2 y).symm)

theorem after_5 (c : Dev nD) (t : Fin cfg0.N) : (dats m 0 c).after 5 t = P m c := by
  rw [after0_5, out_eq, blk0, blk1, blk2, blk3, blk4]
  rfl

theorem block5 (c : Dev nD) (t : Fin cfg0.N) (X : Vec Ideal S1024x3584 .f32) (h : X = P m c) (y : S1024x3584.Idx) :
    X y = P m c (((cfg0.win 5).blk t).view.emb y) := by
  rw [emb5 t y, h]

theorem final5 (c : Dev nD) : (dats m 0 c).arrAt 5 cfg0.N = P m c :=
  (dats m 0 c).arrAt_eq_of_covers 5 _ (by decide +kernel) fun t _ y => block5 m c t _ (after_5 m c t) y

/-! ## The host's lines after it -/

/-- The host's row numbers: a negative one counts from the end. -/
def rows (v : IVec S4x256 32) : IVec S1024 32 :=
  select (cmpi .slt (shapeCast S1024 v shapeCasts_S4x256_S1024) (broadcastInDim S1024 ![] bcast_S_S1024 (constantI S_ 32 0#32)))
    (addi (shapeCast S1024 v shapeCasts_S4x256_S1024) (broadcastInDim S1024 ![] bcast_S_S1024 (constantI S_ 32 1024#32)))
    (shapeCast S1024 v shapeCasts_S4x256_S1024)

/-- The rows that the table names. -/
def picked (x : Vec Ideal S1024x3584 .f32) (v : IVec S4x256 32) : Vec Ideal S1024x3584 .bf16 :=
  truncf (F := Ideal) .bf16 (Host.gather gather_S1024x3584_S1024x1_S1024x3584_1_0_n_n_0_1_13584 x
    (broadcastInDim S1024x1 ![0] bcast_S1024_S1024x1_0 (rows v))) bitsLt_bf16_f32

theorem tail_eq (c : Dev nD) : Pipeline.afterTail₀ cfgs (dats m) 0 (V0 m) [hostOps1] c main_v9
    = picked (P m c) (m ((c : Thread nD τ).loc main_arg2)) := by
  have e0 : Pipeline.withArrays (cfgs 0).spec c (V0 m c) (fun w => (dats m 0 c).arrAt w (cfgs 0).N) (Proc.devRef .tc main_v0) = P m c :=
    (Pipeline.withArrays_arr (cfgs 0).spec launch0.win.arr_inj c (V0 m c) _ 5).trans (final5 m c)
  have e2 : Pipeline.withArrays (cfgs 0).spec c (V0 m c) (fun w => (dats m 0 c).arrAt w (cfgs 0).N) (Proc.devRef .tc main_arg2) = m ((c : Thread nD τ).loc main_arg2) :=
    Pipeline.withArrays_of_ne _ c (V0 m c) _ main_arg2 (by exact (by decide : ∀ w, Pipeline.arrRef spec0 w ≠ main_arg2))
  unfold Pipeline.afterTail₀
  generalize Pipeline.withArrays (cfgs 0).spec c (V0 m c) (fun w => (dats m 0 c).arrAt w (cfgs 0).N) = W at e0 e2 ⊢
  simp only [hostOps1, List.flatten_cons, List.flatten_nil, List.append_nil]
  after_results
  rw [e0, e2]
  rfl

/-! ## The picked rows, entry by entry -/

/-- The rows that a column of row numbers names. -/
theorem gather_at (x : Vec Ideal S1024x3584 .f32) (idx : IVec S1024x1 32) (p : Fin 1024) (j : Fin 3584) (k : Fin 1024)
    (h : (idx (ix2 p 0)).toInt.toNat = k.val) :
    Host.gather gather_S1024x3584_S1024x1_S1024x3584_1_0_n_n_0_1_13584 x idx (ix2 p j) = x (ix2 k j) := by
  unfold Host.gather
  congr 1
  have hk := k.isLt
  funext a
  refine Fin.ext ?_
  fin_cases a
  · have hm : (0 : Fin 2) ∈ gather_S1024x3584_S1024x1_S1024x3584_1_0_n_n_0_1_13584.startIndexMap := List.mem_singleton.mpr rfl
    have hb : (0 : Fin 2) ∉ gather_S1024x3584_S1024x1_S1024x3584_1_0_n_n_0_1_13584.operandBatchingDims := List.not_mem_nil
    have hs : (0 : Fin 2) ∉ gather_S1024x3584_S1024x1_S1024x3584_1_0_n_n_0_1_13584.sKept := by
      rw [GatherDims.mem_sKept]
      simp [gather_S1024x3584_S1024x1_S1024x3584_1_0_n_n_0_1_13584]
    show (gather_S1024x3584_S1024x1_S1024x3584_1_0_n_n_0_1_13584.operandIdx (ix2 p j) idx (0 : Fin 2)).val = k.val
    simp only [GatherDims.operandIdx, GatherDims.batchCoord_eq_zero _ _ _ hb, GatherDims.offCoord_eq_zero _ _ _ hs,
      Nat.add_zero, GatherDims.start, dif_pos hm]
    have hi : gather_S1024x3584_S1024x1_S1024x3584_1_0_n_n_0_1_13584.siIdx (ix2 p j)
        ⟨List.idxOf (0 : Fin 2) gather_S1024x3584_S1024x1_S1024x3584_1_0_n_n_0_1_13584.startIndexMap, List.idxOf_lt_length_iff.2 hm⟩ = ix2 p 0 := by
      funext b
      refine Fin.ext ?_
      fin_cases b
      · rfl
      · rfl
    show min (idx _).toInt.toNat (1024 - 1) = k.val
    rw [hi, h]
    omega
  · have hm : (1 : Fin 2) ∉ gather_S1024x3584_S1024x1_S1024x3584_1_0_n_n_0_1_13584.startIndexMap := by
      simp [gather_S1024x3584_S1024x1_S1024x3584_1_0_n_n_0_1_13584]
    have hb : (1 : Fin 2) ∉ gather_S1024x3584_S1024x1_S1024x3584_1_0_n_n_0_1_13584.operandBatchingDims := List.not_mem_nil
    show (gather_S1024x3584_S1024x1_S1024x3584_1_0_n_n_0_1_13584.operandIdx (ix2 p j) idx (1 : Fin 2)).val = j.val
    simp only [GatherDims.operandIdx, GatherDims.batchCoord_eq_zero _ _ _ hb,
      Nat.add_zero, GatherDims.start, dif_neg hm]
    have hs : (1 : Fin 2) ∈ gather_S1024x3584_S1024x1_S1024x3584_1_0_n_n_0_1_13584.sKept := by
      rw [GatherDims.mem_sKept]
      simp [gather_S1024x3584_S1024x1_S1024x3584_1_0_n_n_0_1_13584]
    rw [Nat.zero_add, GatherDims.offCoord, dif_pos hs]
    rfl

/-- A row number that is in range stays. -/
theorem rows_at (v : IVec S4x256 32) (b : Fin 4) (r : Fin 256) (k : Fin 1024) (h : v (ix2 b r) = BitVec.ofNat 32 k.val) :
    rows v (ix1 ⟨256 * b.val + r.val, by omega⟩) = BitVec.ofNat 32 k.val := by
  have e : rows v (ix1 ⟨256 * b.val + r.val, by omega⟩)
      = Scalar.select (IntOp.cmpi .slt (v (ix2 b r)) 0#32) (IntOp.addi (v (ix2 b r)) 1024#32) (v (ix2 b r)) := by pointwise! [rows]
  have hk := k.isLt
  have hn : IntOp.cmpi .slt (BitVec.ofNat 32 k.val) 0#32 = 0#1 := by
    have hlt : ¬ IntOp.cmpi .slt (BitVec.ofNat 32 k.val) 0#32 = 1#1 := by
      rw [StableHlo.Predicate.slt_iff_toNat (by rw [BitVec.toNat_ofNat]; omega) (by decide)]
      exact Nat.not_lt_zero _
    generalize IntOp.cmpi .slt (BitVec.ofNat 32 k.val) 0#32 = z at hlt
    revert z
    decide
  rw [e, h, hn]
  rfl

theorem picked_at (x : Vec Ideal S1024x3584 .f32) (v : IVec S4x256 32) (p : Fin 1024) (j : Fin 3584) (k : Fin 1024)
    (h : rows v (ix1 p) = BitVec.ofNat 32 k.val) : picked x v (ix2 p j) = x (ix2 k j) := by
  unfold picked
  have e := gather_at x (broadcastInDim S1024x1 ![0] bcast_S1024_S1024x1_0 (rows v)) p j k (by
    have e : broadcastInDim S1024x1 ![0] bcast_S1024_S1024x1_0 (rows v) (ix2 p 0) = rows v (ix1 p) := by pointwise
    rw [e, h]
    have hk := k.isLt
    rw [BitVec.toInt_eq_toNat_cond, BitVec.toNat_ofNat]
    omega)
  exact e

/-! ## The run -/

theorem run : θ_run defs (onTc (τ := τ) (main (F := Ideal))) ⟨m, fun _ => 0, ρ⟩ fun r => ∀ c : Dev nD,
      r.2.mem ((c : Thread nD τ).loc main_v9) = picked (P m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩) (run_main m ρ)

end Cert.MergeRefIdeal.Hand

end
-- ==== Proof.MergeValue.lean ====
/- The merge's result over its grid: every block it writes back is the reference's block, where the row numbers name
   rows, and the blocks cover the array. -/
module

public import proofs.«01_k».proof.Proof.MergeLeft
public import proofs.«01_k».proof.Proof.MergeRefValue
public import proofs.«01_k».proof.Proof.Gen.MergeIdeal.Frame
public import proofs.«01_k».proof.Proof.Gen.MergeIdeal.Value
public import Idealize.ShloMosaic.Lib.Pipeline.ValueKit

@[expose] public section

set_option maxRecDepth 16384

noncomputable section

namespace Cert.MergeIdeal.Hand

open Idealize.ShloMosaic Idealize.ShloMosaic.TcCoe Idealize.SL.Sem
open Cert.MergeIdeal Cert.MergeIdeal.Gen
open Cert.MlpRow (lin)

/-! ## The scratch and the output, entry by entry -/

/-- Stores, one for each `j`, that write one function's entries and cover an index leave that function's entry there. -/
theorem canon_map {S : Shape} {e : EltTy} {n : ℕ} (P : Fin n → View.Piece (Elt Ideal) S e) {l : List (Fin n)} (hl : ∀ j, j ∈ l)
    (G : S.Idx → Elt Ideal e) (h : ∀ j x, (P j).2 x = G ((P j).1.emb x)) (y : S.Idx) (j : Fin n) (x : (P j).1.shape.Idx) (hy : (P j).1.emb x = y) :
    View.canon (l.map P) y = G y := by
  refine View.canon_apply_of_pieces G _ (fun p hp => ?_) y ⟨P j, List.mem_map_of_mem (hl j), hy ▸ (P j).1.idx_mem x⟩
  obtain ⟨i, -, rfl⟩ := List.mem_map.1 hp
  exact h i

theorem rowT_at (x2 : Vec Ideal S4x256 .i32) (b : Fin 4) (r : Fin 256) : View.ld x2 (rowT b) (ix2 0 r) = x2 (ix2 b r) :=
  View.ld_unit_apply_of x2 _ _ _ _ _ fun a => by fin_cases a <;> simp

theorem rowsC_at (C : Vec Ideal S1024x5120 .fp8e4m3) (b : Fin 4) (r : Fin 256) (j : Fin 5120) :
    View.ld C (rowsC b) (ix2 r j) = C (ix2 ⟨256 * b.val + r.val, by omega⟩ j) :=
  View.ld_unit_apply_of C _ _ _ _ _ fun a => by fin_cases a <;> simp

theorem rowsL_at (A : Vec Ideal S1024x128 .f32) (b : Fin 4) (r : Fin 256) :
    View.ld A (rowsL b) (ix2 r 0) = A (ix2 ⟨256 * b.val + r.val, by omega⟩ 0) :=
  View.ld_unit_apply_of A _ _ _ _ _ fun a => by fin_cases a <;> simp

theorem cPiece_at (t) (x) (b : Fin 4) (r : Fin 256) (j : Fin 5120) : (cPiece t x b).1.emb (ix2 r j) = ix2 ⟨256 * b.val + r.val, by omega⟩ j := by
  show (Rect.unit (s := S1024x5120) ![256 * b.val, 0] S256x5120.size (rows_in 5120 _ 256 1024 (by omega))).idx (ix2 r j) = _
  idx_ext <;> simp

theorem sPiece_at (t) (s) (b : Fin 4) (r : Fin 256) (l : Fin 128) : (sPiece t s b).1.emb (ix2 r l) = ix2 ⟨256 * b.val + r.val, by omega⟩ l := by
  show (Rect.unit (s := S1024x128) ![256 * b.val, 0] S256x128.size (rows_in 128 _ 256 1024 (by omega))).idx (ix2 r l) = _
  idx_ext <;> simp

theorem oPiece_at (x a w s b) (p : Fin 4) (r : Fin 256) (j : Fin 512) : (oPiece x a w s b p).1.emb (ix2 r j) = ix2 ⟨256 * p.val + r.val, by omega⟩ j := by
  show (Rect.unit (s := S1024x512) ![256 * p.val, 0] S256x512.size (rows_in 512 _ 256 1024 (by omega))).idx (ix2 r j) = _
  idx_ext <;> simp

/-- The block and the place in it of a row. -/
def hi (p : Fin 1024) : Fin 4 := ⟨p.val / 256, by omega⟩
def lo (p : Fin 1024) : Fin 256 := ⟨p.val % 256, by omega⟩

theorem hi_lo (p : Fin 1024) (h : 256 * (hi p).val + (lo p).val < 1024) : (⟨256 * (hi p).val + (lo p).val, h⟩ : Fin 1024) = p :=
  Fin.ext (by show 256 * (p.val / 256) + p.val % 256 = p.val; omega)

theorem hi_of (b : Fin 4) (r : Fin 256) (h : 256 * b.val + r.val < 1024) : hi ⟨256 * b.val + r.val, h⟩ = b :=
  Fin.ext (by show (256 * b.val + r.val) / 256 = b.val; omega)
theorem lo_of (b : Fin 4) (r : Fin 256) (h : 256 * b.val + r.val < 1024) : lo ⟨256 * b.val + r.val, h⟩ = r :=
  Fin.ext (by show (256 * b.val + r.val) % 256 = r.val; omega)

/-- The table of row numbers names the rows `k`. -/
def Names (v : IVec S4x256 32) (k : Fin 1024 → Fin 1024) : Prop := ∀ p, v (ix2 (hi p) (lo p)) = BitVec.ofNat 32 (k p).val

theorem Names.at {v : IVec S4x256 32} {k : Fin 1024 → Fin 1024} (h : Names v k) (b : Fin 4) (r : Fin 256) :
    v (ix2 b r) = BitVec.ofNat 32 (k ⟨256 * b.val + r.val, by omega⟩).val := by
  have e := h ⟨256 * b.val + r.val, by omega⟩
  rwa [hi_of, lo_of] at e

section Picked
variable {v : Vec Ideal S4x256 .i32} {k : Fin 1024 → Fin 1024} (h : Names v k)
include h

theorem cT_at (x0 : Vec Ideal S1024x5120 .fp8e4m3) (p : Fin 1024) (j : Fin 5120) : cT x0 v (ix2 p j) = x0 (ix2 (k p) j) := by
  refine canon_map (cPiece (fun b => View.ld v (rowT b)) x0) (by decide) (fun y => x0 (ix2 (k (y 0)) (y 1))) (fun b y => ?_) _ (hi p) (ix2 (lo p) j) ?_
  · obtain ⟨r, j, rfl⟩ : ∃ (r : Fin 256) (j : Fin 5120), y = ix2 r j := ⟨y 0, y 1, eq_ix2 y⟩
    refine (codes_at _ x0 r _ ((rowT_at v b r).trans (h.at b r)) j).trans ?_
    exact congrArg (fun y : S1024x5120.Idx => x0 (ix2 (k (y 0)) (y 1))) (cPiece_at _ x0 b r j).symm
  · refine (cPiece_at _ _ _ _ _).trans ?_
    rw [hi_lo]

theorem sT_at (x1 : Vec Ideal S1x1024 .f32) (p : Fin 1024) (l : Fin 128) : sT x1 v (ix2 p l) = x1 (ix2 0 (k p)) := by
  refine canon_map (sPiece (fun b => View.ld v (rowT b)) x1) (by decide) (fun y => x1 (ix2 0 (k (y 0)))) (fun b y => ?_) _ (hi p) (ix2 (lo p) l) ?_
  · obtain ⟨r, l, rfl⟩ : ∃ (r : Fin 256) (l : Fin 128), y = ix2 r l := ⟨y 0, y 1, eq_ix2 y⟩
    refine (scale_at x1 _ r _ ((rowT_at v b r).trans (h.at b r)) l).trans ?_
    exact congrArg (fun y : S1024x128.Idx => x1 (ix2 0 (k (y 0)))) (sPiece_at _ x1 b r l).symm
  · refine (sPiece_at _ _ _ _ _).trans ?_
    rw [hi_lo]

end Picked

/-- The product of a row of the codes `C` and a column of the weights. -/
def entry (C : Vec Ideal S1024x5120 .fp8e4m3) (A : Vec Ideal S1024x128 .f32) (w : Vec Ideal S5120x512 .fp8e4m3) (s b : Vec Ideal S1x512 .f32)
    (p : Fin 1024) (j : Fin 512) : Elt Ideal .bf16 :=
  lin (fun x => C (ix2 p x)) (A (ix2 p 0)) (fun x => w (ix2 x j)) (s (ix2 0 j)) (b (ix2 0 j))

theorem piece_entry (C : Vec Ideal S1024x5120 .fp8e4m3) (A : Vec Ideal S1024x128 .f32) (w : Vec Ideal S5120x512 .fp8e4m3) (s b : Vec Ideal S1x512 .f32)
    (q : Fin 4) (r : Fin 256) (j : Fin 512) :
    k0_pay15 (F := Ideal) (View.ld C (rowsC q)) w (View.ld A (rowsL q)) s b (ix2 r j) = entry C A w s b ⟨256 * q.val + r.val, by omega⟩ j := by
  have e0 : (fun k => View.ld C (rowsC q) (ix2 r k)) = fun k => C (ix2 ⟨256 * q.val + r.val, by omega⟩ k) := funext fun k => rowsC_at C q r k
  have e1 := rowsL_at A q r
  refine (prod_at (View.ld C (rowsC q)) w (View.ld A (rowsL q)) s b r j).trans ?_
  unfold entry
  exact congrArg₂ (fun f a => lin f a (fun x => w (ix2 x j)) (s (ix2 0 j)) (b (ix2 0 j))) e0 e1

theorem oT_at (C : Vec Ideal S1024x5120 .fp8e4m3) (A : Vec Ideal S1024x128 .f32) (w : Vec Ideal S5120x512 .fp8e4m3) (s b : Vec Ideal S1x512 .f32)
    (p : Fin 1024) (j : Fin 512) : oT C A w s b (ix2 p j) = entry C A w s b p j := by
  have H := piece_entry C A w s b
  generalize entry C A w s b = E at H ⊢
  refine canon_map (oPiece (fun j => View.ld C (rowsC j)) (fun j => View.ld A (rowsL j)) w s b) (by decide)
    (fun y => E (y 0) (y 1)) (fun q y => ?_) _ (hi p) (ix2 (lo p) j) ?_
  · obtain ⟨r, j, rfl⟩ : ∃ (r : Fin 256) (j : Fin 512), y = ix2 r j := ⟨y 0, y 1, eq_ix2 y⟩
    exact (H q r j).trans (congrArg (fun y : S1024x512.Idx => E (y 0) (y 1)) (oPiece_at _ _ w s b q r j).symm)
  · refine (oPiece_at _ _ _ _ _ _ _ _).trans ?_
    rw [hi_lo]

/-! ## The staged blocks -/

variable (m : (ℓ : Loc nD τ sig) → Buf (Elt Ideal) ℓ) (ρ : Dev nD → PrngReg)

theorem point_lt (t : Fin cfg0.N) : t.val < 7 := lt_of_lt_of_eq t.isLt (show cfg0.N = 7 from N_0)

/-- The first point, and a column of a point's block in the whole array. -/
def p0 : Fin cfg0.N := ⟨0, lt_of_lt_of_eq (by decide : 0 < 7) (show cfg0.N = 7 from N_0).symm⟩
abbrev col (t : Fin cfg0.N) (j : Fin 512) : Fin 3584 := ⟨512 * t.val + j.val, by have := point_lt t; omega⟩

theorem idxWhole : ∀ t : Fin cfg0.N, win0_0.index t = ![0, 0] ∧ win0_1.index t = ![0, 0] ∧ win0_2.index t = ![0, 0] := by
  decide +kernel

theorem idxCols : ∀ t : Fin cfg0.N, win0_3.index t = ![0, t.val] ∧ win0_4.index t = ![0, t.val] ∧ win0_5.index t = ![0, t.val] ∧ win0_6.index t = ![0, t.val] := by
  decide +kernel

theorem blk0 (c : Dev nD) (t : Fin cfg0.N) (r : Fin 1024) (j : Fin 5120) :
    iblk m c 0 t (ix2 r j) = m ((c : Thread nD τ).loc main_arg0) (ix2 r j) := by
  blk_ext [iblk, V, idxWhole t]

theorem blk1 (c : Dev nD) (t : Fin cfg0.N) (j : Fin 1024) :
    iblk m c 1 t (ix2 0 j) = m ((c : Thread nD τ).loc main_arg1) (ix2 0 j) := by
  blk_ext [iblk, V, idxWhole t]

theorem blk2 (c : Dev nD) (t : Fin cfg0.N) (b : Fin 4) (r : Fin 256) :
    iblk m c 2 t (ix2 b r) = m ((c : Thread nD τ).loc main_arg2) (ix2 b r) := by
  blk_ext [iblk, V, idxWhole t]

theorem blk3 (c : Dev nD) (t : Fin cfg0.N) (x : Fin 5120) (j : Fin 512) :
    iblk m c 3 t (ix2 x j) = m ((c : Thread nD τ).loc main_arg3) (ix2 x (col t j)) := by
  have := point_lt t
  blk_ext [iblk, V, idxCols t]

theorem blk4 (c : Dev nD) (t : Fin cfg0.N) (j : Fin 512) :
    iblk m c 4 t (ix2 0 j) = m ((c : Thread nD τ).loc main_arg4) (ix2 0 (col t j)) := by
  have := point_lt t
  blk_ext [iblk, V, idxCols t]

theorem blk5 (c : Dev nD) (t : Fin cfg0.N) (j : Fin 512) :
    iblk m c 5 t (ix2 0 j) = m ((c : Thread nD τ).loc main_arg5) (ix2 0 (col t j)) := by
  have := point_lt t
  blk_ext [iblk, V, idxCols t]

/-! ## What each grid point leaves -/

/-- The picked codes and scales, and the output of a point. -/
abbrev C0 (c : Dev nD) : Vec Ideal S1024x5120 .fp8e4m3 := cT (iblk m c 0 p0) (iblk m c 2 p0)
abbrev A0 (c : Dev nD) : Vec Ideal S1024x128 .f32 := sT (iblk m c 1 p0) (iblk m c 2 p0)
def O (c : Dev nD) (t : Fin cfg0.N) : Vec Ideal S1024x512 .bf16 := oT (C0 m c) (A0 m c) (iblk m c 3 t) (iblk m c 4 t) (iblk m c 5 t)

theorem congr5 {A0 A1 A2 A3 A4 B : Type} (f : A0 → A1 → A2 → A3 → A4 → B) {a0 b0 : A0} {a1 b1 : A1} {a2 b2 : A2} {a3 b3 : A3} {a4 b4 : A4}
    (h0 : a0 = b0) (h1 : a1 = b1) (h2 : a2 = b2) (h3 : a3 = b3) (h4 : a4 = b4) : f a0 a1 a2 a3 a4 = f b0 b1 b2 b3 b4 := by
  subst h0 h1 h2 h3 h4
  rfl

theorem tup3 {X Y Z : Type} {x x' : X} {y y' : Y} {z z' : Z} (hx : x = x') (hy : y = y') (hz : z = z') : (x, y, z) = (x', y', z') := by
  subst hx hy hz
  rfl

theorem outs_eq (c : Dev nD) : ∀ (k : ℕ) (t : Fin cfg0.N), t.val = k → outsAt0 m c t.val t.isLt = (O m c t, C0 m c, A0 m c) := by
  intro k
  induction k with
  | zero =>
    intro t ht
    obtain rfl : t = p0 := Fin.ext ht
    refine (outsAt0_A m c p0 rfl).trans (tup3 ?_ ?_ ?_)
    · apply left_A
    · apply sleft_A_0
    · apply sleft_A_1
  | succ k ih =>
    intro t ht
    have hlt := point_lt t
    have h0 : ¬t.val % 7 = 0 := by omega
    have e := ih ⟨t.val - 1, Nat.lt_of_le_of_lt (Nat.sub_le _ _) t.isLt⟩ (by show t.val - 1 = k; omega)
    dsimp only at e
    have e0 : (outsAt0 m c (t.val - 1) (Nat.lt_of_le_of_lt (Nat.sub_le _ _) t.isLt)).2.1 = C0 m c := by rw [e]
    have e1 : (outsAt0 m c (t.val - 1) (Nat.lt_of_le_of_lt (Nat.sub_le _ _) t.isLt)).2.2 = A0 m c := by rw [e]
    have hT : oT (outsAt0 m c (t.val - 1) (Nat.lt_of_le_of_lt (Nat.sub_le _ _) t.isLt)).2.1 (outsAt0 m c (t.val - 1) (Nat.lt_of_le_of_lt (Nat.sub_le _ _) t.isLt)).2.2
        (iblk m c 3 t) (iblk m c 4 t) (iblk m c 5 t) = O m c t := by
      rw [e0, e1]
      rfl
    refine (outsAt0_B m c t h0).trans (tup3 (Eq.trans ?_ hT) e0 e1)
    apply left_B

/-! ## The result -/

def F6 (c : Dev nD) : Buf (Elt Ideal) ((c : Thread nD τ).loc main_v0) :=
  Cert.MergeRefIdeal.Hand.picked (Cert.MergeRefIdeal.Gen.k0_pay1 (F := Ideal) (m ((c : Thread nD τ).loc main_arg0)) (m ((c : Thread nD τ).loc main_arg1)) (m ((c : Thread nD τ).loc main_arg3)) (m ((c : Thread nD τ).loc main_arg4)) (m ((c : Thread nD τ).loc main_arg5)))
    (m ((c : Thread nD τ).loc main_arg2))

theorem after_6 (c : Dev nD) (t : Fin cfg0.N) : (dats m 0 c).after 6 t = O m c t :=
  (after0_6 m c t).trans (by rw [outs_eq m c t.val t rfl])

theorem emb6 (t : Fin cfg0.N) (y : S1024x512.Idx) : ((cfg0.win 6).blk t).view.emb y = ix2 (y 0 : Fin 1024) (col t (y 1)) := by
  have e0 : ((((cfg0.win 6).blk t).view.emb y) 0).val = (y 0).val := by blk_simp [(idxCols t).2.2.2]
  have e1 : ((((cfg0.win 6).blk t).view.emb y) 1).val = t.val * 512 + (y 1).val := by blk_simp [(idxCols t).2.2.2]
  exact (eq_ix2 _).trans (congrArg₂ ix2 (Fin.ext e0) (Fin.ext (e1.trans (by show _ = 512 * t.val + _; omega))))

section Result
variable {c : Dev nD} {k : Fin 1024 → Fin 1024} (h : Names (m ((c : Thread nD τ).loc main_arg2)) k)
include h

theorem names_blk : Names (iblk m c 2 p0) k := fun p => (blk2 m c p0 (hi p) (lo p)).trans (h p)

theorem O_at (t : Fin cfg0.N) (p : Fin 1024) (j : Fin 512) : O m c t (ix2 p j)
    = lin (fun x => m ((c : Thread nD τ).loc main_arg0) (ix2 (k p) x)) (m ((c : Thread nD τ).loc main_arg1) (ix2 0 (k p)))
        (fun x => m ((c : Thread nD τ).loc main_arg3) (ix2 x (col t j))) (m ((c : Thread nD τ).loc main_arg4) (ix2 0 (col t j)))
        (m ((c : Thread nD τ).loc main_arg5) (ix2 0 (col t j))) := by
  have hn := names_blk m h
  have e0 : (fun x => C0 m c (ix2 p x)) = fun x => m ((c : Thread nD τ).loc main_arg0) (ix2 (k p) x) :=
    funext fun x => (cT_at hn _ p x).trans (blk0 m c p0 (k p) x)
  have e1 : A0 m c (ix2 p 0) = m ((c : Thread nD τ).loc main_arg1) (ix2 0 (k p)) := (sT_at hn _ p 0).trans (blk1 m c p0 (k p))
  have e3 : (fun x => iblk m c 3 t (ix2 x j)) = fun x => m ((c : Thread nD τ).loc main_arg3) (ix2 x (col t j)) := funext fun x => blk3 m c t x j
  refine (oT_at _ _ _ _ _ p j).trans (congr5 lin e0 e1 e3 (blk4 m c t j) (blk5 m c t j))

theorem F6_at (p : Fin 1024) (j : Fin 3584) : F6 m c (ix2 p j)
    = lin (fun x => m ((c : Thread nD τ).loc main_arg0) (ix2 (k p) x)) (m ((c : Thread nD τ).loc main_arg1) (ix2 0 (k p)))
        (fun x => m ((c : Thread nD τ).loc main_arg3) (ix2 x j)) (m ((c : Thread nD τ).loc main_arg4) (ix2 0 j))
        (m ((c : Thread nD τ).loc main_arg5) (ix2 0 j)) := by
  have hr : Cert.MergeRefIdeal.Hand.rows (m ((c : Thread nD τ).loc main_arg2)) (ix1 p) = BitVec.ofNat 32 (k p).val := by
    have e := Cert.MergeRefIdeal.Hand.rows_at (m ((c : Thread nD τ).loc main_arg2)) (hi p) (lo p) (k p) (h p)
    rwa [hi_lo] at e
  refine (Cert.MergeRefIdeal.Hand.picked_at _ _ p j (k p) hr).trans ?_
  exact Cert.MergeRefIdeal.Hand.prod_at _ _ _ _ _ (k p) j

theorem block6 (t : Fin cfg0.N) (X : Vec Ideal S1024x512 .bf16) (hX : ∀ p j, X (ix2 p j) = F6 m c (ix2 p (col t j)))
    (y : S1024x512.Idx) : X y = F6 m c (((cfg0.win 6).blk t).view.emb y) := by
  rw [emb6 t y]
  exact (congrArg X (eq_ix2 y)).trans (hX (y 0) (y 1))

theorem back6 (t : Fin cfg0.N) (y : S1024x512.Idx) : (dats m 0 c).after 6 t y = F6 m c (((cfg0.win 6).blk t).view.emb y) :=
  (congrFun (after_6 m c t) y).trans (block6 m h t _ (fun p j => (O_at m h t p j).trans (F6_at m h p (col t j)).symm) y)

theorem final6 : (dats m 0 c).arrAt 6 cfg0.N = F6 m c :=
  (dats m 0 c).arrAt_eq_of_covers 6 _ (by decide +kernel) fun t _ y => back6 m h t y

end Result

/-- The run, where the row numbers name rows: the result is the reference's, and the arguments end unchanged. -/
theorem run (h : ∀ c : Dev nD, ∃ k, Names (m ((c : Thread nD τ).loc main_arg2)) k) :
    θ_run defs (onTc (τ := τ) (main (F := Ideal))) ⟨m, fun _ => 0, ρ⟩ fun r => ∀ c : Dev nD,
      r.2.mem ((c : Thread nD τ).loc main_v0) = F6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r e c => ⟨(e c).1.trans (let ⟨_, hk⟩ := h c; final6 m hk), (e c).2⟩) (Cert.MergeIdeal.Value.run_blocks m ρ)

end Cert.MergeIdeal.Hand

end
-- ==== Proof.MergePre.lean ====
/- What the precondition of the merge's claim says: every entry of the table of row numbers names a row. -/
module

public import proofs.«01_k».proof.Pre_rows_exist
public import proofs.«01_k».proof.Proof.MergeValue

@[expose] public section

noncomputable section

namespace Cert.MergeIdeal.Hand

open Idealize.ShloMosaic
open Cert.MergeIdeal

theorem word_of_bit (w : BitVec 32) (h : IntOp.andi (IntOp.cmpi .sge w 0#32) (IntOp.cmpi .slt w 1024#32) = 1#1) :
    ∃ k : Fin 1024, w = BitVec.ofNat 32 k.val := by
  have hb : ∀ a b : BitVec 1, IntOp.andi a b = 1#1 → a = 1#1 ∧ b = 1#1 := by decide
  obtain ⟨h0, h1⟩ := hb _ _ h
  have h0' : BitVec.ofBool ((0#32).sle w) = 1#1 := h0
  have h1' : BitVec.ofBool (w.slt 1024#32) = 1#1 := h1
  rw [StableHlo.Predicate.ofBool_eq_one_iff] at h0' h1'
  have hz : (0#32 : BitVec 32).toInt = 0 := by decide
  have ht : (1024#32 : BitVec 32).toInt = 1024 := by decide
  simp only [BitVec.sle, BitVec.slt, decide_eq_true_eq, hz, ht] at h0' h1'
  have hw := w.isLt
  rw [BitVec.toInt_eq_toNat_cond] at h0' h1'
  refine ⟨⟨w.toNat, by split at h1' <;> omega⟩, ?_⟩
  rw [BitVec.ofNat_toNat, BitVec.setWidth_eq]

theorem names_of_pre [Cert.Pre_rows_exist.Facts] (x : Vec Ideal S1024x5120 .fp8e4m3) (a : Vec Ideal S1x1024 .f32) (v : IVec S4x256 32)
    (w : Vec Ideal S5120x3584 .fp8e4m3) (s b : Vec Ideal S1x3584 .f32)
    (h : Cert.Pre_rows_exist.fn (F := Ideal) x a v w s b = fun _ => 1#1) : ∃ k, Names v k := by
  have e : ∀ p : Fin 1024, ∃ k : Fin 1024, v (ix2 (hi p) (lo p)) = BitVec.ofNat 32 k.val :=
    fun p => word_of_bit _ (congrFun h (ix2 (hi p) (lo p)))
  exact ⟨fun p => (e p).choose, fun p => (e p).choose_spec⟩

end Cert.MergeIdeal.Hand

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Skeleton
public import proofs.«01_k».proof.Proof.Gen.MergeRefIdeal.Launch
public import proofs.«01_k».proof.Proof.Gen.MergeRefIdeal.Points
public import proofs.«01_k».proof.Proof.Gen.MergeRefIdeal.Frame
public import proofs.«01_k».proof.Proof.Gen.MergeIdeal.Value
public import proofs.«01_k».proof.Proof.Gen.Pre_rows_exist
public import proofs.«01_k».proof.Proof.MlpFrame
public import proofs.«01_k».proof.Proof.MlpAgree
public import Idealize.ShloMosaic.Adequacy
public import Idealize.ShloMosaic.Init
public import proofs.«01_k».proof.Proof.QkvValue
public import proofs.«01_k».proof.Proof.MergePre

@[expose] public section

noncomputable section

namespace Cert.Proof

open Idealize.ShloMosaic Idealize.SL.Sem Cert.MlpIdeal.Hand

theorem algebraic_mlp : letI := Cert.MlpIdeal.Gen.facts; letI := Cert.MlpRefIdeal.Gen.facts; Cert.algebraic_MlpIdeal_MlpRefIdeal :=
  fun m g m' g' _ hagree => ⟨F17 m, F18 m, F19 m, F20 m, F21 m, run m g,
    (θ_run Cert.MlpRefIdeal.defs _ _).mono (fun r h c => by
      obtain ⟨h0, h1, h2, h3, h4, h5, h6, h7, h8, h9, h10, h11, h12, h13, h14, h15⟩ := hagree c
      exact ⟨(h c).1.trans ((congr16 Cert.MlpRefIdeal.Value.G16 h0 h1 h2 h3 h4 h5 h6 h7 h8 h9 h10 h11 h12 h13 h14 h15).trans (agree17 m c).symm),
        (h c).2.1.trans ((congr16 Cert.MlpRefIdeal.Value.G17 h0 h1 h2 h3 h4 h5 h6 h7 h8 h9 h10 h11 h12 h13 h14 h15).trans (agree18 m c).symm),
        (h c).2.2.1.trans ((congr16 Cert.MlpRefIdeal.Value.G18 h0 h1 h2 h3 h4 h5 h6 h7 h8 h9 h10 h11 h12 h13 h14 h15).trans (agree19 m c).symm),
        (h c).2.2.2.1.trans ((congr16 Cert.MlpRefIdeal.Value.G19 h0 h1 h2 h3 h4 h5 h6 h7 h8 h9 h10 h11 h12 h13 h14 h15).trans (agree20 m c).symm),
        (h c).2.2.2.2.1.trans ((congr16 Cert.MlpRefIdeal.Value.G20 h0 h1 h2 h3 h4 h5 h6 h7 h8 h9 h10 h11 h12 h13 h14 h15).trans (agree21 m c).symm),
        (h c).2.2.2.2.2⟩) (Cert.MlpRefIdeal.Value.run m' g')⟩

theorem congr7 {A0 A1 A2 A3 A4 A5 A6 B : Type} (f : A0 → A1 → A2 → A3 → A4 → A5 → A6 → B) {a0 b0 : A0} {a1 b1 : A1} {a2 b2 : A2} {a3 b3 : A3} {a4 b4 : A4}
    {a5 b5 : A5} {a6 b6 : A6} (h0 : a0 = b0) (h1 : a1 = b1) (h2 : a2 = b2) (h3 : a3 = b3) (h4 : a4 = b4) (h5 : a5 = b5) (h6 : a6 = b6) :
    f a0 a1 a2 a3 a4 a5 a6 = f b0 b1 b2 b3 b4 b5 b6 := by
  subst h0 h1 h2 h3 h4 h5 h6
  rfl

theorem algebraic_qkv : letI := Cert.QkvIdeal.Gen.facts; letI := Cert.QkvRefIdeal.Gen.facts; Cert.algebraic_QkvIdeal_QkvRefIdeal :=
  fun m g m' g' _ hagree => ⟨Cert.QkvIdeal.Hand.F7 m, Cert.QkvIdeal.Hand.F8 m, Cert.QkvIdeal.Hand.F9 m, Cert.QkvIdeal.Hand.F10 m, Cert.QkvIdeal.Hand.F11 m,
    Cert.QkvIdeal.Hand.run m g,
    (θ_run Cert.QkvRefIdeal.defs _ _).mono (fun r h c => by
      obtain ⟨h0, h1, h2, h3, h4, h5, h6⟩ := hagree c
      exact ⟨(h c).1.trans (congr7 (Cert.QkvRefIdeal.Value.G7 (F := Ideal)) h0 h1 h2 h3 h4 h5 h6),
        (h c).2.1.trans (congr7 (Cert.QkvRefIdeal.Value.G8 (F := Ideal)) h0 h1 h2 h3 h4 h5 h6),
        (h c).2.2.1.trans (congr7 (Cert.QkvRefIdeal.Value.G9 (F := Ideal)) h0 h1 h2 h3 h4 h5 h6),
        (h c).2.2.2.1.trans (congr7 (Cert.QkvRefIdeal.Value.G10 (F := Ideal)) h0 h1 h2 h3 h4 h5 h6),
        (h c).2.2.2.2.1.trans (congr7 (Cert.QkvRefIdeal.Value.G11 (F := Ideal)) h0 h1 h2 h3 h4 h5 h6),
        (h c).2.2.2.2.2⟩) (Cert.QkvRefIdeal.Value.run m' g')⟩

theorem congr6 {A0 A1 A2 A3 A4 A5 B : Type} (f : A0 → A1 → A2 → A3 → A4 → A5 → B) {a0 b0 : A0} {a1 b1 : A1} {a2 b2 : A2} {a3 b3 : A3} {a4 b4 : A4}
    {a5 b5 : A5} (h0 : a0 = b0) (h1 : a1 = b1) (h2 : a2 = b2) (h3 : a3 = b3) (h4 : a4 = b4) (h5 : a5 = b5) :
    f a0 a1 a2 a3 a4 a5 = f b0 b1 b2 b3 b4 b5 := by
  subst h0 h1 h2 h3 h4 h5
  rfl

theorem algebraic_merge : letI := Cert.MergeIdeal.Gen.facts; letI := Cert.MergeRefIdeal.Gen.facts; letI := Cert.Pre_rows_exist.Gen.facts;
    Cert.algebraic_MergeIdeal_MergeRefIdeal_pre_rows_exist :=
  fun m g m' g' hpre hagree => ⟨Cert.MergeIdeal.Hand.F6 m,
    letI := Cert.Pre_rows_exist.Gen.facts
    Cert.MergeIdeal.Hand.run m g fun c => Cert.MergeIdeal.Hand.names_of_pre _ _ _ _ _ _ (hpre c),
    (θ_run Cert.MergeRefIdeal.defs _ _).mono (fun r h c => by
      obtain ⟨h0, h1, h2, h3, h4, h5⟩ := hagree c
      exact ⟨(h c).1.trans (congr6 (fun x a v w s b => Cert.MergeRefIdeal.Hand.picked (Cert.MergeRefIdeal.Gen.k0_pay1 (F := Ideal) x a w s b) v) h0 h1 h2 h3 h4 h5),
        (h c).2⟩) (Cert.MergeRefIdeal.Hand.run m' g')⟩

theorem claim : Cert.Claim := ⟨Cert.Mlp.Gen.facts, Cert.MlpIdeal.Gen.facts, Cert.MlpRefIdeal.Gen.facts,
  Cert.Qkv.Gen.facts, Cert.QkvIdeal.Gen.facts, Cert.QkvRefIdeal.Gen.facts,
  Cert.Merge.Gen.facts, Cert.MergeIdeal.Gen.facts, Cert.MergeRefIdeal.Gen.facts, Cert.Pre_rows_exist.Gen.facts,
  fun m ρ _ => Cert.Mlp.Hand.frame m ρ, fun m ρ _ => Cert.MlpIdeal.Hand.frame m ρ, fun m ρ _ => Cert.MlpRefIdeal.Gen.frame m ρ,
  fun m ρ _ => Cert.Qkv.Gen.frame m ρ, fun m ρ _ => Cert.QkvIdeal.Gen.frame m ρ, fun m ρ _ => Cert.QkvRefIdeal.Gen.frame m ρ,
  fun m ρ _ => Cert.Merge.Gen.frame m ρ, fun m ρ _ => Cert.MergeIdeal.Gen.frame m ρ, fun m ρ _ => Cert.MergeIdeal.Gen.frame m ρ,
  fun m ρ _ => Cert.MergeRefIdeal.Gen.frame m ρ, fun m ρ _ => Cert.MergeRefIdeal.Gen.frame m ρ,
  trivial, algebraic_mlp, trivial, algebraic_qkv, trivial, algebraic_merge⟩

end Cert.Proof

end
